-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨4, ![4, 1024, 2, 128]⟩ ⟨4, ![4, 16384, 2, 128]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨4, ![4, 1024, 2, 128]⟩ ⟨4, ![4, 16384, 2, 128]⟩ 1 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S4x256x1024 : Shape := ⟨3, ![4, 256, 1024]⟩
abbrev S1024x1024 : Shape := ⟨2, ![1024, 1024]⟩
abbrev S4x1024x2x128 : Shape := ⟨4, ![4, 1024, 2, 128]⟩
abbrev S_ : Shape := ⟨0, ![]⟩

class Facts : Prop where
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x1024x2x128 : S_.BroadcastsInDim S4x1024x2x128 (![] : Fin 0 → Fin S4x1024x2x128.rank)
  reducesTo_S4x1024x2x128_S_d0_1_2_3 : S4x1024x2x128.ReducesTo [0, 1, 2, 3] S_

variable [Facts]

def fn {F : FTy → Type} [FloatOps F] (main_arg0 : FVec F S4x256x1024 .f32) (main_arg1 : FVec F S1024x1024 .f32) (main_arg2 : FVec F S1024x1024 .f32) (main_arg3 : FVec F S4x1024x2x128 .f32) (main_arg4 : FVec F S4x1024x2x128 .f32) : IVec S_ 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_c : IVec S_ 1 := constantI S_ 1 1#1
  let main_v3 : IVec S_ 1 := (fun x v => Host.reduce IntOp.andi x v reducesTo_S4x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4x1024x2x128 .f32 := Host.absf main_arg3
  let main_cst_2 : FVec F S_ .f32 := constant S_ .f32 0x7F800000#32
  let main_v10 : FVec F S4x1024x2x128 .f32 := broadcastInDim S4x1024x2x128 ![] bcast_S_S4x1024x2x128 main_cst_2
  let main_v11 : IVec S4x1024x2x128 1 := cmpf .olt main_v9 main_v10
  let main_c_3 : IVec S_ 1 := constantI S_ 1 1#1
  let main_v12 : IVec S_ 1 := (fun x v => Host.reduce IntOp.andi x v reducesTo_S4x1024x2x128_S_d0_1_2_3 h_S_) main_v11 main_c_3
  let main_v13 : IVec S_ 1 := andi main_v8 main_v12
  main_v13
-- ==== Pre_finite_ReferenceIdeal.lean ====
abbrev S4x256x1024 : Shape := ⟨3, ![4, 256, 1024]⟩
abbrev S1024x1024 : Shape := ⟨2, ![1024, 1024]⟩
abbrev S4x16384x2x128 : Shape := ⟨4, ![4, 16384, 2, 128]⟩
abbrev S_ : Shape := ⟨0, ![]⟩

class Facts : Prop where
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x16384x2x128 : S_.BroadcastsInDim S4x16384x2x128 (![] : Fin 0 → Fin S4x16384x2x128.rank)
  reducesTo_S4x16384x2x128_S_d0_1_2_3 : S4x16384x2x128.ReducesTo [0, 1, 2, 3] S_

variable [Facts]

def fn {F : FTy → Type} [FloatOps F] (main_arg0 : FVec F S4x256x1024 .f32) (main_arg1 : FVec F S1024x1024 .f32) (main_arg2 : FVec F S1024x1024 .f32) (main_arg3 : FVec F S4x16384x2x128 .f32) (main_arg4 : FVec F S4x16384x2x128 .f32) : IVec S_ 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_c : IVec S_ 1 := constantI S_ 1 1#1
  let main_v3 : IVec S_ 1 := (fun x v => Host.reduce IntOp.andi x v reducesTo_S4x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4x16384x2x128 .f32 := Host.absf main_arg3
  let main_cst_2 : FVec F S_ .f32 := constant S_ .f32 0x7F800000#32
  let main_v10 : FVec F S4x16384x2x128 .f32 := broadcastInDim S4x16384x2x128 ![] bcast_S_S4x16384x2x128 main_cst_2
  let main_v11 : IVec S4x16384x2x128 1 := cmpf .olt main_v9 main_v10
  let main_c_3 : IVec S_ 1 := constantI S_ 1 1#1
  let main_v12 : IVec S_ 1 := (fun x v => Host.reduce IntOp.andi x v reducesTo_S4x16384x2x128_S_d0_1_2_3 h_S_) main_v11 main_c_3
  let main_v13 : IVec S_ 1 := andi main_v8 main_v12
  main_v13
-- ==== Kernel.lean ====
abbrev S4x256x1024 : Shape := ⟨3, ![4, 256, 1024]⟩
abbrev S1024x1024 : Shape := ⟨2, ![1024, 1024]⟩
abbrev S4x1024x2x128 : Shape := ⟨4, ![4, 1024, 2, 128]⟩
abbrev S1024x1152 : Shape := ⟨2, ![1024, 1152]⟩
abbrev S8x64x1152 : Shape := ⟨3, ![8, 64, 1152]⟩
abbrev S7x64x1152 : Shape := ⟨3, ![7, 64, 1152]⟩
abbrev S64x1024 : Shape := ⟨2, ![64, 1024]⟩
abbrev S32 : Shape := ⟨1, ![32]⟩
abbrev S28 : Shape := ⟨1, ![28]⟩
abbrev S16 : Shape := ⟨1, ![16]⟩
abbrev S14 : Shape := ⟨1, ![14]⟩
abbrev S_ : Shape := ⟨0, ![]⟩
abbrev S1x256x1024 : Shape := ⟨3, ![1, 256, 1024]⟩
abbrev S256x1024 : Shape := ⟨2, ![256, 1024]⟩
abbrev S1x1024x1x128 : Shape := ⟨4, ![1, 1024, 1, 128]⟩
abbrev S1024x128 : Shape := ⟨2, ![1024, 128]⟩
abbrev S256x128 : Shape := ⟨2, ![256, 128]⟩
abbrev S256 : Shape := ⟨1, ![256]⟩
abbrev S256x1 : Shape := ⟨2, ![256, 1]⟩
abbrev S256x1152 : Shape := ⟨2, ![256, 1152]⟩
abbrev S1 : Shape := ⟨1, ![1]⟩
abbrev S1x16x1152 : Shape := ⟨3, ![1, 16, 1152]⟩
abbrev S16x1152 : Shape := ⟨2, ![16, 1152]⟩
abbrev S64x128 : Shape := ⟨2, ![64, 128]⟩
abbrev S64x1 : Shape := ⟨2, ![64, 1]⟩
abbrev S32x1024 : Shape := ⟨2, ![32, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S1024x1024, .f32⟩
  | .hbm, ⟨3, _⟩ => ⟨S4x1024x2x128, .f32⟩
  | .hbm, ⟨4, _⟩ => ⟨S4x1024x2x128, .f32⟩
  | .hbm, ⟨5, _⟩ => ⟨S1024x1024, .f32⟩
  | .local _ .vmem, ⟨0, _⟩ => ⟨S4x256x1024, .f32⟩
  | .local _ .vmem, ⟨1, _⟩ => ⟨S1024x1024, .f32⟩
  | .local _ .vmem, ⟨2, _⟩ => ⟨S1024x1024, .f32⟩
  | .local _ .vmem, ⟨3, _⟩ => ⟨S4x1024x2x128, .f32⟩
  | .local _ .vmem, ⟨4, _⟩ => ⟨S4x1024x2x128, .f32⟩
  | .local _ .vmem, ⟨5, _⟩ => ⟨S1024x1024, .f32⟩
  | .local _ .vmem, ⟨6, _⟩ => ⟨S1024x1152, .f32⟩
  | .local _ .vmem, ⟨7, _⟩ => ⟨S1024x1152, .bf16⟩
  | .local _ .vmem, ⟨8, _⟩ => ⟨S8x64x1152, .bf16⟩
  | .local _ .vmem, ⟨9, _⟩ => ⟨S7x64x1152, .bf16⟩
  | .local _ .vmem, ⟨10, _⟩ => ⟨S64x1024, .f32⟩
  | .local _ .vmem, ⟨11, _⟩ => ⟨S1024x1024, .bf16⟩
  | _, _ => ⟨S4x256x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 186 → Bool
  | ⟨i, _⟩ => dmaSemScopedAt i

abbrev sig : RefSig :=
  (ofTc nBuf bufTy 1 186 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_79 : BitVec 32 := 1#32
  let v94 : BitVec 32 := Scalar.muli v92 c1_i32_79
  let v95 : BitVec 32 := Scalar.addi c0_i32_80 v94
  v95.toNat
def k0_dev2 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_82 : BitVec 32 := 1#32
  let v96 : BitVec 32 := Scalar.muli v62 c1_i32_82
  let v97 : BitVec 32 := Scalar.addi c0_i32_83 v96
  v97.toNat
def k0_off1 (d0 : Dev nD) (c2_i32_86 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let v99 : BitVec 32 := Scalar.addi v98 c2_i32_86
  let c4_i32_87 : BitVec 32 := 4#32
  let v100 : BitVec 32 := Scalar.remsi v99 c4_i32_87
  let v101 : Index := Scalar.indexCast v100
  let c0 : Index := 0#32
  let c0_88 : Index := 0#32
  ![v101.toNat, 0, 0]
def k0_off2 (d0 : Dev nD) (c2_i32_86 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let v99 : BitVec 32 := Scalar.addi v98 c2_i32_86
  let c4_i32_87 : BitVec 32 := 4#32
  let v100 : BitVec 32 := Scalar.remsi v99 c4_i32_87
  let v107 : Index := Scalar.indexCast v100
  let c0_91 : Index := 0#32
  let c0_92 : Index := 0#32
  let c0_93 : Index := 0#32
  ![v107.toNat, 0, 0, 0]
def k0_off3 (d0 : Dev nD) (c2_i32_86 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let v99 : BitVec 32 := Scalar.addi v98 c2_i32_86
  let c4_i32_87 : BitVec 32 := 4#32
  let v100 : BitVec 32 := Scalar.remsi v99 c4_i32_87
  let c256_i32 : BitVec 32 := 256#32
  let v121 : BitVec 32 := Scalar.muli v100 c256_i32
  let v122 : Index := Scalar.indexCast v121
  let c0_101 : Index := 0#32
  ![v122.toNat, 0]
def k0_off4 (d0 : Dev nD) (c2_i32_86 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let v99 : BitVec 32 := Scalar.addi v98 c2_i32_86
  let c4_i32_87 : BitVec 32 := 4#32
  let v100 : BitVec 32 := Scalar.remsi v99 c4_i32_87
  let c256_i32_102 : BitVec 32 := 256#32
  let v126 : BitVec 32 := Scalar.muli v100 c256_i32_102
  let v127 : Index := Scalar.indexCast v126
  let c1024 : Index := 1024#32
  ![v127.toNat, 1024]
def k0_off5 (d0 : Dev nD) (c2_i32_86 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let v99 : BitVec 32 := Scalar.addi v98 c2_i32_86
  let c4_i32_87 : BitVec 32 := 4#32
  let v100 : BitVec 32 := Scalar.remsi v99 c4_i32_87
  let c256_i32_107 : BitVec 32 := 256#32
  let v139 : BitVec 32 := Scalar.muli v100 c256_i32_107
  let v140 : Index := Scalar.indexCast v139
  let c128 : Index := 128#32
  ![v140.toNat, 128]
def k0_off6 (d0 : Dev nD) (c2_i32_86 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let v99 : BitVec 32 := Scalar.addi v98 c2_i32_86
  let c4_i32_87 : BitVec 32 := 4#32
  let v100 : BitVec 32 := Scalar.remsi v99 c4_i32_87
  let c256_i32_108 : BitVec 32 := 256#32
  let v144 : BitVec 32 := Scalar.muli v100 c256_i32_108
  let v145 : Index := Scalar.indexCast v144
  let c1025 : Index := 1025#32
  ![v145.toNat, 1025]
def k0_off7 (d0 : Dev nD) (c2_i32_86 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let v99 : BitVec 32 := Scalar.addi v98 c2_i32_86
  let c4_i32_87 : BitVec 32 := 4#32
  let v100 : BitVec 32 := Scalar.remsi v99 c4_i32_87
  let c256_i32_113 : BitVec 32 := 256#32
  let v157 : BitVec 32 := Scalar.muli v100 c256_i32_113
  let v158 : Index := Scalar.indexCast v157
  let c256 : Index := 256#32
  ![v158.toNat, 256]
def k0_off8 (d0 : Dev nD) (c2_i32_86 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let v99 : BitVec 32 := Scalar.addi v98 c2_i32_86
  let c4_i32_87 : BitVec 32 := 4#32
  let v100 : BitVec 32 := Scalar.remsi v99 c4_i32_87
  let c256_i32_114 : BitVec 32 := 256#32
  let v162 : BitVec 32 := Scalar.muli v100 c256_i32_114
  let v163 : Index := Scalar.indexCast v162
  let c1026 : Index := 1026#32
  ![v163.toNat, 1026]
def k0_off9 (d0 : Dev nD) (c2_i32_86 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let v99 : BitVec 32 := Scalar.addi v98 c2_i32_86
  let c4_i32_87 : BitVec 32 := 4#32
  let v100 : BitVec 32 := Scalar.remsi v99 c4_i32_87
  let c256_i32_119 : BitVec 32 := 256#32
  let v175 : BitVec 32 := Scalar.muli v100 c256_i32_119
  let v176 : Index := Scalar.indexCast v175
  let c384 : Index := 384#32
  ![v176.toNat, 384]
def k0_off10 (d0 : Dev nD) (c2_i32_86 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let v99 : BitVec 32 := Scalar.addi v98 c2_i32_86
  let c4_i32_87 : BitVec 32 := 4#32
  let v100 : BitVec 32 := Scalar.remsi v99 c4_i32_87
  let c256_i32_120 : BitVec 32 := 256#32
  let v180 : BitVec 32 := Scalar.muli v100 c256_i32_120
  let v181 : Index := Scalar.indexCast v180
  let c1027 : Index := 1027#32
  ![v181.toNat, 1027]
def k0_off11 (d0 : Dev nD) (c2_i32_86 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let v99 : BitVec 32 := Scalar.addi v98 c2_i32_86
  let c4_i32_87 : BitVec 32 := 4#32
  let v100 : BitVec 32 := Scalar.remsi v99 c4_i32_87
  let v185 : Index := Scalar.indexCast v100
  let c0_121 : Index := 0#32
  let c1 : Index := 1#32
  let c0_122 : Index := 0#32
  ![v185.toNat, 0, 1, 0]
def k0_off12 (d0 : Dev nD) (c2_i32_86 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let v99 : BitVec 32 := Scalar.addi v98 c2_i32_86
  let c4_i32_87 : BitVec 32 := 4#32
  let v100 : BitVec 32 := Scalar.remsi v99 c4_i32_87
  let c256_i32_130 : BitVec 32 := 256#32
  let v199 : BitVec 32 := Scalar.muli v100 c256_i32_130
  let v200 : Index := Scalar.indexCast v199
  let c512 : Index := 512#32
  ![v200.toNat, 512]
def k0_off13 (d0 : Dev nD) (c2_i32_86 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let v99 : BitVec 32 := Scalar.addi v98 c2_i32_86
  let c4_i32_87 : BitVec 32 := 4#32
  let v100 : BitVec 32 := Scalar.remsi v99 c4_i32_87
  let c256_i32_131 : BitVec 32 := 256#32
  let v204 : BitVec 32 := Scalar.muli v100 c256_i32_131
  let v205 : Index := Scalar.indexCast v204
  let c1028 : Index := 1028#32
  ![v205.toNat, 1028]
def k0_off14 (d0 : Dev nD) (c2_i32_86 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let v99 : BitVec 32 := Scalar.addi v98 c2_i32_86
  let c4_i32_87 : BitVec 32 := 4#32
  let v100 : BitVec 32 := Scalar.remsi v99 c4_i32_87
  let c256_i32_136 : BitVec 32 := 256#32
  let v217 : BitVec 32 := Scalar.muli v100 c256_i32_136
  let v218 : Index := Scalar.indexCast v217
  let c640 : Index := 640#32
  ![v218.toNat, 640]
def k0_off15 (d0 : Dev nD) (c2_i32_86 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let v99 : BitVec 32 := Scalar.addi v98 c2_i32_86
  let c4_i32_87 : BitVec 32 := 4#32
  let v100 : BitVec 32 := Scalar.remsi v99 c4_i32_87
  let c256_i32_137 : BitVec 32 := 256#32
  let v222 : BitVec 32 := Scalar.muli v100 c256_i32_137
  let v223 : Index := Scalar.indexCast v222
  let c1029 : Index := 1029#32
  ![v223.toNat, 1029]
def k0_off16 (d0 : Dev nD) (c2_i32_86 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let v99 : BitVec 32 := Scalar.addi v98 c2_i32_86
  let c4_i32_87 : BitVec 32 := 4#32
  let v100 : BitVec 32 := Scalar.remsi v99 c4_i32_87
  let c256_i32_142 : BitVec 32 := 256#32
  let v235 : BitVec 32 := Scalar.muli v100 c256_i32_142
  let v236 : Index := Scalar.indexCast v235
  let c768 : Index := 768#32
  ![v236.toNat, 768]
def k0_off17 (d0 : Dev nD) (c2_i32_86 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let v99 : BitVec 32 := Scalar.addi v98 c2_i32_86
  let c4_i32_87 : BitVec 32 := 4#32
  let v100 : BitVec 32 := Scalar.remsi v99 c4_i32_87
  let c256_i32_143 : BitVec 32 := 256#32
  let v240 : BitVec 32 := Scalar.muli v100 c256_i32_143
  let v241 : Index := Scalar.indexCast v240
  let c1030 : Index := 1030#32
  ![v241.toNat, 1030]
def k0_off18 (d0 : Dev nD) (c2_i32_86 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let v99 : BitVec 32 := Scalar.addi v98 c2_i32_86
  let c4_i32_87 : BitVec 32 := 4#32
  let v100 : BitVec 32 := Scalar.remsi v99 c4_i32_87
  let c256_i32_148 : BitVec 32 := 256#32
  let v253 : BitVec 32 := Scalar.muli v100 c256_i32_148
  let v254 : Index := Scalar.indexCast v253
  let c896 : Index := 896#32
  ![v254.toNat, 896]
def k0_off19 (d0 : Dev nD) (c2_i32_86 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let v99 : BitVec 32 := Scalar.addi v98 c2_i32_86
  let c4_i32_87 : BitVec 32 := 4#32
  let v100 : BitVec 32 := Scalar.remsi v99 c4_i32_87
  let c256_i32_149 : BitVec 32 := 256#32
  let v258 : BitVec 32 := Scalar.muli v100 c256_i32_149
  let v259 : Index := Scalar.indexCast v258
  let c1031 : Index := 1031#32
  ![v259.toNat, 1031]
def k0_off20 (d0 : Dev nD) (c2_i32_86 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let v99 : BitVec 32 := Scalar.addi v98 c2_i32_86
  let c4_i32_87 : BitVec 32 := 4#32
  let v100 : BitVec 32 := Scalar.remsi v99 c4_i32_87
  let c256_i32_150 : BitVec 32 := 256#32
  let v263 : BitVec 32 := Scalar.muli v100 c256_i32_150
  let v264 : Index := Scalar.indexCast v263
  let c0_151 : Index := 0#32
  ![v264.toNat, 0]
def k0_off21 (d0 : Dev nD) (c0_i32_242 : BitVec 32) (c0_i32_245 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c7_i32_241 : BitVec 32 := 7#32
  let v445 : BitVec 32 := Scalar.subi v32 c7_i32_241
  let v446 : BitVec 32 := Scalar.addi v445 c0_i32_242
  let c16_i32_243 : BitVec 32 := 16#32
  let v447 : BitVec 32 := Scalar.addi v446 c16_i32_243
  let c16_i32_244 : BitVec 32 := 16#32
  let v448 : BitVec 32 := Scalar.remsi v447 c16_i32_244
  let c64_i32 : BitVec 32 := 64#32
  let v449 : BitVec 32 := Scalar.muli v448 c64_i32
  let v450 : BitVec 32 := Scalar.addi v449 c0_i32_245
  let c0_i32_253 : BitVec 32 := 0#32
  ![v450.toNat, 0]
def k0_dev3 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_249 : BitVec 32 := 1#32
  let v451 : BitVec 32 := Scalar.muli v92 c1_i32_249
  let v452 : BitVec 32 := Scalar.addi c0_i32_250 v451
  v452.toNat
def k0_off22 (d0 : Dev nD) (c0_i32_255 : BitVec 32) (c0_i32_258 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c8_i32_254 : BitVec 32 := 8#32
  let v460 : BitVec 32 := Scalar.addi v32 c8_i32_254
  let v461 : BitVec 32 := Scalar.subi v460 c0_i32_255
  let c16_i32_256 : BitVec 32 := 16#32
  let v462 : BitVec 32 := Scalar.remsi v461 c16_i32_256
  let c64_i32_257 : BitVec 32 := 64#32
  let v463 : BitVec 32 := Scalar.muli v462 c64_i32_257
  let v464 : BitVec 32 := Scalar.addi v463 c0_i32_258
  let c0_i32_266 : BitVec 32 := 0#32
  ![v464.toNat, 0]
def k0_dev4 (d0 : Dev nD) : Nat :=
  let c0_i32_263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_262 : BitVec 32 := 1#32
  let v465 : BitVec 32 := Scalar.muli v62 c1_i32_262
  let v466 : BitVec 32 := Scalar.addi c0_i32_263 v465
  v466.toNat
def k0_dev5 (d0 : Dev nD) : Nat :=
  let c0_i32_277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_276 : BitVec 32 := 1#32
  let v480 : BitVec 32 := Scalar.muli v92 c1_i32_276
  let v481 : BitVec 32 := Scalar.addi c0_i32_277 v480
  v481.toNat
def k0_dev6 (d0 : Dev nD) : Nat :=
  let c0_i32_290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_289 : BitVec 32 := 1#32
  let v494 : BitVec 32 := Scalar.muli v62 c1_i32_289
  let v495 : BitVec 32 := Scalar.addi c0_i32_290 v494
  v495.toNat
def k0_dev7 (d0 : Dev nD) : Nat :=
  let c0_i32_303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_302 : BitVec 32 := 1#32
  let v509 : BitVec 32 := Scalar.muli v92 c1_i32_302
  let v510 : BitVec 32 := Scalar.addi c0_i32_303 v509
  v510.toNat
def k0_dev8 (d0 : Dev nD) : Nat :=
  let c0_i32_316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_315 : BitVec 32 := 1#32
  let v523 : BitVec 32 := Scalar.muli v62 c1_i32_315
  let v524 : BitVec 32 := Scalar.addi c0_i32_316 v523
  v524.toNat
def k0_dev9 (d0 : Dev nD) : Nat :=
  let c0_i32_329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_328 : BitVec 32 := 1#32
  let v538 : BitVec 32 := Scalar.muli v92 c1_i32_328
  let v539 : BitVec 32 := Scalar.addi c0_i32_329 v538
  v539.toNat
def k0_dev10 (d0 : Dev nD) : Nat :=
  let c0_i32_342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_341 : BitVec 32 := 1#32
  let v552 : BitVec 32 := Scalar.muli v62 c1_i32_341
  let v553 : BitVec 32 := Scalar.addi c0_i32_342 v552
  v553.toNat
def k0_off23 (d0 : Dev nD) (c0_i32_449 : BitVec 32) (c0_i32_453 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c6_i32_448 : BitVec 32 := 6#32
  let v746 : BitVec 32 := Scalar.subi v32 c6_i32_448
  let v747 : BitVec 32 := Scalar.addi v746 c0_i32_449
  let c16_i32_450 : BitVec 32 := 16#32
  let v748 : BitVec 32 := Scalar.addi v747 c16_i32_450
  let c16_i32_451 : BitVec 32 := 16#32
  let v749 : BitVec 32 := Scalar.remsi v748 c16_i32_451
  let c64_i32_452 : BitVec 32 := 64#32
  let v750 : BitVec 32 := Scalar.muli v749 c64_i32_452
  let v751 : BitVec 32 := Scalar.addi v750 c0_i32_453
  let v752 : Index := Scalar.indexCast v751
  let c0_454 : Index := 0#32
  ![v752.toNat, 0]
def k0_dev11 (d0 : Dev nD) : Nat :=
  let c0_i32_469 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_468 : BitVec 32 := 1#32
  let v767 : BitVec 32 := Scalar.muli v92 c1_i32_468
  let v768 : BitVec 32 := Scalar.addi c0_i32_469 v767
  v768.toNat
def k0_off24 (d0 : Dev nD) (c0_i32_489 : BitVec 32) (c0_i32_492 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c7_i32_488 : BitVec 32 := 7#32
  let v788 : BitVec 32 := Scalar.addi v32 c7_i32_488
  let v789 : BitVec 32 := Scalar.subi v788 c0_i32_489
  let c16_i32_490 : BitVec 32 := 16#32
  let v790 : BitVec 32 := Scalar.remsi v789 c16_i32_490
  let c64_i32_491 : BitVec 32 := 64#32
  let v791 : BitVec 32 := Scalar.muli v790 c64_i32_491
  let v792 : BitVec 32 := Scalar.addi v791 c0_i32_492
  let v793 : Index := Scalar.indexCast v792
  let c0_493 : Index := 0#32
  ![v793.toNat, 0]
def k0_dev12 (d0 : Dev nD) : Nat :=
  let c0_i32_507 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_506 : BitVec 32 := 1#32
  let v807 : BitVec 32 := Scalar.muli v62 c1_i32_506
  let v808 : BitVec 32 := Scalar.addi c0_i32_507 v807
  v808.toNat
def k0_dev13 (d0 : Dev nD) : Nat :=
  let c0_i32_546 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_545 : BitVec 32 := 1#32
  let v849 : BitVec 32 := Scalar.muli v92 c1_i32_545
  let v850 : BitVec 32 := Scalar.addi c0_i32_546 v849
  v850.toNat
def k0_dev14 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_583 : BitVec 32 := 1#32
  let v889 : BitVec 32 := Scalar.muli v62 c1_i32_583
  let v890 : BitVec 32 := Scalar.addi c0_i32_584 v889
  v890.toNat
def k0_dev15 (d0 : Dev nD) : Nat :=
  let c0_i32_623 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_622 : BitVec 32 := 1#32
  let v931 : BitVec 32 := Scalar.muli v92 c1_i32_622
  let v932 : BitVec 32 := Scalar.addi c0_i32_623 v931
  v932.toNat
def k0_dev16 (d0 : Dev nD) : Nat :=
  let c0_i32_661 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_660 : BitVec 32 := 1#32
  let v971 : BitVec 32 := Scalar.muli v62 c1_i32_660
  let v972 : BitVec 32 := Scalar.addi c0_i32_661 v971
  v972.toNat
def k0_dev17 (d0 : Dev nD) : Nat :=
  let c0_i32_700 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_699 : BitVec 32 := 1#32
  let v1013 : BitVec 32 := Scalar.muli v92 c1_i32_699
  let v1014 : BitVec 32 := Scalar.addi c0_i32_700 v1013
  v1014.toNat
def k0_dev18 (d0 : Dev nD) : Nat :=
  let c0_i32_738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_737 : BitVec 32 := 1#32
  let v1053 : BitVec 32 := Scalar.muli v62 c1_i32_737
  let v1054 : BitVec 32 := Scalar.addi c0_i32_738 v1053
  v1054.toNat
def k0_off25 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let v1062 : Index := Scalar.indexCast v98
  let c0_742 : Index := 0#32
  let c0_743 : Index := 0#32
  ![v1062.toNat, 0, 0]
def k0_off26 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let v1068 : Index := Scalar.indexCast v98
  let c0_747 : Index := 0#32
  let c0_748 : Index := 0#32
  let c0_749 : Index := 0#32
  ![v1068.toNat, 0, 0, 0]
def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let c256_i32_757 : BitVec 32 := 256#32
  let v1082 : BitVec 32 := Scalar.muli v98 c256_i32_757
  let v1083 : Index := Scalar.indexCast v1082
  let c0_758 : Index := 0#32
  ![v1083.toNat, 0]
def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let c256_i32_759 : BitVec 32 := 256#32
  let v1087 : BitVec 32 := Scalar.muli v98 c256_i32_759
  let v1088 : Index := Scalar.indexCast v1087
  let c1024_760 : Index := 1024#32
  ![v1088.toNat, 1024]
def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let c256_i32_765 : BitVec 32 := 256#32
  let v1100 : BitVec 32 := Scalar.muli v98 c256_i32_765
  let v1101 : Index := Scalar.indexCast v1100
  let c128_766 : Index := 128#32
  ![v1101.toNat, 128]
def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let c256_i32_767 : BitVec 32 := 256#32
  let v1105 : BitVec 32 := Scalar.muli v98 c256_i32_767
  let v1106 : Index := Scalar.indexCast v1105
  let c1025_768 : Index := 1025#32
  ![v1106.toNat, 1025]
def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let c256_i32_773 : BitVec 32 := 256#32
  let v1118 : BitVec 32 := Scalar.muli v98 c256_i32_773
  let v1119 : Index := Scalar.indexCast v1118
  let c256_774 : Index := 256#32
  ![v1119.toNat, 256]
def k0_off32 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let c256_i32_775 : BitVec 32 := 256#32
  let v1123 : BitVec 32 := Scalar.muli v98 c256_i32_775
  let v1124 : Index := Scalar.indexCast v1123
  let c1026_776 : Index := 1026#32
  ![v1124.toNat, 1026]
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let c256_i32_781 : BitVec 32 := 256#32
  let v1136 : BitVec 32 := Scalar.muli v98 c256_i32_781
  let v1137 : Index := Scalar.indexCast v1136
  let c384_782 : Index := 384#32
  ![v1137.toNat, 384]
def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let c256_i32_783 : BitVec 32 := 256#32
  let v1141 : BitVec 32 := Scalar.muli v98 c256_i32_783
  let v1142 : Index := Scalar.indexCast v1141
  let c1027_784 : Index := 1027#32
  ![v1142.toNat, 1027]
def k0_off35 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let v1146 : Index := Scalar.indexCast v98
  let c0_785 : Index := 0#32
  let c1_786 : Index := 1#32
  let c0_787 : Index := 0#32
  ![v1146.toNat, 0, 1, 0]
def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let c256_i32_795 : BitVec 32 := 256#32
  let v1160 : BitVec 32 := Scalar.muli v98 c256_i32_795
  let v1161 : Index := Scalar.indexCast v1160
  let c512_796 : Index := 512#32
  ![v1161.toNat, 512]
def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let c256_i32_797 : BitVec 32 := 256#32
  let v1165 : BitVec 32 := Scalar.muli v98 c256_i32_797
  let v1166 : Index := Scalar.indexCast v1165
  let c1028_798 : Index := 1028#32
  ![v1166.toNat, 1028]
def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let c256_i32_803 : BitVec 32 := 256#32
  let v1178 : BitVec 32 := Scalar.muli v98 c256_i32_803
  let v1179 : Index := Scalar.indexCast v1178
  let c640_804 : Index := 640#32
  ![v1179.toNat, 640]
def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let c256_i32_805 : BitVec 32 := 256#32
  let v1183 : BitVec 32 := Scalar.muli v98 c256_i32_805
  let v1184 : Index := Scalar.indexCast v1183
  let c1029_806 : Index := 1029#32
  ![v1184.toNat, 1029]
def k0_off40 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let c256_i32_811 : BitVec 32 := 256#32
  let v1196 : BitVec 32 := Scalar.muli v98 c256_i32_811
  let v1197 : Index := Scalar.indexCast v1196
  let c768_812 : Index := 768#32
  ![v1197.toNat, 768]
def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let c256_i32_813 : BitVec 32 := 256#32
  let v1201 : BitVec 32 := Scalar.muli v98 c256_i32_813
  let v1202 : Index := Scalar.indexCast v1201
  let c1030_814 : Index := 1030#32
  ![v1202.toNat, 1030]
def k0_off42 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let c256_i32_819 : BitVec 32 := 256#32
  let v1214 : BitVec 32 := Scalar.muli v98 c256_i32_819
  let v1215 : Index := Scalar.indexCast v1214
  let c896_820 : Index := 896#32
  ![v1215.toNat, 896]
def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let c256_i32_821 : BitVec 32 := 256#32
  let v1219 : BitVec 32 := Scalar.muli v98 c256_i32_821
  let v1220 : Index := Scalar.indexCast v1219
  let c1031_822 : Index := 1031#32
  ![v1220.toNat, 1031]
def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c4_i32_85 : BitVec 32 := 4#32
  let v98 : BitVec 32 := Scalar.divsi v32 c4_i32_85
  let c256_i32_823 : BitVec 32 := 256#32
  let v1224 : BitVec 32 := Scalar.muli v98 c256_i32_823
  let v1225 : Index := Scalar.indexCast v1224
  let c0_824 : Index := 0#32
  ![v1225.toNat, 0]
def k0_dev19 (d0 : Dev nD) : Nat :=
  let c0_i32_863 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_862 : BitVec 32 := 1#32
  let v1266 : BitVec 32 := Scalar.muli v92 c1_i32_862
  let v1267 : BitVec 32 := Scalar.addi c0_i32_863 v1266
  v1267.toNat
def k0_dev20 (d0 : Dev nD) : Nat :=
  let c0_i32_901 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_900 : BitVec 32 := 1#32
  let v1306 : BitVec 32 := Scalar.muli v62 c1_i32_900
  let v1307 : BitVec 32 := Scalar.addi c0_i32_901 v1306
  v1307.toNat
def k0_dev21 (d0 : Dev nD) : Nat :=
  let c0_i32_941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_940 : BitVec 32 := 1#32
  let v1348 : BitVec 32 := Scalar.muli v92 c1_i32_940
  let v1349 : BitVec 32 := Scalar.addi c0_i32_941 v1348
  v1349.toNat
def k0_dev22 (d0 : Dev nD) : Nat :=
  let c0_i32_979 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_978 : BitVec 32 := 1#32
  let v1388 : BitVec 32 := Scalar.muli v62 c1_i32_978
  let v1389 : BitVec 32 := Scalar.addi c0_i32_979 v1388
  v1389.toNat
def k0_dev23 (d0 : Dev nD) : Nat :=
  let c0_i32_1019 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_1018 : BitVec 32 := 1#32
  let v1430 : BitVec 32 := Scalar.muli v92 c1_i32_1018
  let v1431 : BitVec 32 := Scalar.addi c0_i32_1019 v1430
  v1431.toNat
def k0_dev24 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_1056 : BitVec 32 := 1#32
  let v1470 : BitVec 32 := Scalar.muli v62 c1_i32_1056
  let v1471 : BitVec 32 := Scalar.addi c0_i32_1057 v1470
  v1471.toNat
def k0_dev25 (d0 : Dev nD) : Nat :=
  let c0_i32_1097 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_1096 : BitVec 32 := 1#32
  let v1512 : BitVec 32 := Scalar.muli v92 c1_i32_1096
  let v1513 : BitVec 32 := Scalar.addi c0_i32_1097 v1512
  v1513.toNat
def k0_dev26 (d0 : Dev nD) : Nat :=
  let c0_i32_1135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_1134 : BitVec 32 := 1#32
  let v1552 : BitVec 32 := Scalar.muli v62 c1_i32_1134
  let v1553 : BitVec 32 := Scalar.addi c0_i32_1135 v1552
  v1553.toNat
def k0_dev27 (d0 : Dev nD) : Nat :=
  let c0_i32_1174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_1173 : BitVec 32 := 1#32
  let v1594 : BitVec 32 := Scalar.muli v92 c1_i32_1173
  let v1595 : BitVec 32 := Scalar.addi c0_i32_1174 v1594
  v1595.toNat
def k0_dev28 (d0 : Dev nD) : Nat :=
  let c0_i32_1212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_1211 : BitVec 32 := 1#32
  let v1634 : BitVec 32 := Scalar.muli v62 c1_i32_1211
  let v1635 : BitVec 32 := Scalar.addi c0_i32_1212 v1634
  v1635.toNat
def k0_dev29 (d0 : Dev nD) : Nat :=
  let c0_i32_1252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_1251 : BitVec 32 := 1#32
  let v1676 : BitVec 32 := Scalar.muli v92 c1_i32_1251
  let v1677 : BitVec 32 := Scalar.addi c0_i32_1252 v1676
  v1677.toNat
def k0_dev30 (d0 : Dev nD) : Nat :=
  let c0_i32_1290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_1289 : BitVec 32 := 1#32
  let v1716 : BitVec 32 := Scalar.muli v62 c1_i32_1289
  let v1717 : BitVec 32 := Scalar.addi c0_i32_1290 v1716
  v1717.toNat
def k0_dev31 (d0 : Dev nD) : Nat :=
  let c0_i32_1330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_1329 : BitVec 32 := 1#32
  let v1758 : BitVec 32 := Scalar.muli v92 c1_i32_1329
  let v1759 : BitVec 32 := Scalar.addi c0_i32_1330 v1758
  v1759.toNat
def k0_dev32 (d0 : Dev nD) : Nat :=
  let c0_i32_1368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_1367 : BitVec 32 := 1#32
  let v1798 : BitVec 32 := Scalar.muli v62 c1_i32_1367
  let v1799 : BitVec 32 := Scalar.addi c0_i32_1368 v1798
  v1799.toNat
def k0_dev33 (d0 : Dev nD) : Nat :=
  let c0_i32_1408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_1407 : BitVec 32 := 1#32
  let v1840 : BitVec 32 := Scalar.muli v92 c1_i32_1407
  let v1841 : BitVec 32 := Scalar.addi c0_i32_1408 v1840
  v1841.toNat
def k0_dev34 (d0 : Dev nD) : Nat :=
  let c0_i32_1446 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_1445 : BitVec 32 := 1#32
  let v1880 : BitVec 32 := Scalar.muli v62 c1_i32_1445
  let v1881 : BitVec 32 := Scalar.addi c0_i32_1446 v1880
  v1881.toNat
def k0_dev35 (d0 : Dev nD) : Nat :=
  let c0_i32_1485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_1484 : BitVec 32 := 1#32
  let v1922 : BitVec 32 := Scalar.muli v92 c1_i32_1484
  let v1923 : BitVec 32 := Scalar.addi c0_i32_1485 v1922
  v1923.toNat
def k0_dev36 (d0 : Dev nD) : Nat :=
  let c0_i32_1523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_1522 : BitVec 32 := 1#32
  let v1962 : BitVec 32 := Scalar.muli v62 c1_i32_1522
  let v1963 : BitVec 32 := Scalar.addi c0_i32_1523 v1962
  v1963.toNat
def k0_dev37 (d0 : Dev nD) : Nat :=
  let c0_i32_1562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_1561 : BitVec 32 := 1#32
  let v2004 : BitVec 32 := Scalar.muli v92 c1_i32_1561
  let v2005 : BitVec 32 := Scalar.addi c0_i32_1562 v2004
  v2005.toNat
def k0_dev38 (d0 : Dev nD) : Nat :=
  let c0_i32_1600 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_1599 : BitVec 32 := 1#32
  let v2044 : BitVec 32 := Scalar.muli v62 c1_i32_1599
  let v2045 : BitVec 32 := Scalar.addi c0_i32_1600 v2044
  v2045.toNat
def k0_dev39 (d0 : Dev nD) : Nat :=
  let c0_i32_1639 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_1638 : BitVec 32 := 1#32
  let v2086 : BitVec 32 := Scalar.muli v92 c1_i32_1638
  let v2087 : BitVec 32 := Scalar.addi c0_i32_1639 v2086
  v2087.toNat
def k0_dev40 (d0 : Dev nD) : Nat :=
  let c0_i32_1677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_1676 : BitVec 32 := 1#32
  let v2126 : BitVec 32 := Scalar.muli v62 c1_i32_1676
  let v2127 : BitVec 32 := Scalar.addi c0_i32_1677 v2126
  v2127.toNat
def k0_dev41 (d0 : Dev nD) : Nat :=
  let c0_i32_1716 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_1715 : BitVec 32 := 1#32
  let v2168 : BitVec 32 := Scalar.muli v92 c1_i32_1715
  let v2169 : BitVec 32 := Scalar.addi c0_i32_1716 v2168
  v2169.toNat
def k0_dev42 (d0 : Dev nD) : Nat :=
  let c0_i32_1754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_1753 : BitVec 32 := 1#32
  let v2208 : BitVec 32 := Scalar.muli v62 c1_i32_1753
  let v2209 : BitVec 32 := Scalar.addi c0_i32_1754 v2208
  v2209.toNat
def k0_dev43 (d0 : Dev nD) : Nat :=
  let c0_i32_1792 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_1791 : BitVec 32 := 1#32
  let v2250 : BitVec 32 := Scalar.muli v92 c1_i32_1791
  let v2251 : BitVec 32 := Scalar.addi c0_i32_1792 v2250
  v2251.toNat
def k0_dev44 (d0 : Dev nD) : Nat :=
  let c0_i32_1830 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_1829 : BitVec 32 := 1#32
  let v2290 : BitVec 32 := Scalar.muli v62 c1_i32_1829
  let v2291 : BitVec 32 := Scalar.addi c0_i32_1830 v2290
  v2291.toNat
def k0_dev45 (d0 : Dev nD) : Nat :=
  let c0_i32_1869 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_1868 : BitVec 32 := 1#32
  let v2332 : BitVec 32 := Scalar.muli v92 c1_i32_1868
  let v2333 : BitVec 32 := Scalar.addi c0_i32_1869 v2332
  v2333.toNat
def k0_dev46 (d0 : Dev nD) : Nat :=
  let c0_i32_1907 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_1906 : BitVec 32 := 1#32
  let v2372 : BitVec 32 := Scalar.muli v62 c1_i32_1906
  let v2373 : BitVec 32 := Scalar.addi c0_i32_1907 v2372
  v2373.toNat
def k0_dev47 (d0 : Dev nD) : Nat :=
  let c0_i32_1946 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_1945 : BitVec 32 := 1#32
  let v2414 : BitVec 32 := Scalar.muli v92 c1_i32_1945
  let v2415 : BitVec 32 := Scalar.addi c0_i32_1946 v2414
  v2415.toNat
def k0_dev48 (d0 : Dev nD) : Nat :=
  let c0_i32_1984 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_1983 : BitVec 32 := 1#32
  let v2454 : BitVec 32 := Scalar.muli v62 c1_i32_1983
  let v2455 : BitVec 32 := Scalar.addi c0_i32_1984 v2454
  v2455.toNat
def k0_dev49 (d0 : Dev nD) : Nat :=
  let c0_i32_2023 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_2022 : BitVec 32 := 1#32
  let v2496 : BitVec 32 := Scalar.muli v92 c1_i32_2022
  let v2497 : BitVec 32 := Scalar.addi c0_i32_2023 v2496
  v2497.toNat
def k0_dev50 (d0 : Dev nD) : Nat :=
  let c0_i32_2061 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_2060 : BitVec 32 := 1#32
  let v2536 : BitVec 32 := Scalar.muli v62 c1_i32_2060
  let v2537 : BitVec 32 := Scalar.addi c0_i32_2061 v2536
  v2537.toNat
def k0_dev51 (d0 : Dev nD) : Nat :=
  let c0_i32_2099 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_2098 : BitVec 32 := 1#32
  let v2578 : BitVec 32 := Scalar.muli v92 c1_i32_2098
  let v2579 : BitVec 32 := Scalar.addi c0_i32_2099 v2578
  v2579.toNat
def k0_dev52 (d0 : Dev nD) : Nat :=
  let c0_i32_2137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_2136 : BitVec 32 := 1#32
  let v2618 : BitVec 32 := Scalar.muli v62 c1_i32_2136
  let v2619 : BitVec 32 := Scalar.addi c0_i32_2137 v2618
  v2619.toNat
def k0_dev53 (d0 : Dev nD) : Nat :=
  let c0_i32_2176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_2175 : BitVec 32 := 1#32
  let v2660 : BitVec 32 := Scalar.muli v92 c1_i32_2175
  let v2661 : BitVec 32 := Scalar.addi c0_i32_2176 v2660
  v2661.toNat
def k0_dev54 (d0 : Dev nD) : Nat :=
  let c0_i32_2214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_2213 : BitVec 32 := 1#32
  let v2700 : BitVec 32 := Scalar.muli v62 c1_i32_2213
  let v2701 : BitVec 32 := Scalar.addi c0_i32_2214 v2700
  v2701.toNat
def k0_dev55 (d0 : Dev nD) : Nat :=
  let c0_i32_2253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_2252 : BitVec 32 := 1#32
  let v2742 : BitVec 32 := Scalar.muli v92 c1_i32_2252
  let v2743 : BitVec 32 := Scalar.addi c0_i32_2253 v2742
  v2743.toNat
def k0_dev56 (d0 : Dev nD) : Nat :=
  let c0_i32_2291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_2290 : BitVec 32 := 1#32
  let v2782 : BitVec 32 := Scalar.muli v62 c1_i32_2290
  let v2783 : BitVec 32 := Scalar.addi c0_i32_2291 v2782
  v2783.toNat
def k0_dev57 (d0 : Dev nD) : Nat :=
  let c0_i32_2330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_2329 : BitVec 32 := 1#32
  let v2824 : BitVec 32 := Scalar.muli v92 c1_i32_2329
  let v2825 : BitVec 32 := Scalar.addi c0_i32_2330 v2824
  v2825.toNat
def k0_dev58 (d0 : Dev nD) : Nat :=
  let c0_i32_2368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_2367 : BitVec 32 := 1#32
  let v2864 : BitVec 32 := Scalar.muli v62 c1_i32_2367
  let v2865 : BitVec 32 := Scalar.addi c0_i32_2368 v2864
  v2865.toNat
def k0_dev59 (d0 : Dev nD) : Nat :=
  let c0_i32_2406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_2405 : BitVec 32 := 1#32
  let v2906 : BitVec 32 := Scalar.muli v92 c1_i32_2405
  let v2907 : BitVec 32 := Scalar.addi c0_i32_2406 v2906
  v2907.toNat
def k0_dev60 (d0 : Dev nD) : Nat :=
  let c0_i32_2470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_2469 : BitVec 32 := 1#32
  let v2975 : BitVec 32 := Scalar.muli v92 c1_i32_2469
  let v2976 : BitVec 32 := Scalar.addi c0_i32_2470 v2975
  v2976.toNat
def k0_dev61 (d0 : Dev nD) : Nat :=
  let c0_i32_2534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_2533 : BitVec 32 := 1#32
  let v3044 : BitVec 32 := Scalar.muli v92 c1_i32_2533
  let v3045 : BitVec 32 := Scalar.addi c0_i32_2534 v3044
  v3045.toNat
def k0_dev62 (d0 : Dev nD) : Nat :=
  let c0_i32_2598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_2597 : BitVec 32 := 1#32
  let v3113 : BitVec 32 := Scalar.muli v92 c1_i32_2597
  let v3114 : BitVec 32 := Scalar.addi c0_i32_2598 v3113
  v3114.toNat
def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c1_i32_2730 : BitVec 32 := 1#32
  let v3261 : BitVec 32 := Scalar.addi v32 c1_i32_2730
  let c16_i32_2731 : BitVec 32 := 16#32
  let v3262 : BitVec 32 := Scalar.remsi v3261 c16_i32_2731
  let c64_i32_2732 : BitVec 32 := 64#32
  let v3263 : BitVec 32 := Scalar.muli v3262 c64_i32_2732
  let v3264 : Index := Scalar.indexCast v3263
  let c0_2733 : Index := 0#32
  ![v3264.toNat, 0]
def k0_off46 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c1_i32_2730 : BitVec 32 := 1#32
  let v3261 : BitVec 32 := Scalar.addi v32 c1_i32_2730
  let c16_i32_2731 : BitVec 32 := 16#32
  let v3262 : BitVec 32 := Scalar.remsi v3261 c16_i32_2731
  let c64_i32_2732 : BitVec 32 := 64#32
  let v3263 : BitVec 32 := Scalar.muli v3262 c64_i32_2732
  let v3266 : Index := Scalar.indexCast v3263
  let c1024_2734 : Index := 1024#32
  ![v3266.toNat, 1024]
def k0_off47 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c1_i32_2730 : BitVec 32 := 1#32
  let v3261 : BitVec 32 := Scalar.addi v32 c1_i32_2730
  let c16_i32_2731 : BitVec 32 := 16#32
  let v3262 : BitVec 32 := Scalar.remsi v3261 c16_i32_2731
  let c64_i32_2732 : BitVec 32 := 64#32
  let v3263 : BitVec 32 := Scalar.muli v3262 c64_i32_2732
  let v3273 : Index := Scalar.indexCast v3263
  let c128_2737 : Index := 128#32
  ![v3273.toNat, 128]
def k0_off48 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c1_i32_2730 : BitVec 32 := 1#32
  let v3261 : BitVec 32 := Scalar.addi v32 c1_i32_2730
  let c16_i32_2731 : BitVec 32 := 16#32
  let v3262 : BitVec 32 := Scalar.remsi v3261 c16_i32_2731
  let c64_i32_2732 : BitVec 32 := 64#32
  let v3263 : BitVec 32 := Scalar.muli v3262 c64_i32_2732
  let v3275 : Index := Scalar.indexCast v3263
  let c1025_2738 : Index := 1025#32
  ![v3275.toNat, 1025]
def k0_off49 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c1_i32_2730 : BitVec 32 := 1#32
  let v3261 : BitVec 32 := Scalar.addi v32 c1_i32_2730
  let c16_i32_2731 : BitVec 32 := 16#32
  let v3262 : BitVec 32 := Scalar.remsi v3261 c16_i32_2731
  let c64_i32_2732 : BitVec 32 := 64#32
  let v3263 : BitVec 32 := Scalar.muli v3262 c64_i32_2732
  let v3282 : Index := Scalar.indexCast v3263
  let c256_2741 : Index := 256#32
  ![v3282.toNat, 256]
def k0_off50 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c1_i32_2730 : BitVec 32 := 1#32
  let v3261 : BitVec 32 := Scalar.addi v32 c1_i32_2730
  let c16_i32_2731 : BitVec 32 := 16#32
  let v3262 : BitVec 32 := Scalar.remsi v3261 c16_i32_2731
  let c64_i32_2732 : BitVec 32 := 64#32
  let v3263 : BitVec 32 := Scalar.muli v3262 c64_i32_2732
  let v3284 : Index := Scalar.indexCast v3263
  let c1026_2742 : Index := 1026#32
  ![v3284.toNat, 1026]
def k0_off51 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c1_i32_2730 : BitVec 32 := 1#32
  let v3261 : BitVec 32 := Scalar.addi v32 c1_i32_2730
  let c16_i32_2731 : BitVec 32 := 16#32
  let v3262 : BitVec 32 := Scalar.remsi v3261 c16_i32_2731
  let c64_i32_2732 : BitVec 32 := 64#32
  let v3263 : BitVec 32 := Scalar.muli v3262 c64_i32_2732
  let v3291 : Index := Scalar.indexCast v3263
  let c384_2745 : Index := 384#32
  ![v3291.toNat, 384]
def k0_off52 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c1_i32_2730 : BitVec 32 := 1#32
  let v3261 : BitVec 32 := Scalar.addi v32 c1_i32_2730
  let c16_i32_2731 : BitVec 32 := 16#32
  let v3262 : BitVec 32 := Scalar.remsi v3261 c16_i32_2731
  let c64_i32_2732 : BitVec 32 := 64#32
  let v3263 : BitVec 32 := Scalar.muli v3262 c64_i32_2732
  let v3293 : Index := Scalar.indexCast v3263
  let c1027_2746 : Index := 1027#32
  ![v3293.toNat, 1027]
def k0_off53 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c1_i32_2730 : BitVec 32 := 1#32
  let v3261 : BitVec 32 := Scalar.addi v32 c1_i32_2730
  let c16_i32_2731 : BitVec 32 := 16#32
  let v3262 : BitVec 32 := Scalar.remsi v3261 c16_i32_2731
  let c64_i32_2732 : BitVec 32 := 64#32
  let v3263 : BitVec 32 := Scalar.muli v3262 c64_i32_2732
  let v3300 : Index := Scalar.indexCast v3263
  let c512_2749 : Index := 512#32
  ![v3300.toNat, 512]
def k0_off54 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c1_i32_2730 : BitVec 32 := 1#32
  let v3261 : BitVec 32 := Scalar.addi v32 c1_i32_2730
  let c16_i32_2731 : BitVec 32 := 16#32
  let v3262 : BitVec 32 := Scalar.remsi v3261 c16_i32_2731
  let c64_i32_2732 : BitVec 32 := 64#32
  let v3263 : BitVec 32 := Scalar.muli v3262 c64_i32_2732
  let v3302 : Index := Scalar.indexCast v3263
  let c1028_2750 : Index := 1028#32
  ![v3302.toNat, 1028]
def k0_off55 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c1_i32_2730 : BitVec 32 := 1#32
  let v3261 : BitVec 32 := Scalar.addi v32 c1_i32_2730
  let c16_i32_2731 : BitVec 32 := 16#32
  let v3262 : BitVec 32 := Scalar.remsi v3261 c16_i32_2731
  let c64_i32_2732 : BitVec 32 := 64#32
  let v3263 : BitVec 32 := Scalar.muli v3262 c64_i32_2732
  let v3309 : Index := Scalar.indexCast v3263
  let c640_2753 : Index := 640#32
  ![v3309.toNat, 640]
def k0_off56 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c1_i32_2730 : BitVec 32 := 1#32
  let v3261 : BitVec 32 := Scalar.addi v32 c1_i32_2730
  let c16_i32_2731 : BitVec 32 := 16#32
  let v3262 : BitVec 32 := Scalar.remsi v3261 c16_i32_2731
  let c64_i32_2732 : BitVec 32 := 64#32
  let v3263 : BitVec 32 := Scalar.muli v3262 c64_i32_2732
  let v3311 : Index := Scalar.indexCast v3263
  let c1029_2754 : Index := 1029#32
  ![v3311.toNat, 1029]
def k0_off57 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c1_i32_2730 : BitVec 32 := 1#32
  let v3261 : BitVec 32 := Scalar.addi v32 c1_i32_2730
  let c16_i32_2731 : BitVec 32 := 16#32
  let v3262 : BitVec 32 := Scalar.remsi v3261 c16_i32_2731
  let c64_i32_2732 : BitVec 32 := 64#32
  let v3263 : BitVec 32 := Scalar.muli v3262 c64_i32_2732
  let v3318 : Index := Scalar.indexCast v3263
  let c768_2757 : Index := 768#32
  ![v3318.toNat, 768]
def k0_off58 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c1_i32_2730 : BitVec 32 := 1#32
  let v3261 : BitVec 32 := Scalar.addi v32 c1_i32_2730
  let c16_i32_2731 : BitVec 32 := 16#32
  let v3262 : BitVec 32 := Scalar.remsi v3261 c16_i32_2731
  let c64_i32_2732 : BitVec 32 := 64#32
  let v3263 : BitVec 32 := Scalar.muli v3262 c64_i32_2732
  let v3320 : Index := Scalar.indexCast v3263
  let c1030_2758 : Index := 1030#32
  ![v3320.toNat, 1030]
def k0_off59 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c1_i32_2730 : BitVec 32 := 1#32
  let v3261 : BitVec 32 := Scalar.addi v32 c1_i32_2730
  let c16_i32_2731 : BitVec 32 := 16#32
  let v3262 : BitVec 32 := Scalar.remsi v3261 c16_i32_2731
  let c64_i32_2732 : BitVec 32 := 64#32
  let v3263 : BitVec 32 := Scalar.muli v3262 c64_i32_2732
  let v3327 : Index := Scalar.indexCast v3263
  let c896_2761 : Index := 896#32
  ![v3327.toNat, 896]
def k0_off60 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c1_i32_2730 : BitVec 32 := 1#32
  let v3261 : BitVec 32 := Scalar.addi v32 c1_i32_2730
  let c16_i32_2731 : BitVec 32 := 16#32
  let v3262 : BitVec 32 := Scalar.remsi v3261 c16_i32_2731
  let c64_i32_2732 : BitVec 32 := 64#32
  let v3263 : BitVec 32 := Scalar.muli v3262 c64_i32_2732
  let v3329 : Index := Scalar.indexCast v3263
  let c1031_2762 : Index := 1031#32
  ![v3329.toNat, 1031]
def k0_off61 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c1_i32_2730 : BitVec 32 := 1#32
  let v3261 : BitVec 32 := Scalar.addi v32 c1_i32_2730
  let c16_i32_2731 : BitVec 32 := 16#32
  let v3262 : BitVec 32 := Scalar.remsi v3261 c16_i32_2731
  let c64_i32_2732 : BitVec 32 := 64#32
  let v3263 : BitVec 32 := Scalar.muli v3262 c64_i32_2732
  let v3340 : Index := Scalar.indexCast v3263
  let c0_2770 : Index := 0#32
  ![v3340.toNat, 0]
def k0_off62 (d0 : Dev nD) (c0_i32_2773 : BitVec 32) (c0_i32_2777 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c1_i32_2772 : BitVec 32 := 1#32
  let v3347 : BitVec 32 := Scalar.addi v32 c1_i32_2772
  let v3348 : BitVec 32 := Scalar.subi v3347 c0_i32_2773
  let c16_i32_2774 : BitVec 32 := 16#32
  let v3349 : BitVec 32 := Scalar.addi v3348 c16_i32_2774
  let c16_i32_2775 : BitVec 32 := 16#32
  let v3350 : BitVec 32 := Scalar.remsi v3349 c16_i32_2775
  let c64_i32_2776 : BitVec 32 := 64#32
  let v3351 : BitVec 32 := Scalar.muli v3350 c64_i32_2776
  let v3352 : BitVec 32 := Scalar.addi v3351 c0_i32_2777
  let c0_i32_2782 : BitVec 32 := 0#32
  ![v3352.toNat, 0]
def k0_dev63 (d0 : Dev nD) : Nat :=
  let c0_i32_2781 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_2780 : BitVec 32 := 1#32
  let v3353 : BitVec 32 := Scalar.muli v62 c1_i32_2780
  let v3354 : BitVec 32 := Scalar.addi c0_i32_2781 v3353
  v3354.toNat
def k0_off63 (d0 : Dev nD) (c0_i32_2785 : BitVec 32) (c0_i32_2788 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c1_i32_2784 : BitVec 32 := 1#32
  let v3361 : BitVec 32 := Scalar.addi v32 c1_i32_2784
  let v3362 : BitVec 32 := Scalar.addi v3361 c0_i32_2785
  let c16_i32_2786 : BitVec 32 := 16#32
  let v3363 : BitVec 32 := Scalar.remsi v3362 c16_i32_2786
  let c64_i32_2787 : BitVec 32 := 64#32
  let v3364 : BitVec 32 := Scalar.muli v3363 c64_i32_2787
  let v3365 : BitVec 32 := Scalar.addi v3364 c0_i32_2788
  let c0_i32_2793 : BitVec 32 := 0#32
  ![v3365.toNat, 0]
def k0_dev64 (d0 : Dev nD) : Nat :=
  let c0_i32_2792 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_2791 : BitVec 32 := 1#32
  let v3366 : BitVec 32 := Scalar.muli v92 c1_i32_2791
  let v3367 : BitVec 32 := Scalar.addi c0_i32_2792 v3366
  v3367.toNat
def k0_dev65 (d0 : Dev nD) : Nat :=
  let c0_i32_2804 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_2803 : BitVec 32 := 1#32
  let v3380 : BitVec 32 := Scalar.muli v62 c1_i32_2803
  let v3381 : BitVec 32 := Scalar.addi c0_i32_2804 v3380
  v3381.toNat
def k0_dev66 (d0 : Dev nD) : Nat :=
  let c0_i32_2815 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_2814 : BitVec 32 := 1#32
  let v3393 : BitVec 32 := Scalar.muli v92 c1_i32_2814
  let v3394 : BitVec 32 := Scalar.addi c0_i32_2815 v3393
  v3394.toNat
def k0_dev67 (d0 : Dev nD) : Nat :=
  let c0_i32_2838 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_2837 : BitVec 32 := 1#32
  let v3417 : BitVec 32 := Scalar.muli v62 c1_i32_2837
  let v3418 : BitVec 32 := Scalar.addi c0_i32_2838 v3417
  v3418.toNat
def k0_off64 (d0 : Dev nD) (c0_i32_2841 : BitVec 32) (c0_i32_2845 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let v3425 : BitVec 32 := Scalar.subi v32 c0_i32_2841
  let c16_i32_2842 : BitVec 32 := 16#32
  let v3426 : BitVec 32 := Scalar.addi v3425 c16_i32_2842
  let c16_i32_2843 : BitVec 32 := 16#32
  let v3427 : BitVec 32 := Scalar.remsi v3426 c16_i32_2843
  let c64_i32_2844 : BitVec 32 := 64#32
  let v3428 : BitVec 32 := Scalar.muli v3427 c64_i32_2844
  let v3429 : BitVec 32 := Scalar.addi v3428 c0_i32_2845
  let v3430 : Index := Scalar.indexCast v3429
  let c0_2846 : Index := 0#32
  ![v3430.toNat, 0]
def k0_dev68 (d0 : Dev nD) : Nat :=
  let c0_i32_2867 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_2866 : BitVec 32 := 1#32
  let v3450 : BitVec 32 := Scalar.muli v92 c1_i32_2866
  let v3451 : BitVec 32 := Scalar.addi c0_i32_2867 v3450
  v3451.toNat
def k0_off65 (d0 : Dev nD) (c0_i32_2871 : BitVec 32) (c0_i32_2875 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v31 : BitVec 1 := Scalar.cmpi .eq v2 c0_i32
  let c0_i32_15 : BitVec 32 := 0#32
  let c1_i32_14 : BitVec 32 := 1#32
  let v29 : BitVec 1 := Scalar.cmpi .eq v2 c1_i32_14
  let c15_i32 : BitVec 32 := 15#32
  let c2_i32_12 : BitVec 32 := 2#32
  let v27 : BitVec 1 := Scalar.cmpi .eq v2 c2_i32_12
  let c8_i32_13 : BitVec 32 := 8#32
  let c3_i32_10 : BitVec 32 := 3#32
  let v25 : BitVec 1 := Scalar.cmpi .eq v2 c3_i32_10
  let c7_i32_11 : BitVec 32 := 7#32
  let c4_i32_8 : BitVec 32 := 4#32
  let v23 : BitVec 1 := Scalar.cmpi .eq v2 c4_i32_8
  let c1_i32_9 : BitVec 32 := 1#32
  let c5_i32_6 : BitVec 32 := 5#32
  let v21 : BitVec 1 := Scalar.cmpi .eq v2 c5_i32_6
  let c14_i32_7 : BitVec 32 := 14#32
  let c6_i32_4 : BitVec 32 := 6#32
  let v19 : BitVec 1 := Scalar.cmpi .eq v2 c6_i32_4
  let c9_i32_5 : BitVec 32 := 9#32
  let c7_i32 : BitVec 32 := 7#32
  let v17 : BitVec 1 := Scalar.cmpi .eq v2 c7_i32
  let c6_i32 : BitVec 32 := 6#32
  let c8_i32 : BitVec 32 := 8#32
  let v15 : BitVec 1 := Scalar.cmpi .eq v2 c8_i32
  let c2_i32 : BitVec 32 := 2#32
  let c9_i32 : BitVec 32 := 9#32
  let v13 : BitVec 1 := Scalar.cmpi .eq v2 c9_i32
  let c13_i32_3 : BitVec 32 := 13#32
  let c10_i32 : BitVec 32 := 10#32
  let v11 : BitVec 1 := Scalar.cmpi .eq v2 c10_i32
  let c10_i32_2 : BitVec 32 := 10#32
  let c11_i32_1 : BitVec 32 := 11#32
  let v9 : BitVec 1 := Scalar.cmpi .eq v2 c11_i32_1
  let c5_i32 : BitVec 32 := 5#32
  let c12_i32_0 : BitVec 32 := 12#32
  let v7 : BitVec 1 := Scalar.cmpi .eq v2 c12_i32_0
  let c3_i32 : BitVec 32 := 3#32
  let c13_i32 : BitVec 32 := 13#32
  let v5 : BitVec 1 := Scalar.cmpi .eq v2 c13_i32
  let c12_i32 : BitVec 32 := 12#32
  let c14_i32 : BitVec 32 := 14#32
  let v3 : BitVec 1 := Scalar.cmpi .eq v2 c14_i32
  let c11_i32 : BitVec 32 := 11#32
  let c4_i32 : BitVec 32 := 4#32
  let v4 : BitVec 32 := Scalar.select v3 c11_i32 c4_i32
  let v6 : BitVec 32 := Scalar.select v5 c12_i32 v4
  let v8 : BitVec 32 := Scalar.select v7 c3_i32 v6
  let v10 : BitVec 32 := Scalar.select v9 c5_i32 v8
  let v12 : BitVec 32 := Scalar.select v11 c10_i32_2 v10
  let v14 : BitVec 32 := Scalar.select v13 c13_i32_3 v12
  let v16 : BitVec 32 := Scalar.select v15 c2_i32 v14
  let v18 : BitVec 32 := Scalar.select v17 c6_i32 v16
  let v20 : BitVec 32 := Scalar.select v19 c9_i32_5 v18
  let v22 : BitVec 32 := Scalar.select v21 c14_i32_7 v20
  let v24 : BitVec 32 := Scalar.select v23 c1_i32_9 v22
  let v26 : BitVec 32 := Scalar.select v25 c7_i32_11 v24
  let v28 : BitVec 32 := Scalar.select v27 c8_i32_13 v26
  let v30 : BitVec 32 := Scalar.select v29 c15_i32 v28
  let v32 : BitVec 32 := Scalar.select v31 c0_i32_15 v30
  let c2_i32_2870 : BitVec 32 := 2#32
  let v3458 : BitVec 32 := Scalar.addi v32 c2_i32_2870
  let v3459 : BitVec 32 := Scalar.addi v3458 c0_i32_2871
  let c16_i32_2872 : BitVec 32 := 16#32
  let v3460 : BitVec 32 := Scalar.addi v3459 c16_i32_2872
  let c16_i32_2873 : BitVec 32 := 16#32
  let v3461 : BitVec 32 := Scalar.remsi v3460 c16_i32_2873
  let c64_i32_2874 : BitVec 32 := 64#32
  let v3462 : BitVec 32 := Scalar.muli v3461 c64_i32_2874
  let v3463 : BitVec 32 := Scalar.addi v3462 c0_i32_2875
  let v3464 : Index := Scalar.indexCast v3463
  let c0_2876 : Index := 0#32
  ![v3464.toNat, 0]
def k0_dev69 (d0 : Dev nD) : Nat :=
  let c0_i32_2898 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_2897 : BitVec 32 := 1#32
  let v3485 : BitVec 32 := Scalar.muli v62 c1_i32_2897
  let v3486 : BitVec 32 := Scalar.addi c0_i32_2898 v3485
  v3486.toNat
def k0_dev70 (d0 : Dev nD) : Nat :=
  let c0_i32_2927 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_2926 : BitVec 32 := 1#32
  let v3518 : BitVec 32 := Scalar.muli v92 c1_i32_2926
  let v3519 : BitVec 32 := Scalar.addi c0_i32_2927 v3518
  v3519.toNat
def k0_dev71 (d0 : Dev nD) : Nat :=
  let c0_i32_2958 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_2957 : BitVec 32 := 1#32
  let v3553 : BitVec 32 := Scalar.muli v62 c1_i32_2957
  let v3554 : BitVec 32 := Scalar.addi c0_i32_2958 v3553
  v3554.toNat
def k0_dev72 (d0 : Dev nD) : Nat :=
  let c0_i32_2987 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_2986 : BitVec 32 := 1#32
  let v3586 : BitVec 32 := Scalar.muli v92 c1_i32_2986
  let v3587 : BitVec 32 := Scalar.addi c0_i32_2987 v3586
  v3587.toNat
def k0_dev73 (d0 : Dev nD) : Nat :=
  let c0_i32_3018 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_3017 : BitVec 32 := 1#32
  let v3621 : BitVec 32 := Scalar.muli v62 c1_i32_3017
  let v3622 : BitVec 32 := Scalar.addi c0_i32_3018 v3621
  v3622.toNat
def k0_dev74 (d0 : Dev nD) : Nat :=
  let c0_i32_3047 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_3046 : BitVec 32 := 1#32
  let v3654 : BitVec 32 := Scalar.muli v92 c1_i32_3046
  let v3655 : BitVec 32 := Scalar.addi c0_i32_3047 v3654
  v3655.toNat
def k0_dev75 (d0 : Dev nD) : Nat :=
  let c0_i32_3078 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_3077 : BitVec 32 := 1#32
  let v3689 : BitVec 32 := Scalar.muli v62 c1_i32_3077
  let v3690 : BitVec 32 := Scalar.addi c0_i32_3078 v3689
  v3690.toNat
def k0_dev76 (d0 : Dev nD) : Nat :=
  let c0_i32_3107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_3106 : BitVec 32 := 1#32
  let v3722 : BitVec 32 := Scalar.muli v92 c1_i32_3106
  let v3723 : BitVec 32 := Scalar.addi c0_i32_3107 v3722
  v3723.toNat
def k0_dev77 (d0 : Dev nD) : Nat :=
  let c0_i32_3138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_3137 : BitVec 32 := 1#32
  let v3757 : BitVec 32 := Scalar.muli v62 c1_i32_3137
  let v3758 : BitVec 32 := Scalar.addi c0_i32_3138 v3757
  v3758.toNat
def k0_dev78 (d0 : Dev nD) : Nat :=
  let c0_i32_3167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_3166 : BitVec 32 := 1#32
  let v3790 : BitVec 32 := Scalar.muli v92 c1_i32_3166
  let v3791 : BitVec 32 := Scalar.addi c0_i32_3167 v3790
  v3791.toNat
def k0_dev79 (d0 : Dev nD) : Nat :=
  let c0_i32_3198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_3197 : BitVec 32 := 1#32
  let v3825 : BitVec 32 := Scalar.muli v62 c1_i32_3197
  let v3826 : BitVec 32 := Scalar.addi c0_i32_3198 v3825
  v3826.toNat
def k0_dev80 (d0 : Dev nD) : Nat :=
  let c0_i32_3227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_3226 : BitVec 32 := 1#32
  let v3858 : BitVec 32 := Scalar.muli v92 c1_i32_3226
  let v3859 : BitVec 32 := Scalar.addi c0_i32_3227 v3858
  v3859.toNat
def k0_dev81 (d0 : Dev nD) : Nat :=
  let c0_i32_3258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_3257 : BitVec 32 := 1#32
  let v3893 : BitVec 32 := Scalar.muli v62 c1_i32_3257
  let v3894 : BitVec 32 := Scalar.addi c0_i32_3258 v3893
  v3894.toNat
def k0_dev82 (d0 : Dev nD) : Nat :=
  let c0_i32_3287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_3286 : BitVec 32 := 1#32
  let v3926 : BitVec 32 := Scalar.muli v92 c1_i32_3286
  let v3927 : BitVec 32 := Scalar.addi c0_i32_3287 v3926
  v3927.toNat
def k0_dev83 (d0 : Dev nD) : Nat :=
  let c0_i32_3318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_3317 : BitVec 32 := 1#32
  let v3961 : BitVec 32 := Scalar.muli v62 c1_i32_3317
  let v3962 : BitVec 32 := Scalar.addi c0_i32_3318 v3961
  v3962.toNat
def k0_dev84 (d0 : Dev nD) : Nat :=
  let c0_i32_3347 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_3346 : BitVec 32 := 1#32
  let v3994 : BitVec 32 := Scalar.muli v92 c1_i32_3346
  let v3995 : BitVec 32 := Scalar.addi c0_i32_3347 v3994
  v3995.toNat
def k0_dev85 (d0 : Dev nD) : Nat :=
  let c0_i32_3378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_3377 : BitVec 32 := 1#32
  let v4029 : BitVec 32 := Scalar.muli v62 c1_i32_3377
  let v4030 : BitVec 32 := Scalar.addi c0_i32_3378 v4029
  v4030.toNat
def k0_dev86 (d0 : Dev nD) : Nat :=
  let c0_i32_3407 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_3406 : BitVec 32 := 1#32
  let v4062 : BitVec 32 := Scalar.muli v92 c1_i32_3406
  let v4063 : BitVec 32 := Scalar.addi c0_i32_3407 v4062
  v4063.toNat
def k0_dev87 (d0 : Dev nD) : Nat :=
  let c0_i32_3438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_3437 : BitVec 32 := 1#32
  let v4097 : BitVec 32 := Scalar.muli v62 c1_i32_3437
  let v4098 : BitVec 32 := Scalar.addi c0_i32_3438 v4097
  v4098.toNat
def k0_dev88 (d0 : Dev nD) : Nat :=
  let c0_i32_3467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_3466 : BitVec 32 := 1#32
  let v4130 : BitVec 32 := Scalar.muli v92 c1_i32_3466
  let v4131 : BitVec 32 := Scalar.addi c0_i32_3467 v4130
  v4131.toNat
def k0_dev89 (d0 : Dev nD) : Nat :=
  let c0_i32_3498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_3497 : BitVec 32 := 1#32
  let v4165 : BitVec 32 := Scalar.muli v62 c1_i32_3497
  let v4166 : BitVec 32 := Scalar.addi c0_i32_3498 v4165
  v4166.toNat
def k0_dev90 (d0 : Dev nD) : Nat :=
  let c0_i32_3527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v91 : BitVec 1 := Scalar.cmpi .eq v2 c0_i32_76
  let c1_i32_77 : BitVec 32 := 1#32
  let c1_i32_74 : BitVec 32 := 1#32
  let v89 : BitVec 1 := Scalar.cmpi .eq v2 c1_i32_74
  let c5_i32_75 : BitVec 32 := 5#32
  let c2_i32_72 : BitVec 32 := 2#32
  let v87 : BitVec 1 := Scalar.cmpi .eq v2 c2_i32_72
  let c3_i32_73 : BitVec 32 := 3#32
  let c3_i32_70 : BitVec 32 := 3#32
  let v85 : BitVec 1 := Scalar.cmpi .eq v2 c3_i32_70
  let c7_i32_71 : BitVec 32 := 7#32
  let c4_i32_68 : BitVec 32 := 4#32
  let v83 : BitVec 1 := Scalar.cmpi .eq v2 c4_i32_68
  let c0_i32_69 : BitVec 32 := 0#32
  let c5_i32_66 : BitVec 32 := 5#32
  let v81 : BitVec 1 := Scalar.cmpi .eq v2 c5_i32_66
  let c9_i32_67 : BitVec 32 := 9#32
  let c6_i32_64 : BitVec 32 := 6#32
  let v79 : BitVec 1 := Scalar.cmpi .eq v2 c6_i32_64
  let c2_i32_65 : BitVec 32 := 2#32
  let c7_i32_62 : BitVec 32 := 7#32
  let v77 : BitVec 1 := Scalar.cmpi .eq v2 c7_i32_62
  let c11_i32_63 : BitVec 32 := 11#32
  let c8_i32_60 : BitVec 32 := 8#32
  let v75 : BitVec 1 := Scalar.cmpi .eq v2 c8_i32_60
  let c4_i32_61 : BitVec 32 := 4#32
  let c9_i32_58 : BitVec 32 := 9#32
  let v73 : BitVec 1 := Scalar.cmpi .eq v2 c9_i32_58
  let c13_i32_59 : BitVec 32 := 13#32
  let c10_i32_56 : BitVec 32 := 10#32
  let v71 : BitVec 1 := Scalar.cmpi .eq v2 c10_i32_56
  let c6_i32_57 : BitVec 32 := 6#32
  let c11_i32_54 : BitVec 32 := 11#32
  let v69 : BitVec 1 := Scalar.cmpi .eq v2 c11_i32_54
  let c15_i32_55 : BitVec 32 := 15#32
  let c12_i32_52 : BitVec 32 := 12#32
  let v67 : BitVec 1 := Scalar.cmpi .eq v2 c12_i32_52
  let c8_i32_53 : BitVec 32 := 8#32
  let c13_i32_50 : BitVec 32 := 13#32
  let v65 : BitVec 1 := Scalar.cmpi .eq v2 c13_i32_50
  let c14_i32_51 : BitVec 32 := 14#32
  let c14_i32_47 : BitVec 32 := 14#32
  let v63 : BitVec 1 := Scalar.cmpi .eq v2 c14_i32_47
  let c10_i32_48 : BitVec 32 := 10#32
  let c12_i32_49 : BitVec 32 := 12#32
  let v64 : BitVec 32 := Scalar.select v63 c10_i32_48 c12_i32_49
  let v66 : BitVec 32 := Scalar.select v65 c14_i32_51 v64
  let v68 : BitVec 32 := Scalar.select v67 c8_i32_53 v66
  let v70 : BitVec 32 := Scalar.select v69 c15_i32_55 v68
  let v72 : BitVec 32 := Scalar.select v71 c6_i32_57 v70
  let v74 : BitVec 32 := Scalar.select v73 c13_i32_59 v72
  let v76 : BitVec 32 := Scalar.select v75 c4_i32_61 v74
  let v78 : BitVec 32 := Scalar.select v77 c11_i32_63 v76
  let v80 : BitVec 32 := Scalar.select v79 c2_i32_65 v78
  let v82 : BitVec 32 := Scalar.select v81 c9_i32_67 v80
  let v84 : BitVec 32 := Scalar.select v83 c0_i32_69 v82
  let v86 : BitVec 32 := Scalar.select v85 c7_i32_71 v84
  let v88 : BitVec 32 := Scalar.select v87 c3_i32_73 v86
  let v90 : BitVec 32 := Scalar.select v89 c5_i32_75 v88
  let v92 : BitVec 32 := Scalar.select v91 c1_i32_77 v90
  let c1_i32_3526 : BitVec 32 := 1#32
  let v4198 : BitVec 32 := Scalar.muli v92 c1_i32_3526
  let v4199 : BitVec 32 := Scalar.addi c0_i32_3527 v4198
  v4199.toNat
def k0_dev91 (d0 : Dev nD) : Nat :=
  let c0_i32_3558 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_3557 : BitVec 32 := 1#32
  let v4233 : BitVec 32 := Scalar.muli v62 c1_i32_3557
  let v4234 : BitVec 32 := Scalar.addi c0_i32_3558 v4233
  v4234.toNat
def k0_dev92 (d0 : Dev nD) : Nat :=
  let c0_i32_3607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_45 : BitVec 32 := 0#32
  let v61 : BitVec 1 := Scalar.cmpi .eq v2 c0_i32_45
  let c4_i32_46 : BitVec 32 := 4#32
  let c1_i32_43 : BitVec 32 := 1#32
  let v59 : BitVec 1 := Scalar.cmpi .eq v2 c1_i32_43
  let c0_i32_44 : BitVec 32 := 0#32
  let c2_i32_41 : BitVec 32 := 2#32
  let v57 : BitVec 1 := Scalar.cmpi .eq v2 c2_i32_41
  let c6_i32_42 : BitVec 32 := 6#32
  let c3_i32_39 : BitVec 32 := 3#32
  let v55 : BitVec 1 := Scalar.cmpi .eq v2 c3_i32_39
  let c2_i32_40 : BitVec 32 := 2#32
  let c4_i32_37 : BitVec 32 := 4#32
  let v53 : BitVec 1 := Scalar.cmpi .eq v2 c4_i32_37
  let c8_i32_38 : BitVec 32 := 8#32
  let c5_i32_35 : BitVec 32 := 5#32
  let v51 : BitVec 1 := Scalar.cmpi .eq v2 c5_i32_35
  let c1_i32_36 : BitVec 32 := 1#32
  let c6_i32_33 : BitVec 32 := 6#32
  let v49 : BitVec 1 := Scalar.cmpi .eq v2 c6_i32_33
  let c10_i32_34 : BitVec 32 := 10#32
  let c7_i32_31 : BitVec 32 := 7#32
  let v47 : BitVec 1 := Scalar.cmpi .eq v2 c7_i32_31
  let c3_i32_32 : BitVec 32 := 3#32
  let c8_i32_29 : BitVec 32 := 8#32
  let v45 : BitVec 1 := Scalar.cmpi .eq v2 c8_i32_29
  let c12_i32_30 : BitVec 32 := 12#32
  let c9_i32_27 : BitVec 32 := 9#32
  let v43 : BitVec 1 := Scalar.cmpi .eq v2 c9_i32_27
  let c5_i32_28 : BitVec 32 := 5#32
  let c10_i32_25 : BitVec 32 := 10#32
  let v41 : BitVec 1 := Scalar.cmpi .eq v2 c10_i32_25
  let c14_i32_26 : BitVec 32 := 14#32
  let c11_i32_23 : BitVec 32 := 11#32
  let v39 : BitVec 1 := Scalar.cmpi .eq v2 c11_i32_23
  let c7_i32_24 : BitVec 32 := 7#32
  let c12_i32_21 : BitVec 32 := 12#32
  let v37 : BitVec 1 := Scalar.cmpi .eq v2 c12_i32_21
  let c15_i32_22 : BitVec 32 := 15#32
  let c13_i32_19 : BitVec 32 := 13#32
  let v35 : BitVec 1 := Scalar.cmpi .eq v2 c13_i32_19
  let c9_i32_20 : BitVec 32 := 9#32
  let c14_i32_16 : BitVec 32 := 14#32
  let v33 : BitVec 1 := Scalar.cmpi .eq v2 c14_i32_16
  let c13_i32_17 : BitVec 32 := 13#32
  let c11_i32_18 : BitVec 32 := 11#32
  let v34 : BitVec 32 := Scalar.select v33 c13_i32_17 c11_i32_18
  let v36 : BitVec 32 := Scalar.select v35 c9_i32_20 v34
  let v38 : BitVec 32 := Scalar.select v37 c15_i32_22 v36
  let v40 : BitVec 32 := Scalar.select v39 c7_i32_24 v38
  let v42 : BitVec 32 := Scalar.select v41 c14_i32_26 v40
  let v44 : BitVec 32 := Scalar.select v43 c5_i32_28 v42
  let v46 : BitVec 32 := Scalar.select v45 c12_i32_30 v44
  let v48 : BitVec 32 := Scalar.select v47 c3_i32_32 v46
  let v50 : BitVec 32 := Scalar.select v49 c10_i32_34 v48
  let v52 : BitVec 32 := Scalar.select v51 c1_i32_36 v50
  let v54 : BitVec 32 := Scalar.select v53 c8_i32_38 v52
  let v56 : BitVec 32 := Scalar.select v55 c2_i32_40 v54
  let v58 : BitVec 32 := Scalar.select v57 c6_i32_42 v56
  let v60 : BitVec 32 := Scalar.select v59 c0_i32_44 v58
  let v62 : BitVec 32 := Scalar.select v61 c4_i32_46 v60
  let c1_i32_3606 : BitVec 32 := 1#32
  let v4288 : BitVec 32 := Scalar.muli v62 c1_i32_3606
  let v4289 : BitVec 32 := Scalar.addi c0_i32_3607 v4288
  v4289.toNat
abbrev stage0_0 : Fin 1 → Memref sig .tc .vmem S4x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024x2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024x2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4x256x1024 : Shape := ⟨3, ![4, 256, 1024]⟩
abbrev S1024x1024 : Shape := ⟨2, ![1024, 1024]⟩
abbrev S4x16384x2x128 : Shape := ⟨4, ![4, 16384, 2, 128]⟩
abbrev S4x256x8x128 : Shape := ⟨4, ![4, 256, 8, 128]⟩
abbrev S4x16384x2x4x128 : Shape := ⟨5, ![4, 16384, 2, 4, 128]⟩
abbrev S4x16384x8x128 : Shape := ⟨4, ![4, 16384, 8, 128]⟩
abbrev S4x8x256x16384 : Shape := ⟨4, ![4, 8, 256, 16384]⟩
abbrev S_ : Shape := ⟨0, ![]⟩
abbrev S4x8x256 : Shape := ⟨3, ![4, 8, 256]⟩
abbrev S4x8x256x1 : Shape := ⟨4, ![4, 8, 256, 1]⟩
abbrev S4x8x128x256 : Shape := ⟨4, ![4, 8, 128, 256]⟩
abbrev S4x256x8x1 : Shape := ⟨4, ![4, 256, 8, 1]⟩

abbrev nBuf : Space → Nat
  | .hbm => 32
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S1024x1024, .f32⟩
  | .hbm, ⟨3, _⟩ => ⟨S4x16384x2x128, .f32⟩
  | .hbm, ⟨4, _⟩ => ⟨S4x16384x2x128, .f32⟩
  | .hbm, ⟨5, _⟩ => ⟨S4x256x1024, .f32⟩
  | .hbm, ⟨6, _⟩ => ⟨S4x256x8x128, .f32⟩
  | .hbm, ⟨7, _⟩ => ⟨S4x16384x2x4x128, .f32⟩
  | .hbm, ⟨8, _⟩ => ⟨S4x16384x8x128, .f32⟩
  | .hbm, ⟨9, _⟩ => ⟨S4x16384x2x4x128, .f32⟩
  | .hbm, ⟨10, _⟩ => ⟨S4x16384x8x128, .f32⟩
  | .hbm, ⟨11, _⟩ => ⟨S4x8x256x16384, .f32⟩
  | .hbm, ⟨12, _⟩ => ⟨S_, .f32⟩
  | .hbm, ⟨13, _⟩ => ⟨S4x8x256x16384, .f32⟩
  | .hbm, ⟨14, _⟩ => ⟨S4x8x256x16384, .f32⟩
  | .hbm, ⟨15, _⟩ => ⟨S_, .f32⟩
  | .hbm, ⟨16, _⟩ => ⟨S4x8x256, .f32⟩
  | .hbm, ⟨17, _⟩ => ⟨S4x8x256x1, .f32⟩
  | .hbm, ⟨18, _⟩ => ⟨S4x8x256x16384, .f32⟩
  | .hbm, ⟨19, _⟩ => ⟨S4x8x256x16384, .f32⟩
  | .hbm, ⟨20, _⟩ => ⟨S4x8x256x16384, .f32⟩
  | .hbm, ⟨21, _⟩ => ⟨S_, .f32⟩
  | .hbm, ⟨22, _⟩ => ⟨S4x8x256, .f32⟩
  | .hbm, ⟨23, _⟩ => ⟨S4x8x256x1, .f32⟩
  | .hbm, ⟨24, _⟩ => ⟨S4x8x128x256, .f32⟩
  | .hbm, ⟨25, _⟩ => ⟨S4x256x8x128, .f32⟩
  | .hbm, ⟨26, _⟩ => ⟨S4x256x8x1, .f32⟩
  | .hbm, ⟨27, _⟩ => ⟨S4x256x8x128, .f32⟩
  | .hbm, ⟨28, _⟩ => ⟨S4x256x8x128, .f32⟩
  | .hbm, ⟨29, _⟩ => ⟨S4x256x1024, .f32⟩
  | .hbm, ⟨30, _⟩ => ⟨S4x256x1024, .f32⟩
  | .hbm, ⟨31, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.Struct.lean ====
module

public import proofs.«01_k».proof.Proof.Gen.KernelIdeal
public import Idealize.ShloMosaic.Lib.Pipeline.Regions

/-! The kernel's body as a few repeated pieces: the barrier, the four batches of the attention, the
sends and receives of the two reduction streams, the normalisation and projection, and the two
gathering streams. The printed body is this program, by unfolding. -/

@[expose] public section

noncomputable section

namespace Cert.KernelIdeal.Ring

open Idealize.ShloMosaic Idealize.SL.Sem
open Facts₀ Facts
open Cert.KernelIdeal.Gen (facts facts₀)

variable {F : FTy → Type} [FloatOps F]

/-- Programs of one core of the kernel. -/
abbrev PG (F : FTy → Type) : Type _ := Prog (TpuEff nD τ sig (Elt F) Λ₀ .tc) PUnit

abbrev xM : Memref sig .tc .vmem S4x256x1024 .f32 := Memref.whole cc0_stg0_0
abbrev wqM : Memref sig .tc .vmem S1024x1024 .f32 := Memref.whole cc0_stg1_0
abbrev woM : Memref sig .tc .vmem S1024x1024 .f32 := Memref.whole cc0_stg2_0
abbrev kM : Memref sig .tc .vmem S4x1024x2x128 .f32 := Memref.whole cc0_stg3_0
abbrev vM : Memref sig .tc .vmem S4x1024x2x128 .f32 := Memref.whole cc0_stg4_0
abbrev oM : Memref sig .tc .vmem S1024x1024 .f32 := Memref.whole cc0_stg5_0
abbrev sM : Memref sig .tc .vmem S1024x1152 .f32 := Memref.whole cc0_scratch0
abbrev sbM : Memref sig .tc .vmem S1024x1152 .bf16 := Memref.whole cc0_scratch1
abbrev lbM : Memref sig .tc .vmem S8x64x1152 .bf16 := Memref.whole cc0_scratch2
abbrev rbM : Memref sig .tc .vmem S7x64x1152 .bf16 := Memref.whole cc0_scratch3
abbrev nbM : Memref sig .tc .vmem S64x1024 .f32 := Memref.whole cc0_scratch4
abbrev obM : Memref sig .tc .vmem S1024x1024 .bf16 := Memref.whole cc0_scratch5

/-! ### The values computed -/

theorem slicesH (h : Fin 8) : S256x1024.Slices ![0, 128 * h.val] S256x128 := by
  revert h; decide

/-- The queries of one batch. -/
def qV (x : Vec F S1x256x1024 .f32) (wq : Vec F S1024x1024 .f32) : FVec F S256x1024 .f32 :=
  matmul dot_S256x1024_S1024x1024_S256x1024_1_0_0_1_n_n none
    (shapeCast S256x1024 x shapeCasts_S1x256x1024_S256x1024)
    (shapeCast S1024x1024 wq shapeCasts_S1024x1024_S1024x1024)
    (constant S256x1024 .f32 0x00000000#32)

/-- The keys (or the values) of one batch and one group, as a matrix. -/
def kV (k : Vec F S1x1024x1x128 .f32) : FVec F S1024x128 .f32 :=
  shapeCast S1024x128 k shapeCasts_S1x1024x1x128_S1024x128

/-- The exponentials of one head's scaled scores. -/
def eV (q : FVec F S256x1024 .f32) (k : FVec F S1024x128 .f32) (h : Fin 8) : FVec F S256x1024 .f32 :=
  exp (mulf (matmul dot_S256x128_S1024x128_S256x1024_1_1_0_0_n_n none
      (extractStridedSlice S256x128 ![0, 128 * h.val] q (slicesH h)) k (constant S256x1024 .f32 0x00000000#32))
    (broadcast S256x1024 (Scalar.ofBits .f32 0x3DB504F3#32)))

/-- One head's weighted sum of the values. -/
def aV (q : FVec F S256x1024 .f32) (k v : FVec F S1024x128 .f32) (h : Fin 8) : FVec F S256x128 .f32 :=
  shapeCast S256x128 (matmul dot_S256x1024_S1024x128_S256x128_1_0_0_1_n_n none (eV q k h) v
    (constant S256x128 .f32 0x00000000#32)) shapeCasts_S256x128_S256x128

/-- One head's row sums. -/
def lV (q : FVec F S256x1024 .f32) (k : FVec F S1024x128 .f32) (h : Fin 8) : FVec F S256x1 .f32 :=
  shapeCast S256x1 (shapeCast S256x1 (multiReduction .add [1] S256 (eV q k h) 0x00000000#32
    reduces_S256x1024_S256 (.inl rfl) rfl) shapeCasts_S256_S256x1) shapeCasts_S256x1_S256x1

/-- A batch's sums as they are sent. -/
def sbV (s : Vec F S256x1152 .f32) : FVec F S256x1152 .bf16 :=
  shapeCast S256x1152 (truncf .bf16 s bitsLt_bf16_f32) shapeCasts_S256x1152_S256x1152

/-- What is sent on: the own rows and the received. -/
def accV (b : Vec F S16x1152 .bf16) (y : Vec F S1x16x1152 .bf16) : FVec F S16x1152 .bf16 :=
  shapeCast S16x1152 (addf b (shapeCast S16x1152 y shapeCasts_S1x16x1152_S16x1152 : FVec F S16x1152 .bf16))
    shapeCasts_S16x1152_S16x1152

/-- What is kept: the own rows and the received, widened. -/
def finV (b : Vec F S16x1152 .f32) (y : Vec F S1x16x1152 .bf16) : FVec F S16x1152 .f32 :=
  shapeCast S16x1152 (addf b (extf .f32 (shapeCast S16x1152 y shapeCasts_S1x16x1152_S16x1152 : FVec F S16x1152 .bf16)
    bitsLt_bf16_f32)) shapeCasts_S16x1152_S16x1152

/-- One head of the finished chunk, divided by its row sums. -/
def nV (a : Vec F S64x128 .f32) (l : Vec F S64x1 .f32) : FVec F S64x128 .f32 :=
  shapeCast S64x128 (divf a (broadcastTo S64x128 l broadcasts_S64x1_S64x128)) shapeCasts_S64x128_S64x128

/-- The finished chunk's projection. -/
def oV (n : Vec F S64x1024 .f32) (wo : Vec F S1024x1024 .f32) : FVec F S64x1024 .f32 :=
  matmul dot_S64x1024_S1024x1024_S64x1024_1_0_0_1_n_n none n
    (shapeCast S1024x1024 wo shapeCasts_S1024x1024_S1024x1024) (constant S64x1024 .f32 0x00000000#32)

/-- The projection as it is sent. -/
def obV (o : FVec F S64x1024 .f32) : FVec F S64x1024 .bf16 :=
  shapeCast S64x1024 (truncf .bf16 o bitsLt_bf16_f32) shapeCasts_S64x1024_S64x1024

/-- A received piece of the projection, widened. -/
def wV (o : Vec F S32x1024 .bf16) : FVec F S32x1024 .f32 := extf .f32 o bitsLt_bf16_f32

/-! ### One batch -/

abbrev xR (o : Fin 3 → Nat) (h : ∀ a, o a + S1x256x1024.size a ≤ S4x256x1024.size a) : Rect S4x256x1024 :=
  Rect.unit (s := S4x256x1024) o S1x256x1024.size h
abbrev wR : Rect S1024x1024 := Rect.unit (s := S1024x1024) ![0, 0] S1024x1024.size inb_S1024x1024_S1024x1024_0_0
abbrev kR (o : Fin 4 → Nat) (h : ∀ a, o a + S1x1024x1x128.size a ≤ S4x1024x2x128.size a) : Rect S4x1024x2x128 :=
  Rect.unit (s := S4x1024x2x128) o S1x1024x1x128.size h
/-- A block of `s'` in the accumulator. -/
abbrev sR (s' : Shape) (hd : s'.rank = 2) (o : Fin 2 → Nat)
    (h : ∀ a : Fin 2, o a + s'.size (Fin.cast hd.symm a) ≤ S1024x1152.size a) : Rect S1024x1152 :=
  Rect.unit (s := S1024x1152) o (fun a => s'.size (Fin.cast hd.symm a)) h

abbrev aR (o : Fin 2 → Nat) (h : ∀ a, o a + S256x128.size a ≤ S1024x1152.size a) : Rect S1024x1152 :=
  Rect.unit (s := S1024x1152) o S256x128.size h
abbrev lR (o : Fin 2 → Nat) (h : ∀ a, o a + S256x1.size a ≤ S1024x1152.size a) : Rect S1024x1152 :=
  Rect.unit (s := S1024x1152) o S256x1.size h
abbrev bR (o : Fin 2 → Nat) (h : ∀ a, o a + S256x1152.size a ≤ S1024x1152.size a) : Rect S1024x1152 :=
  Rect.unit (s := S1024x1152) o S256x1152.size h

/-- One head: its weighted sums and its row sums stored. -/
def headP (q : FVec F S256x1024 .f32) (kk vv : FVec F S1024x128 .f32) (h : Fin 8)
    (oa : Fin 2 → Nat) (ha : ∀ a, oa a + S256x128.size a ≤ S1024x1152.size a)
    (ol : Fin 2 → Nat) (hl : ∀ a, ol a + S256x1.size a ≤ S1024x1152.size a) (k : PG F) : PG F :=
  .op (.load sM (aR oa ha).toLoadRect (View.loadsAt_vmem h_S256x128)) fun _ =>
  .op (.store sM (aR oa ha) (aV q kk vv h) Finset.univ (View.stores_vmem_bits_univ h_S256x128 rfl) (.inl rfl)) fun _ =>
  .op (.load sM (lR ol hl).toLoadRect (View.loadsAt_vmem h_S256x1)) fun _ =>
  .op (.store sM (lR ol hl) (lV q kk h) Finset.univ (View.stores_vmem_bits_univ h_S256x1 rfl) (.inl rfl)) fun _ => k

/-- The offsets of one batch's accesses. -/
structure BOff where
  x : Fin 3 → Nat
  hx : ∀ a, x a + S1x256x1024.size a ≤ S4x256x1024.size a
  k0 : Fin 4 → Nat
  hk0 : ∀ a, k0 a + S1x1024x1x128.size a ≤ S4x1024x2x128.size a
  k1 : Fin 4 → Nat
  hk1 : ∀ a, k1 a + S1x1024x1x128.size a ≤ S4x1024x2x128.size a
  A : Fin 8 → Fin 2 → Nat
  hA : ∀ h a, A h a + S256x128.size a ≤ S1024x1152.size a
  L : Fin 8 → Fin 2 → Nat
  hL : ∀ h a, L h a + S256x1.size a ≤ S1024x1152.size a
  r : Fin 2 → Nat
  hr : ∀ a, r a + S256x1152.size a ≤ S1024x1152.size a
  hp : (bR r hr).PackedRows (EltTy.packing .bf16)

/-- Four heads of one group. -/
def groupP (o : BOff) (q : FVec F S256x1024 .f32) (kk vv : FVec F S1024x128 .f32) (h0 h1 h2 h3 : Fin 8) (k : PG F) : PG F :=
  headP q kk vv h0 (o.A h0) (o.hA h0) (o.L h0) (o.hL h0) <|
  headP q kk vv h1 (o.A h1) (o.hA h1) (o.L h1) (o.hL h1) <|
  headP q kk vv h2 (o.A h2) (o.hA h2) (o.L h2) (o.hL h2) <|
  headP q kk vv h3 (o.A h3) (o.hA h3) (o.L h3) (o.hL h3) k

/-- The copy of a batch's sums to the buffer they are sent from. -/
def castP (o : BOff) (k : PG F) : PG F :=
  .op (.load sM (bR o.r o.hr).toLoadRect (View.loadsAt_vmem h_S256x1152)) fun s =>
  .op (.load sbM (bR o.r o.hr).toLoadRect (View.loadsAt_vmem h_S256x1152)) fun _ =>
  .op (.store sbM (bR o.r o.hr) (sbV s) Finset.univ
    (View.stores_vmem h_S256x1152 ((Memref.isWhole_whole _).storeExact_slice rfl _ o.hp) (fun _ => rfl)) (.inl rfl)) fun _ => k

/-- One batch. -/
def batchP (o : BOff) (k : PG F) : PG F :=
  .op (.load xM (xR o.x o.hx).toLoadRect (View.loadsAt_vmem h_S1x256x1024)) fun x =>
  .op (.load wqM wR.toLoadRect (View.loadsAt_vmem h_S1024x1024)) fun wq =>
  .op (.load kM (kR o.k0 o.hk0).toLoadRect (View.loadsAt_vmem h_S1x1024x1x128)) fun k0 =>
  .op (.load vM (kR o.k0 o.hk0).toLoadRect (View.loadsAt_vmem h_S1x1024x1x128)) fun v0 =>
  groupP o (qV x wq) (kV k0) (kV v0) 0 1 2 3 <|
  .op (.load kM (kR o.k1 o.hk1).toLoadRect (View.loadsAt_vmem h_S1x1024x1x128)) fun k1 =>
  .op (.load vM (kR o.k1 o.hk1).toLoadRect (View.loadsAt_vmem h_S1x1024x1x128)) fun v1 =>
  groupP o (qV x wq) (kV k1) (kV v1) 4 5 6 7 <|
  castP o k

/-- The offsets of the batch `1 + r` after the own one. -/
def boff (d : Dev nD) (r : Fin 3) : BOff where
  x := k0_off1 d (BitVec.ofNat 32 (1 + r.val))
  hx := k0_off1_inb d r
  k0 := k0_off2 d (BitVec.ofNat 32 (1 + r.val))
  hk0 := k0_off2_inb d r
  k1 := k0_off11 d (BitVec.ofNat 32 (1 + r.val))
  hk1 := k0_off11_inb d r
  A := ![k0_off3 d (BitVec.ofNat 32 (1 + r.val)), k0_off5 d (BitVec.ofNat 32 (1 + r.val)), k0_off7 d (BitVec.ofNat 32 (1 + r.val)), k0_off9 d (BitVec.ofNat 32 (1 + r.val)), k0_off12 d (BitVec.ofNat 32 (1 + r.val)), k0_off14 d (BitVec.ofNat 32 (1 + r.val)), k0_off16 d (BitVec.ofNat 32 (1 + r.val)), k0_off18 d (BitVec.ofNat 32 (1 + r.val))]
  hA := fun h => match h with
    | 0 => k0_off3_inb d r
    | 1 => k0_off5_inb d r
    | 2 => k0_off7_inb d r
    | 3 => k0_off9_inb d r
    | 4 => k0_off12_inb d r
    | 5 => k0_off14_inb d r
    | 6 => k0_off16_inb d r
    | 7 => k0_off18_inb d r
  L := ![k0_off4 d (BitVec.ofNat 32 (1 + r.val)), k0_off6 d (BitVec.ofNat 32 (1 + r.val)), k0_off8 d (BitVec.ofNat 32 (1 + r.val)), k0_off10 d (BitVec.ofNat 32 (1 + r.val)), k0_off13 d (BitVec.ofNat 32 (1 + r.val)), k0_off15 d (BitVec.ofNat 32 (1 + r.val)), k0_off17 d (BitVec.ofNat 32 (1 + r.val)), k0_off19 d (BitVec.ofNat 32 (1 + r.val))]
  hL := fun h => match h with
    | 0 => k0_off4_inb d r
    | 1 => k0_off6_inb d r
    | 2 => k0_off8_inb d r
    | 3 => k0_off10_inb d r
    | 4 => k0_off13_inb d r
    | 5 => k0_off15_inb d r
    | 6 => k0_off17_inb d r
    | 7 => k0_off19_inb d r
  r := k0_off20 d (BitVec.ofNat 32 (1 + r.val))
  hr := k0_off20_inb d r
  hp := k0_off20_packedbf16 d r

/-- The offsets of the own batch. -/
def boff0 (d : Dev nD) : BOff where
  x := k0_off25 d
  hx := k0_off25_inb d
  k0 := k0_off26 d
  hk0 := k0_off26_inb d
  k1 := k0_off35 d
  hk1 := k0_off35_inb d
  A := ![k0_off27 d, k0_off29 d, k0_off31 d, k0_off33 d, k0_off36 d, k0_off38 d, k0_off40 d, k0_off42 d]
  hA := fun h => match h with
    | 0 => k0_off27_inb d
    | 1 => k0_off29_inb d
    | 2 => k0_off31_inb d
    | 3 => k0_off33_inb d
    | 4 => k0_off36_inb d
    | 5 => k0_off38_inb d
    | 6 => k0_off40_inb d
    | 7 => k0_off42_inb d
  L := ![k0_off28 d, k0_off30 d, k0_off32 d, k0_off34 d, k0_off37 d, k0_off39 d, k0_off41 d, k0_off43 d]
  hL := fun h => match h with
    | 0 => k0_off28_inb d
    | 1 => k0_off30_inb d
    | 2 => k0_off32_inb d
    | 3 => k0_off34_inb d
    | 4 => k0_off37_inb d
    | 5 => k0_off39_inb d
    | 6 => k0_off41_inb d
    | 7 => k0_off43_inb d
  r := k0_off44 d
  hr := k0_off44_inb d
  hp := k0_off44_packedbf16 d

/-! ### The reduction streams -/

theorem inb3 {n : Nat} (t : Fin n) (s : Fin 4) :
    ∀ a, (![t.val, 16 * s.val, 0] : Fin 3 → Nat) a + S1x16x1152.size a ≤ (⟨3, ![n, 64, 1152]⟩ : Shape).size a := by
  intro a
  have := t.isLt; have := s.isLt
  fin_cases a
  · show t.val + 1 ≤ n; omega
  · show 16 * s.val + 16 ≤ 64; omega
  · show 0 + 1152 ≤ 1152; omega

/-- Sixteen rows of one slot of a landing buffer. -/
abbrev slotR {n : Nat} (t : Fin n) (s : Fin 4) : Rect ⟨3, ![n, 64, 1152]⟩ :=
  Rect.unit (s := ⟨3, ![n, 64, 1152]⟩) ![t.val, 16 * s.val, 0] S1x16x1152.size (inb3 t s)

theorem lwords (t : Fin 8) (s : Fin 4) : (slotR t s).WholeWords (EltTy.packing .bf16) := by
  revert t s; decide
theorem rwords (t : Fin 7) (s : Fin 4) : (slotR t s).WholeWords (EltTy.packing .bf16) := by
  revert t s; decide

/-- The landing slot of one copy of the left-going stream. -/
abbrev lbS (t : Fin 8) (s : Fin 4) : Memref sig .tc .vmem S16x1152 .bf16 :=
  ((lbM.slice (slotR t s) (fun _ => rfl) : Memref sig .tc .vmem S1x16x1152 .bf16)).squeeze S16x1152 squeezes_S1x16x1152_S16x1152
/-- The landing slot of one copy of the right-going stream. -/
abbrev rbS (t : Fin 7) (s : Fin 4) : Memref sig .tc .vmem S16x1152 .bf16 :=
  ((rbM.slice (slotR t s) (fun _ => rfl) : Memref sig .tc .vmem S1x16x1152 .bf16)).squeeze S16x1152 squeezes_S1x16x1152_S16x1152

theorem lbS_exact (t : Fin 8) (s : Fin 4) : (lbS t s).view.WordExact :=
  ((Memref.isWhole_whole cc0_scratch2).wordExact_slice rfl _ (lwords t s)).reshape _ _
theorem rbS_exact (t : Fin 7) (s : Fin 4) : (rbS t s).view.WordExact :=
  ((Memref.isWhole_whole cc0_scratch3).wordExact_slice rfl _ (rwords t s)).reshape _ _

abbrev rowR (o : Fin 2 → Nat) (h : ∀ a, o a + S16x1152.size a ≤ S1024x1152.size a) : Rect S1024x1152 :=
  Rect.unit (s := S1024x1152) o S16x1152.size h
/-- Sixteen rows of the buffer the sums are sent from. -/
abbrev sbS (o : Fin 2 → Nat) (h : ∀ a, o a + S16x1152.size a ≤ S1024x1152.size a) : Memref sig .tc .vmem S16x1152 .bf16 :=
  sbM.slice (rowR o h) (fun _ => rfl)
theorem sbS_exact (o : Fin 2 → Nat) (h : ∀ a, o a + S16x1152.size a ≤ S1024x1152.size a)
    (hw : (rowR o h).WholeWords (EltTy.packing .bf16)) : (sbS o h).view.WordExact :=
  (Memref.isWhole_whole cc0_scratch1).wordExact_slice rfl _ hw

theorem inb1 {n : Nat} (i : Fin n) : ∀ a, (![i.val] : Fin 1 → Nat) a + S1.size a ≤ (⟨1, ![n]⟩ : Shape).size a := by
  intro a
  have := i.isLt
  fin_cases a
  show i.val + 1 ≤ n; omega

/-- One semaphore of an array. -/
abbrev semA {n : Nat} (a : DmaSems sig ⟨1, ![n]⟩) (i : Fin n) : DmaSem sig :=
  ((a.slice (Rect.unit (s := ⟨1, ![n]⟩) ![i.val] S1.size (inb1 i)) : DmaSems sig S1).squeeze S_ squeezes_S1_S_).sem

abbrev sx4 {n : Nat} (t : Fin n) (s : Fin 4) : Fin (4 * n) := ⟨4 * t.val + s.val, by omega⟩
abbrev sx2 {n : Nat} (t : Fin n) (s : Fin 2) : Fin (2 * n) := ⟨2 * t.val + s.val, by omega⟩

abbrev lSend (t : Fin 8) (s : Fin 4) : DmaSem sig := semA (n := 32) cc0_scratch6 (sx4 t s)
abbrev lRecv (t : Fin 8) (s : Fin 4) : DmaSem sig := semA (n := 32) cc0_scratch7 (sx4 t s)
abbrev rSend (t : Fin 7) (s : Fin 4) : DmaSem sig := semA (n := 28) cc0_scratch8 (sx4 t s)
abbrev rRecv (t : Fin 7) (s : Fin 4) : DmaSem sig := semA (n := 28) cc0_scratch9 (sx4 t s)
abbrev aSend (t : Fin 8) (s : Fin 2) : DmaSem sig := semA (n := 16) cc0_scratch10 (sx2 t s)
abbrev aRecv (t : Fin 8) (s : Fin 2) : DmaSem sig := semA (n := 16) cc0_scratch11 (sx2 t s)
abbrev bSend (t : Fin 7) (s : Fin 2) : DmaSem sig := semA (n := 14) cc0_scratch12 (sx2 t s)
abbrev bRecv (t : Fin 7) (s : Fin 2) : DmaSem sig := semA (n := 14) cc0_scratch13 (sx2 t s)

/-- A copy started towards a neighbour. -/
def startP {sh : Shape} (src dst : Memref sig .tc .vmem sh .bf16) (hs : src.view.WordExact) (hd : dst.view.WordExact)
    (dev : Dev nD) (ss rs : DmaSem sig) (k : PG F) : PG F :=
  .op (.enqueueDma src (.remote (Dev.tc dev) dst (.dma ss)) (.dma rs) hs hd ⟨⟨rfl, Or.inl rfl⟩, trivial⟩) fun _ => k

/-- The waits for a copy sent and for the copy of the same number received. -/
def waitP {sh : Shape} (src dst : Memref sig .tc .vmem sh .bf16) (hs : src.view.WordExact) (hd : dst.view.WordExact)
    (ss rs : DmaSem sig) (k : PG F) : PG F :=
  .op (.waitDma2 ss dst src hd hs) fun _ =>
  .op (.waitDma2 rs src dst hs hd) fun _ => k

/-- The received rows added into the rows sent on. -/
def accP {n : Nat} (b : Memref sig .tc .vmem ⟨3, ![n, 64, 1152]⟩ .bf16) (t : Fin n) (s : Fin 4)
    (o : Fin 2 → Nat) (h : ∀ a, o a + S16x1152.size a ≤ S1024x1152.size a)
    (hp : (rowR o h).PackedRows (EltTy.packing .bf16)) (k : PG F) : PG F :=
  .op (.load sbM (rowR o h).toLoadRect (View.loadsAt_vmem h_S16x1152)) fun x =>
  .op (.load b (slotR t s).toLoadRect (View.loadsAt_vmem h_S1x16x1152)) fun y =>
  .op (.load sbM (rowR o h).toLoadRect (View.loadsAt_vmem h_S16x1152)) fun _ =>
  .op (.store sbM (rowR o h) (accV x y) Finset.univ
    (View.stores_vmem h_S16x1152 ((Memref.isWhole_whole _).storeExact_slice rfl _ hp) (fun _ => rfl)) (.inl rfl)) fun _ => k

/-- The received rows added into the finished chunk. -/
def finP {n : Nat} (b : Memref sig .tc .vmem ⟨3, ![n, 64, 1152]⟩ .bf16) (t : Fin n) (s : Fin 4)
    (o : Fin 2 → Nat) (h : ∀ a, o a + S16x1152.size a ≤ S1024x1152.size a) (k : PG F) : PG F :=
  .op (.load sM (rowR o h).toLoadRect (View.loadsAt_vmem h_S16x1152)) fun x =>
  .op (.load b (slotR t s).toLoadRect (View.loadsAt_vmem h_S1x16x1152)) fun y =>
  .op (.load sM (rowR o h).toLoadRect (View.loadsAt_vmem h_S16x1152)) fun _ =>
  .op (.store sM (rowR o h) (finV x y) Finset.univ (View.stores_vmem_bits_univ h_S16x1152 rfl) (.inl rfl)) fun _ => k

def lDev (d : Dev nD) (t : Fin 8) (s : Fin 4) : Dev nD :=
  (![![⟨k0_dev3 d, k0_dev3_lt d⟩, ⟨k0_dev5 d, k0_dev5_lt d⟩, ⟨k0_dev7 d, k0_dev7_lt d⟩, ⟨k0_dev9 d, k0_dev9_lt d⟩],
     ![⟨k0_dev11 d, k0_dev11_lt d⟩, ⟨k0_dev13 d, k0_dev13_lt d⟩, ⟨k0_dev15 d, k0_dev15_lt d⟩, ⟨k0_dev17 d, k0_dev17_lt d⟩],
     ![⟨k0_dev19 d, k0_dev19_lt d⟩, ⟨k0_dev21 d, k0_dev21_lt d⟩, ⟨k0_dev23 d, k0_dev23_lt d⟩, ⟨k0_dev25 d, k0_dev25_lt d⟩],
     ![⟨k0_dev27 d, k0_dev27_lt d⟩, ⟨k0_dev29 d, k0_dev29_lt d⟩, ⟨k0_dev31 d, k0_dev31_lt d⟩, ⟨k0_dev33 d, k0_dev33_lt d⟩],
     ![⟨k0_dev35 d, k0_dev35_lt d⟩, ⟨k0_dev37 d, k0_dev37_lt d⟩, ⟨k0_dev39 d, k0_dev39_lt d⟩, ⟨k0_dev41 d, k0_dev41_lt d⟩],
     ![⟨k0_dev43 d, k0_dev43_lt d⟩, ⟨k0_dev45 d, k0_dev45_lt d⟩, ⟨k0_dev47 d, k0_dev47_lt d⟩, ⟨k0_dev49 d, k0_dev49_lt d⟩],
     ![⟨k0_dev51 d, k0_dev51_lt d⟩, ⟨k0_dev53 d, k0_dev53_lt d⟩, ⟨k0_dev55 d, k0_dev55_lt d⟩, ⟨k0_dev57 d, k0_dev57_lt d⟩],
     ![⟨k0_dev59 d, k0_dev59_lt d⟩, ⟨k0_dev60 d, k0_dev60_lt d⟩, ⟨k0_dev61 d, k0_dev61_lt d⟩, ⟨k0_dev62 d, k0_dev62_lt d⟩]] : Fin 8 → Fin 4 → Dev nD) t s

def rDev (d : Dev nD) (t : Fin 7) (s : Fin 4) : Dev nD :=
  (![![⟨k0_dev4 d, k0_dev4_lt d⟩, ⟨k0_dev6 d, k0_dev6_lt d⟩, ⟨k0_dev8 d, k0_dev8_lt d⟩, ⟨k0_dev10 d, k0_dev10_lt d⟩],
     ![⟨k0_dev12 d, k0_dev12_lt d⟩, ⟨k0_dev14 d, k0_dev14_lt d⟩, ⟨k0_dev16 d, k0_dev16_lt d⟩, ⟨k0_dev18 d, k0_dev18_lt d⟩],
     ![⟨k0_dev20 d, k0_dev20_lt d⟩, ⟨k0_dev22 d, k0_dev22_lt d⟩, ⟨k0_dev24 d, k0_dev24_lt d⟩, ⟨k0_dev26 d, k0_dev26_lt d⟩],
     ![⟨k0_dev28 d, k0_dev28_lt d⟩, ⟨k0_dev30 d, k0_dev30_lt d⟩, ⟨k0_dev32 d, k0_dev32_lt d⟩, ⟨k0_dev34 d, k0_dev34_lt d⟩],
     ![⟨k0_dev36 d, k0_dev36_lt d⟩, ⟨k0_dev38 d, k0_dev38_lt d⟩, ⟨k0_dev40 d, k0_dev40_lt d⟩, ⟨k0_dev42 d, k0_dev42_lt d⟩],
     ![⟨k0_dev44 d, k0_dev44_lt d⟩, ⟨k0_dev46 d, k0_dev46_lt d⟩, ⟨k0_dev48 d, k0_dev48_lt d⟩, ⟨k0_dev50 d, k0_dev50_lt d⟩],
     ![⟨k0_dev52 d, k0_dev52_lt d⟩, ⟨k0_dev54 d, k0_dev54_lt d⟩, ⟨k0_dev56 d, k0_dev56_lt d⟩, ⟨k0_dev58 d, k0_dev58_lt d⟩]] : Fin 7 → Fin 4 → Dev nD) t s

def aDev (d : Dev nD) (t : Fin 8) (s : Fin 2) : Dev nD :=
  (![![⟨k0_dev63 d, k0_dev63_lt d⟩, ⟨k0_dev65 d, k0_dev65_lt d⟩],
     ![⟨k0_dev67 d, k0_dev67_lt d⟩, ⟨k0_dev69 d, k0_dev69_lt d⟩],
     ![⟨k0_dev71 d, k0_dev71_lt d⟩, ⟨k0_dev73 d, k0_dev73_lt d⟩],
     ![⟨k0_dev75 d, k0_dev75_lt d⟩, ⟨k0_dev77 d, k0_dev77_lt d⟩],
     ![⟨k0_dev79 d, k0_dev79_lt d⟩, ⟨k0_dev81 d, k0_dev81_lt d⟩],
     ![⟨k0_dev83 d, k0_dev83_lt d⟩, ⟨k0_dev85 d, k0_dev85_lt d⟩],
     ![⟨k0_dev87 d, k0_dev87_lt d⟩, ⟨k0_dev89 d, k0_dev89_lt d⟩],
     ![⟨k0_dev91 d, k0_dev91_lt d⟩, ⟨k0_dev92 d, k0_dev92_lt d⟩]] : Fin 8 → Fin 2 → Dev nD) t s

def bDev (d : Dev nD) (t : Fin 7) (s : Fin 2) : Dev nD :=
  (![![⟨k0_dev64 d, k0_dev64_lt d⟩, ⟨k0_dev66 d, k0_dev66_lt d⟩],
     ![⟨k0_dev68 d, k0_dev68_lt d⟩, ⟨k0_dev70 d, k0_dev70_lt d⟩],
     ![⟨k0_dev72 d, k0_dev72_lt d⟩, ⟨k0_dev74 d, k0_dev74_lt d⟩],
     ![⟨k0_dev76 d, k0_dev76_lt d⟩, ⟨k0_dev78 d, k0_dev78_lt d⟩],
     ![⟨k0_dev80 d, k0_dev80_lt d⟩, ⟨k0_dev82 d, k0_dev82_lt d⟩],
     ![⟨k0_dev84 d, k0_dev84_lt d⟩, ⟨k0_dev86 d, k0_dev86_lt d⟩],
     ![⟨k0_dev88 d, k0_dev88_lt d⟩, ⟨k0_dev90 d, k0_dev90_lt d⟩]] : Fin 7 → Fin 2 → Dev nD) t s

abbrev w32 (n : Nat) : BitVec 32 := BitVec.ofNat 32 n

/-- The rows a copy of the left-going stream is sent from. -/
abbrev lSrc (d : Dev nD) (t : Fin 8) (s : Fin 4) : Memref sig .tc .vmem S16x1152 .bf16 :=
  sbS (k0_off21 d (w32 t.val) (w32 (16 * s.val))) (k0_off21_inb d t s)
abbrev rSrc (d : Dev nD) (t : Fin 7) (s : Fin 4) : Memref sig .tc .vmem S16x1152 .bf16 :=
  sbS (k0_off22 d (w32 t.val) (w32 (16 * s.val))) (k0_off22_inb d t s)

def startL (d : Dev nD) (t : Fin 8) (s : Fin 4) (k : PG F) : PG F :=
  startP (lSrc d t s) (lbS t s) (sbS_exact _ _ (k0_off21_wordsbf16 d t s)) (lbS_exact t s) (lDev d t s) (lSend t s) (lRecv t s) k
def startR (d : Dev nD) (t : Fin 7) (s : Fin 4) (k : PG F) : PG F :=
  startP (rSrc d t s) (rbS t s) (sbS_exact _ _ (k0_off22_wordsbf16 d t s)) (rbS_exact t s) (rDev d t s) (rSend t s) (rRecv t s) k
def waitL (d : Dev nD) (t : Fin 8) (s : Fin 4) (k : PG F) : PG F :=
  waitP (lSrc d t s) (lbS t s) (sbS_exact _ _ (k0_off21_wordsbf16 d t s)) (lbS_exact t s) (lSend t s) (lRecv t s) k
def waitR (d : Dev nD) (t : Fin 7) (s : Fin 4) (k : PG F) : PG F :=
  waitP (rSrc d t s) (rbS t s) (sbS_exact _ _ (k0_off22_wordsbf16 d t s)) (rbS_exact t s) (rSend t s) (rRecv t s) k

/-- One step of the left-going stream: received, added, sent on. -/
def fwdL (d : Dev nD) (t : Fin 7) (s : Fin 4) (k : PG F) : PG F :=
  waitL d t.castSucc s <|
  accP lbM t.castSucc s (k0_off23 d (w32 t.val) (w32 (16 * s.val))) (k0_off23_inb d t.castSucc s)
    (k0_off23_packedbf16 d t.castSucc s) <|
  startL d t.succ s k
def fwdR (d : Dev nD) (t : Fin 6) (s : Fin 4) (k : PG F) : PG F :=
  waitR d t.castSucc s <|
  accP rbM t.castSucc s (k0_off24 d (w32 t.val) (w32 (16 * s.val))) (k0_off24_inb d t.castSucc s)
    (k0_off24_packedbf16 d t.castSucc s) <|
  startR d t.succ s k
/-- The last step of each stream: received and added into the finished chunk. -/
def lastL (d : Dev nD) (s : Fin 4) (k : PG F) : PG F :=
  waitL d 7 s <| finP lbM 7 s (k0_off23 d (w32 7) (w32 (16 * s.val))) (k0_off23_inb d 7 s) k
def lastR (d : Dev nD) (s : Fin 4) (k : PG F) : PG F :=
  waitR d 6 s <| finP rbM 6 s (k0_off24 d (w32 6) (w32 (16 * s.val))) (k0_off24_inb d 6 s) k

/-- The first copies of the two streams. -/
def startsP (d : Dev nD) (k : PG F) : PG F :=
  startL d 0 0 <| startR d 0 0 <| startL d 0 1 <| startR d 0 1 <|
  startL d 0 2 <| startR d 0 2 <| startL d 0 3 <| startR d 0 3 k
/-- A step of both streams. -/
def stepP (d : Dev nD) (t : Fin 6) (k : PG F) : PG F :=
  fwdL d t.castSucc 0 <| fwdR d t 0 <| fwdL d t.castSucc 1 <| fwdR d t 1 <|
  fwdL d t.castSucc 2 <| fwdR d t 2 <| fwdL d t.castSucc 3 <| fwdR d t 3 k
def step6P (d : Dev nD) (k : PG F) : PG F :=
  fwdL d 6 0 <| lastR d 0 <| fwdL d 6 1 <| lastR d 1 <|
  fwdL d 6 2 <| lastR d 2 <| fwdL d 6 3 <| lastR d 3 k
def step7P (d : Dev nD) (k : PG F) : PG F :=
  lastL d 0 <| lastL d 1 <| lastL d 2 <| lastL d 3 k

/-! ### The finished chunk -/

theorem inbN (h : Fin 8) : ∀ a, (![0, 128 * h.val] : Fin 2 → Nat) a + S64x128.size a ≤ S64x1024.size a := by
  revert h; decide

abbrev naR (o : Fin 2 → Nat) (h : ∀ a, o a + S64x128.size a ≤ S1024x1152.size a) : Rect S1024x1152 :=
  Rect.unit (s := S1024x1152) o S64x128.size h
abbrev nlR (o : Fin 2 → Nat) (h : ∀ a, o a + S64x1.size a ≤ S1024x1152.size a) : Rect S1024x1152 :=
  Rect.unit (s := S1024x1152) o S64x1.size h
abbrev nbR (h : Fin 8) : Rect S64x1024 := Rect.unit (s := S64x1024) ![0, 128 * h.val] S64x128.size (inbN h)
abbrev oR (o : Fin 2 → Nat) (h : ∀ a, o a + S64x1024.size a ≤ S1024x1024.size a) : Rect S1024x1024 :=
  Rect.unit (s := S1024x1024) o S64x1024.size h
abbrev nwR : Rect S64x1024 := Rect.unit (s := S64x1024) ![0, 0] S64x1024.size inb_S64x1024_S64x1024_0_0

def normP (h : Fin 8) (oa : Fin 2 → Nat) (ha : ∀ a, oa a + S64x128.size a ≤ S1024x1152.size a)
    (ol : Fin 2 → Nat) (hl : ∀ a, ol a + S64x1.size a ≤ S1024x1152.size a) (k : PG F) : PG F :=
  .op (.load sM (naR oa ha).toLoadRect (View.loadsAt_vmem h_S64x128)) fun a =>
  .op (.load sM (nlR ol hl).toLoadRect (View.loadsAt_vmem h_S64x1)) fun l =>
  .op (.load nbM (nbR h).toLoadRect (View.loadsAt_vmem h_S64x128)) fun _ =>
  .op (.store nbM (nbR h) (nV a l) Finset.univ (View.stores_vmem_bits_univ h_S64x128 rfl) (.inl rfl)) fun _ => k

def noA (d : Dev nD) : Fin 8 → Fin 2 → Nat := ![k0_off45 d, k0_off47 d, k0_off49 d, k0_off51 d, k0_off53 d, k0_off55 d, k0_off57 d, k0_off59 d]
theorem noA_inb (d : Dev nD) (h : Fin 8) : ∀ a, noA d h a + S64x128.size a ≤ S1024x1152.size a := match h with
    | 0 => k0_off45_inb d
    | 1 => k0_off47_inb d
    | 2 => k0_off49_inb d
    | 3 => k0_off51_inb d
    | 4 => k0_off53_inb d
    | 5 => k0_off55_inb d
    | 6 => k0_off57_inb d
    | 7 => k0_off59_inb d
def noL (d : Dev nD) : Fin 8 → Fin 2 → Nat := ![k0_off46 d, k0_off48 d, k0_off50 d, k0_off52 d, k0_off54 d, k0_off56 d, k0_off58 d, k0_off60 d]
theorem noL_inb (d : Dev nD) (h : Fin 8) : ∀ a, noL d h a + S64x1.size a ≤ S1024x1152.size a := match h with
    | 0 => k0_off46_inb d
    | 1 => k0_off48_inb d
    | 2 => k0_off50_inb d
    | 3 => k0_off52_inb d
    | 4 => k0_off54_inb d
    | 5 => k0_off56_inb d
    | 6 => k0_off58_inb d
    | 7 => k0_off60_inb d

def projP (o : Fin 2 → Nat) (h : ∀ a, o a + S64x1024.size a ≤ S1024x1024.size a)
    (hp : (oR o h).PackedRows (EltTy.packing .bf16)) (k : PG F) : PG F :=
  .op (.load nbM nwR.toLoadRect (View.loadsAt_vmem h_S64x1024)) fun n =>
  .op (.load woM wR.toLoadRect (View.loadsAt_vmem h_S1024x1024)) fun wo =>
  .op (.load oM (oR o h).toLoadRect (View.loadsAt_vmem h_S64x1024)) fun _ =>
  .op (.store oM (oR o h) (oV n wo) Finset.univ (View.stores_vmem_bits_univ h_S64x1024 rfl) (.inl rfl)) fun _ =>
  .op (.load obM (oR o h).toLoadRect (View.loadsAt_vmem h_S64x1024)) fun _ =>
  .op (.store obM (oR o h) (obV (oV n wo)) Finset.univ
    (View.stores_vmem h_S64x1024 ((Memref.isWhole_whole _).storeExact_slice rfl _ hp) (fun _ => rfl)) (.inl rfl)) fun _ => k

def chunkP (d : Dev nD) (k : PG F) : PG F :=
  normP 0 (noA d 0) (noA_inb d 0) (noL d 0) (noL_inb d 0) <|
  normP 1 (noA d 1) (noA_inb d 1) (noL d 1) (noL_inb d 1) <|
  normP 2 (noA d 2) (noA_inb d 2) (noL d 2) (noL_inb d 2) <|
  normP 3 (noA d 3) (noA_inb d 3) (noL d 3) (noL_inb d 3) <|
  normP 4 (noA d 4) (noA_inb d 4) (noL d 4) (noL_inb d 4) <|
  normP 5 (noA d 5) (noA_inb d 5) (noL d 5) (noL_inb d 5) <|
  normP 6 (noA d 6) (noA_inb d 6) (noL d 6) (noL_inb d 6) <|
  normP 7 (noA d 7) (noA_inb d 7) (noL d 7) (noL_inb d 7) <|
  projP (k0_off61 d) (k0_off61_inb d) (k0_off61_packedbf16 d) k

/-! ### The gathering streams -/

abbrev pieR (o : Fin 2 → Nat) (h : ∀ a, o a + S32x1024.size a ≤ S1024x1024.size a) : Rect S1024x1024 :=
  Rect.unit (s := S1024x1024) o S32x1024.size h
/-- Thirty-two rows of the buffer the projections travel in. -/
abbrev obS (o : Fin 2 → Nat) (h : ∀ a, o a + S32x1024.size a ≤ S1024x1024.size a) : Memref sig .tc .vmem S32x1024 .bf16 :=
  obM.slice (pieR o h) (fun _ => rfl)
theorem obS_exact (o : Fin 2 → Nat) (h : ∀ a, o a + S32x1024.size a ≤ S1024x1024.size a)
    (hw : (pieR o h).WholeWords (EltTy.packing .bf16)) : (obS o h).view.WordExact :=
  (Memref.isWhole_whole cc0_scratch5).wordExact_slice rfl _ hw

abbrev aPie (d : Dev nD) (t : Fin 8) (s : Fin 2) : Memref sig .tc .vmem S32x1024 .bf16 :=
  obS (k0_off62 d (w32 t.val) (w32 (32 * s.val))) (k0_off62_inb d t s)
abbrev bPie (d : Dev nD) (t : Fin 7) (s : Fin 2) : Memref sig .tc .vmem S32x1024 .bf16 :=
  obS (k0_off63 d (w32 t.val) (w32 (32 * s.val))) (k0_off63_inb d t s)

def startA (d : Dev nD) (t : Fin 8) (s : Fin 2) (k : PG F) : PG F :=
  startP (aPie d t s) (aPie d t s) (obS_exact _ _ (k0_off62_wordsbf16 d t s)) (obS_exact _ _ (k0_off62_wordsbf16 d t s))
    (aDev d t s) (aSend t s) (aRecv t s) k
def startB (d : Dev nD) (t : Fin 7) (s : Fin 2) (k : PG F) : PG F :=
  startP (bPie d t s) (bPie d t s) (obS_exact _ _ (k0_off63_wordsbf16 d t s)) (obS_exact _ _ (k0_off63_wordsbf16 d t s))
    (bDev d t s) (bSend t s) (bRecv t s) k
def waitA (d : Dev nD) (t : Fin 8) (s : Fin 2) (k : PG F) : PG F :=
  waitP (aPie d t s) (aPie d t s) (obS_exact _ _ (k0_off62_wordsbf16 d t s)) (obS_exact _ _ (k0_off62_wordsbf16 d t s))
    (aSend t s) (aRecv t s) k
def waitB (d : Dev nD) (t : Fin 7) (s : Fin 2) (k : PG F) : PG F :=
  waitP (bPie d t s) (bPie d t s) (obS_exact _ _ (k0_off63_wordsbf16 d t s)) (obS_exact _ _ (k0_off63_wordsbf16 d t s))
    (bSend t s) (bRecv t s) k

/-- A received piece widened into the result. -/
def copyP (o : Fin 2 → Nat) (h : ∀ a, o a + S32x1024.size a ≤ S1024x1024.size a) (k : PG F) : PG F :=
  .op (.load obM (pieR o h).toLoadRect (View.loadsAt_vmem h_S32x1024)) fun x =>
  .op (.load oM (pieR o h).toLoadRect (View.loadsAt_vmem h_S32x1024)) fun _ =>
  .op (.store oM (pieR o h) (wV x) Finset.univ (View.stores_vmem_bits_univ h_S32x1024 rfl) (.inl rfl)) fun _ => k

def copyA (d : Dev nD) (t : Fin 8) (s : Fin 2) (k : PG F) : PG F :=
  copyP (k0_off64 d (w32 t.val) (w32 (32 * s.val))) (k0_off64_inb d t s) k
def copyB (d : Dev nD) (t : Fin 7) (s : Fin 2) (k : PG F) : PG F :=
  copyP (k0_off65 d (w32 t.val) (w32 (32 * s.val))) (k0_off65_inb d t s) k

def fwdA (d : Dev nD) (t : Fin 7) (s : Fin 2) (k : PG F) : PG F :=
  waitA d t.castSucc s <| startA d t.succ s <| copyA d t.castSucc s k
def fwdB (d : Dev nD) (t : Fin 6) (s : Fin 2) (k : PG F) : PG F :=
  waitB d t.castSucc s <| startB d t.succ s <| copyB d t.castSucc s k
def lastA (d : Dev nD) (s : Fin 2) (k : PG F) : PG F := waitA d 7 s <| copyA d 7 s k
def lastB (d : Dev nD) (s : Fin 2) (k : PG F) : PG F := waitB d 6 s <| copyB d 6 s k

def startsG (d : Dev nD) (k : PG F) : PG F := startA d 0 0 <| startB d 0 0 <| startA d 0 1 <| startB d 0 1 k
def gstepP (d : Dev nD) (t : Fin 6) (k : PG F) : PG F :=
  fwdA d t.castSucc 0 <| fwdB d t 0 <| fwdA d t.castSucc 1 <| fwdB d t 1 k
def gstep6P (d : Dev nD) (k : PG F) : PG F := fwdA d 6 0 <| lastB d 0 <| fwdA d 6 1 <| lastB d 1 k
def gstep7P (d : Dev nD) (k : PG F) : PG F := lastA d 0 <| lastA d 1 k

/-! ### The whole body -/

abbrev barSem : Sem sig := (SemArray.scalar (sig.barrier 0 rfl) : Sems sig S_).sem

/-- The barrier: a unit to each neighbour, two units awaited. -/
def barP (d : Dev nD) (k : PG F) : PG F :=
  semSignalWord (⟨k0_dev1 d, k0_dev1_lt d⟩ : Dev nD) barSem 1#32 >>= fun _ =>
  semSignalWord (⟨k0_dev2 d, k0_dev2_lt d⟩ : Dev nD) barSem 1#32 >>= fun _ =>
  semWaitWord barSem 2#32 >>= fun _ => k

def bodyP (d : Dev nD) : PG F :=
  barP d <|
  batchP (boff d 1) <| batchP (boff d 2) <| startsP d <| batchP (boff d 0) <| stepP d 0 <| batchP (boff0 d) <|
  stepP d 1 <| stepP d 2 <| stepP d 3 <| stepP d 4 <| stepP d 5 <| step6P d <| step7P d <|
  chunkP d <|
  startsG d <| gstepP d 0 <| gstepP d 1 <| gstepP d 2 <| gstepP d 3 <| gstepP d 4 <| gstepP d 5 <|
  gstep6P d <| gstep7P d <| .ret ⟨⟩

theorem body_eq : cc0_body (F := F) xM (Memref.isWhole_whole _) wqM (Memref.isWhole_whole _) woM (Memref.isWhole_whole _)
    kM (Memref.isWhole_whole _) vM (Memref.isWhole_whole _) oM (Memref.isWhole_whole _) sM (Memref.isWhole_whole _)
    sbM (Memref.isWhole_whole _) lbM (Memref.isWhole_whole _) rbM (Memref.isWhole_whole _) nbM (Memref.isWhole_whole _)
    obM (Memref.isWhole_whole _) cc0_scratch6 cc0_scratch7 cc0_scratch8 cc0_scratch9 cc0_scratch10 cc0_scratch11
    cc0_scratch12 cc0_scratch13 = .op .deviceId fun d => bodyP d := by
  chain_rfl

end Cert.KernelIdeal.Ring
end
-- ==== Proof.Topo.lean ====
module

public import proofs.«01_k».proof.Proof.Struct

/-! The ring the kernel runs on: each device's place on it, its two neighbours, and the rows, slots
and devices of every access in terms of that place. -/

@[expose] public section

noncomputable section

namespace Cert.KernelIdeal.Ring

open Idealize.ShloMosaic Idealize.SL.Sem
open Facts₀ Facts
open Cert.KernelIdeal.Gen (facts facts₀)

/-- A device's place on the ring. -/
def pos (d : Dev nD) : ℕ := (![0, 15, 8, 7, 1, 14, 9, 6, 2, 13, 10, 5, 3, 12, 11, 4] : Fin 16 → ℕ) d
/-- The device at a place. -/
def atP (p : ℕ) : Dev nD :=
  (![0, 4, 8, 12, 15, 11, 7, 3, 2, 6, 10, 14, 13, 9, 5, 1] : Fin 16 → Fin 16) ⟨p % 16, Nat.mod_lt _ (by decide)⟩
/-- The next device on the ring. -/
def rd (d : Dev nD) : Dev nD := atP (pos d + 1)
/-- The previous device on the ring. -/
def ld (d : Dev nD) : Dev nD := atP (pos d + 15)
/-- The chunk `e` places after the device's own. -/
def ch (d : Dev nD) (e : ℕ) : ℕ := (pos d + e) % 16

theorem pos_lt (d : Dev nD) : pos d < 16 := by revert d; decide
theorem pos_atP (p : ℕ) : pos (atP p) = p % 16 := by
  have h : ∀ i : Fin 16, pos (atP i.val) = i.val := by decide
  have h2 := h ⟨p % 16, Nat.mod_lt _ (by decide)⟩
  simp only [atP, Nat.mod_mod] at h2 ⊢
  exact h2
theorem atP_pos (d : Dev nD) : atP (pos d) = d := by revert d; decide
theorem pos_inj {d d' : Dev nD} (h : pos d = pos d') : d = d' := by rw [← atP_pos d, h, atP_pos]
theorem pos_rd (d : Dev nD) : pos (rd d) = (pos d + 1) % 16 := pos_atP _
theorem pos_ld (d : Dev nD) : pos (ld d) = (pos d + 15) % 16 := pos_atP _
theorem rd_ld (d : Dev nD) : rd (ld d) = d := by revert d; decide
theorem ld_rd (d : Dev nD) : ld (rd d) = d := by revert d; decide
theorem rd_ne_ld (d : Dev nD) : rd d ≠ ld d := by revert d; decide
theorem ch_rd (d : Dev nD) (e : ℕ) : ch (rd d) e = ch d (e + 1) := by
  unfold ch; rw [pos_rd]; omega
theorem ch_ld (d : Dev nD) (e : ℕ) : ch (ld d) (e + 1) = ch d e := by
  unfold ch; rw [pos_ld]; omega
theorem ch_lt (d : Dev nD) (e : ℕ) : ch d e < 16 := Nat.mod_lt _ (by decide)
theorem ch_mod (d : Dev nD) (e : ℕ) : ch d (e + 16) = ch d e := by unfold ch; omega

def ring : Dev nD ≃ Dev nD := ⟨rd, ld, ld_rd, rd_ld⟩

/-! ### The devices named -/

theorem dev1_eq (d : Dev nD) : (⟨k0_dev1 d, k0_dev1_lt d⟩ : Dev nD) = ld d := by revert d; decide +kernel
theorem dev2_eq (d : Dev nD) : (⟨k0_dev2 d, k0_dev2_lt d⟩ : Dev nD) = rd d := by revert d; decide +kernel
theorem lDev_eq (d : Dev nD) (t : Fin 8) (s : Fin 4) : lDev d t s = ld d := by revert d t s; decide +kernel
theorem rDev_eq (d : Dev nD) (t : Fin 7) (s : Fin 4) : rDev d t s = rd d := by revert d t s; decide +kernel
theorem aDev_eq (d : Dev nD) (t : Fin 8) (s : Fin 2) : aDev d t s = rd d := by revert d t s; decide +kernel
theorem bDev_eq (d : Dev nD) (t : Fin 7) (s : Fin 2) : bDev d t s = ld d := by revert d t s; decide +kernel

/-! ### The offsets -/

theorem o21 (d : Dev nD) (t : Fin 8) (s : Fin 4) :
    k0_off21 d (w32 t.val) (w32 (16 * s.val)) = ![64 * ch d (9 + t.val) + 16 * s.val, 0] := by
  revert d t s; decide +kernel
theorem o22 (d : Dev nD) (t : Fin 7) (s : Fin 4) :
    k0_off22 d (w32 t.val) (w32 (16 * s.val)) = ![64 * ch d (8 - t.val) + 16 * s.val, 0] := by
  revert d t s; decide +kernel
theorem o23 (d : Dev nD) (t : Fin 8) (s : Fin 4) :
    k0_off23 d (w32 t.val) (w32 (16 * s.val)) = ![64 * ch d (10 + t.val) + 16 * s.val, 0] := by
  revert d t s; decide +kernel
theorem o24 (d : Dev nD) (t : Fin 7) (s : Fin 4) :
    k0_off24 d (w32 t.val) (w32 (16 * s.val)) = ![64 * ch d (7 - t.val) + 16 * s.val, 0] := by
  revert d t s; decide +kernel
theorem o61 (d : Dev nD) : k0_off61 d = ![64 * ch d 1, 0] := by revert d; decide +kernel
theorem o62 (d : Dev nD) (t : Fin 8) (s : Fin 2) :
    k0_off62 d (w32 t.val) (w32 (32 * s.val)) = ![64 * ch d (17 - t.val) + 32 * s.val, 0] := by
  revert d t s; decide +kernel
theorem o63 (d : Dev nD) (t : Fin 7) (s : Fin 2) :
    k0_off63 d (w32 t.val) (w32 (32 * s.val)) = ![64 * ch d (1 + t.val) + 32 * s.val, 0] := by
  revert d t s; decide +kernel
theorem o64 (d : Dev nD) (t : Fin 8) (s : Fin 2) :
    k0_off64 d (w32 t.val) (w32 (32 * s.val)) = ![64 * ch d (16 - t.val) + 32 * s.val, 0] := by
  revert d t s; decide +kernel
theorem o65 (d : Dev nD) (t : Fin 7) (s : Fin 2) :
    k0_off65 d (w32 t.val) (w32 (32 * s.val)) = ![64 * ch d (2 + t.val) + 32 * s.val, 0] := by
  revert d t s; decide +kernel
theorem noA_eq (d : Dev nD) (h : Fin 8) : noA d h = ![64 * ch d 1, 128 * h.val] := by
  revert d h; decide +kernel
theorem noL_eq (d : Dev nD) (h : Fin 8) : noL d h = ![64 * ch d 1, 1024 + h.val] := by
  revert d h; decide +kernel

/-! ### The batches -/

/-- The offsets of the batch `b`. -/
def bo (b : Fin 4) : BOff where
  x := ![b.val, 0, 0]
  hx := by revert b; decide
  k0 := ![b.val, 0, 0, 0]
  hk0 := by revert b; decide
  k1 := ![b.val, 0, 1, 0]
  hk1 := by revert b; decide
  A := fun h => ![256 * b.val, 128 * h.val]
  hA := by revert b; decide
  L := fun h => ![256 * b.val, 1024 + h.val]
  hL := by revert b; decide
  r := ![256 * b.val, 0]
  hr := by revert b; decide
  hp := by revert b; decide

theorem BOff.ext' {o o' : BOff} (h1 : o.x = o'.x) (h2 : o.k0 = o'.k0) (h3 : o.k1 = o'.k1) (h4 : o.A = o'.A) (h5 : o.L = o'.L)
    (h6 : o.r = o'.r) : o = o' := by
  cases o; cases o'; cases h1; cases h2; cases h3; cases h4; cases h5; cases h6; rfl

/-- The batch `r` after the one the device's place falls in. -/
def rb (d : Dev nD) (r : ℕ) : Fin 4 := ⟨(pos d / 4 + r) % 4, Nat.mod_lt _ (by decide)⟩

theorem boff_eq (d : Dev nD) (r : Fin 3) : boff d r = bo (rb d (r.val + 1)) := by
  refine BOff.ext' ?_ ?_ ?_ ?_ ?_ ?_
  · revert d r; decide +kernel
  · revert d r; decide +kernel
  · revert d r; decide +kernel
  · refine funext fun h => ?_
    revert d r h; decide +kernel
  · refine funext fun h => ?_
    revert d r h; decide +kernel
  · revert d r; decide +kernel

theorem boff0_eq (d : Dev nD) : boff0 d = bo (rb d 0) := by
  refine BOff.ext' ?_ ?_ ?_ ?_ ?_ ?_
  · revert d; decide +kernel
  · revert d; decide +kernel
  · revert d; decide +kernel
  · refine funext fun h => ?_
    revert d h; decide +kernel
  · refine funext fun h => ?_
    revert d h; decide +kernel
  · revert d; decide +kernel

end Cert.KernelIdeal.Ring
end
-- ==== Proof.Pts.lean ====
module

public import proofs.«01_k».proof.Proof.Topo
public import Idealize.ShloMosaic.Lib.Pipeline.Launch
public import Idealize.ShloMosaic.Lib.Pipeline.Kit
public import Idealize.ShloMosaic.Lib.Tactic

/-! Part of a buffer, with what is known of its contents: the part is a predicate on the buffer's
indices, the knowledge another, with the values it fixes. -/

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev 𝒱₀ : Variants := Variants.none

/-- The indices a predicate picks. -/
def pick {b : Ref sig .tc} (P : b.ty.Idx → Prop) : Finset b.ty.Idx :=
  @Finset.filter _ P (fun i => Classical.propDecidable (P i)) Finset.univ

theorem mem_pick {b : Ref sig .tc} {P : b.ty.Idx → Prop} {i : b.ty.Idx} : i ∈ pick P ↔ P i := by
  exact (@Finset.mem_filter _ P (fun i => Classical.propDecidable (P i)) Finset.univ i).trans
    ⟨fun h => h.2, fun h => ⟨Finset.mem_univ _, h⟩⟩

/-- The elements of `b` on device `c` that `P` picks, at the share `q`, those that `D` picks holding `V`'s values. -/
def PTs (q : PosShare TreeShare) (c : Dev nD) (b : Ref sig .tc) (P D : b.ty.Idx → Prop) (V : b.ty.Contents (Elt F)) : sProp 𝕄 :=
  iprop(∃ f : Buf (Elt F) ((c : Thread nD τ).loc b), ⌜∀ i, D i → f i = V i⌝ ∗ ((c : Thread nD τ).loc b ↦[pick P]{q} f))
/-- The same at the full share. -/
abbrev PT (c : Dev nD) (b : Ref sig .tc) (P D : b.ty.Idx → Prop) (V : b.ty.Contents (Elt F)) : sProp 𝕄 := PTs fullShare c b P D V

section
variable {q : PosShare TreeShare} {c : Dev nD} {b : Ref sig .tc} {P P' D D' : b.ty.Idx → Prop} {V V' : b.ty.Contents (Elt F)} {T : Finset b.ty.Idx}

omit [FloatOps F] in
theorem PT_re (hP : ∀ i, P i ↔ P' i) (hD : ∀ i, D' i → D i ∧ V i = V' i) : (PTs q c b P D V : sProp 𝕄) ⊢ PTs q c b P' D' V' := by
  have : P = P' := funext fun i => propext (hP i)
  subst this
  unfold PTs
  iintro ⟨%f, %hf, H⟩
  iexists f
  isplitr; · ipureintro; exact fun i hi => (hf i (hD i hi).1).trans (hD i hi).2
  iexact H

omit [FloatOps F] in
theorem PT_mono (hP : ∀ i, P i ↔ P' i) (hD : ∀ i, D' i → D i) : (PTs q c b P D V : sProp 𝕄) ⊢ PTs q c b P' D' V :=
  PT_re hP fun i hi => ⟨hD i hi, rfl⟩

omit [FloatOps F] in
/-- A set of elements as a part. -/
theorem PT_of {f : Buf (Elt F) ((c : Thread nD τ).loc b)} (hP : ∀ i, P i ↔ i ∈ T) (hD : ∀ i, D i → f i = V i) :
    ((c : Thread nD τ).loc b ↦[T]{q} f : sProp 𝕄) ⊢ PTs q c b P D V := by
  have : pick P = T := by ext i; rw [mem_pick, hP]
  unfold PTs
  iintro H
  iexists f
  isplitr; · ipureintro; exact hD
  rw [this]
  iexact H

omit [FloatOps F] in
/-- A part as a set of elements. -/
theorem PT_to (hP : ∀ i, P i ↔ i ∈ T) :
    (PTs q c b P D V : sProp 𝕄) ⊢ iprop(∃ f : Buf (Elt F) ((c : Thread nD τ).loc b), ⌜∀ i, D i → f i = V i⌝ ∗ ((c : Thread nD τ).loc b ↦[T]{q} f)) := by
  have : pick P = T := by ext i; rw [mem_pick, hP]
  unfold PTs
  rw [this]

omit [FloatOps F] in
/-- The elements of `T` taken out of the part. -/
theorem PT_take (hT : ∀ i ∈ T, P i) (hP : ∀ i, P' i ↔ P i ∧ i ∉ T) (hD : ∀ i, D' i → D i) :
    (PTs q c b P D V : sProp 𝕄) ⊢ iprop((∃ f : Buf (Elt F) ((c : Thread nD τ).loc b), ⌜∀ i, D i → f i = V i⌝ ∗ ((c : Thread nD τ).loc b ↦[T]{q} f))
      ∗ PTs q c b P' D' V) := by
  have hs : pick P \ T = pick P' := by
    ext i; rw [Finset.mem_sdiff, mem_pick, mem_pick, hP]
  unfold PTs
  iintro ⟨%f, %hf, H⟩
  ihave H := (pointsTo_split_subset (I := T) (fun i hi => mem_pick.mpr (hT i hi))).1 $$ H
  icases H with ⟨H1, H2⟩
  rw [hs]
  isplitl [H1]
  · iexists f
    isplitr; · ipureintro; exact hf
    iexact H1
  · iexists f
    isplitr; · ipureintro; exact fun i hi => hf i (hD i hi)
    iexact H2

omit [FloatOps F] in
/-- The elements of `T` put back. -/
theorem PT_put {g : Buf (Elt F) ((c : Thread nD τ).loc b)} (hP : ∀ i, P' i ↔ P i ∨ i ∈ T) (hd : ∀ i ∈ T, ¬ P i)
    (hg : ∀ i ∈ T, D' i → g i = V i) (hD : ∀ i, D' i → i ∉ T → D i) :
    (iprop(((c : Thread nD τ).loc b ↦[T]{q} g) ∗ PTs q c b P D V) : sProp 𝕄) ⊢ PTs q c b P' D' V := by
  classical
  have hs : pick P' \ T = pick P := by
    ext i; rw [Finset.mem_sdiff, mem_pick, mem_pick, hP]
    exact ⟨fun h => h.1.resolve_right h.2, fun h => ⟨.inl h, fun ht => hd i ht h⟩⟩
  have hT : T ⊆ pick P' := fun i hi => mem_pick.mpr ((hP i).mpr (.inr hi))
  unfold PTs
  iintro ⟨H1, %f, %hf, H2⟩
  rw [← hs]
  ihave H := (pointsTo_join_subset (ℓ := (c : Thread nD τ).loc b) hT) $$ [H1 H2]
  · isplitl [H1] <;> iassumption
  iexists (T.piecewise g f)
  isplitr
  · ipureintro
    intro i hi
    by_cases h : i ∈ T
    · rw [Finset.piecewise_eq_of_mem _ _ _ h]; exact hg i h hi
    · rw [Finset.piecewise_eq_of_notMem _ _ _ h]; exact hf i (hD i hi h)
  iexact H

omit [FloatOps F] in
/-- Both halves of a part's share. -/
theorem PT_split : (PT c b P D V : sProp 𝕄) ⊢ iprop(PTs fullShare.left c b P D V ∗ PTs fullShare.right c b P D V) := by
  unfold PT PTs
  iintro ⟨%f, %hf, H⟩
  ihave H := (pointsTo_share (PosShare.mem_left_op_right fullShare)).1 $$ H
  icases H with ⟨H1, H2⟩
  isplitl [H1]
  · iexists f
    isplitr; · ipureintro; exact hf
    iexact H1
  · iexists f
    isplitr; · ipureintro; exact hf
    iexact H2

omit [FloatOps F] in
/-- Two halves joined: they agree. -/
theorem PT_join : (iprop(PTs fullShare.left c b P D V ∗ PTs fullShare.right c b P D' V') : sProp 𝕄) ⊢ PT c b P D V := by
  unfold PT PTs
  iintro ⟨⟨%f, %hf, H1⟩, %g, %hg, H2⟩
  ihave %he := pointsTo_agree $$ [H1 H2]
  · isplitl [H1] <;> iassumption
  have he' : ∀ i ∈ pick P, g i = f i := fun i hi => ((he i (Finset.mem_inter.mpr ⟨hi, hi⟩)).1).symm
  ihave H2 := Entails.of_eq (pointsTo_congr he') $$ H2
  ihave H := (pointsTo_share (PosShare.mem_left_op_right fullShare)).2 $$ [H1 H2]
  · isplitl [H1] <;> iassumption
  iexists f
  isplitr; · ipureintro; exact hf
  iexact H

end

section
variable {q : PosShare TreeShare} {c : Dev nD} {cs : CoreSpace} {bi : Fin (sig.nNear .tc cs)} {bκ : sig.names .tc cs bi = true}

/-- A load reads the known values. -/
theorem PT_load {α : Type} {P D : (⟨cs, bi, bκ⟩ : Ref sig .tc).ty.Idx → Prop} {V : (⟨cs, bi, bκ⟩ : Ref sig .tc).ty.Contents (Elt F)} {Q : α → sProp 𝕄} {r : Rect (⟨cs, bi, bκ⟩ : Ref sig .tc).ty.shape} {hl : (Memref.whole ⟨cs, bi, bκ⟩).view.LoadsAt r.toLoadRect}
    {k : (r.toLoadRect.shape.Idx → Elt F (⟨cs, bi, bκ⟩ : Ref sig .tc).ty.elt) → Prog (TpuEff nD τ sig (Elt F) Λ₀ .tc) α} (hr : ∀ i ∈ r.set, P i) :
    (PTs q c ⟨cs, bi, bκ⟩ P D V : sProp 𝕄) ⊢ iprop((∀ v : r.toLoadRect.shape.Idx → Elt F (⟨cs, bi, bκ⟩ : Ref sig .tc).ty.elt, ⌜∀ j, D (r.emb j) → v j = V (r.emb j)⌝ -∗ PTs q c ⟨cs, bi, bκ⟩ P D V
        -∗ wp frame (wpE (defs₀ (F := F)) 𝒱₀ (c : Thread nD τ) none) Set.univ (k v) Q)
      -∗ wp frame (wpE (defs₀ (F := F)) 𝒱₀ (c : Thread nD τ) none) Set.univ (.op (.load (Memref.whole ⟨cs, bi, bκ⟩) r.toLoadRect hl) k) Q) := by
  unfold PTs
  iintro ⟨%f, %hf, H⟩ Hk
  iapply (wp_load 𝒱₀ (c : Thread nD τ) none Set.univ (m := Memref.whole ⟨cs, bi, bκ⟩) (S := pick P) (fun i hi => by
    obtain ⟨j, hj, rfl⟩ := Finset.mem_map.mp hi
    exact mem_pick.mpr (hr _ hj))) $$ H
  iintro H
  iapply Hk $$ %((Memref.whole ⟨cs, bi, bκ⟩).view.readAt (Elt F) r.toLoadRect f) %(fun j hj => hf _ hj)
  iexists f
  isplitr; · ipureintro; exact hf
  iexact H

/-- A store writes what it says. -/
theorem PT_store {α : Type} {P D D' : (⟨cs, bi, bκ⟩ : Ref sig .tc).ty.Idx → Prop} {V V' : (⟨cs, bi, bκ⟩ : Ref sig .tc).ty.Contents (Elt F)} {Q : α → sProp 𝕄} {r : Rect (⟨cs, bi, bκ⟩ : Ref sig .tc).ty.shape} {w : r.shape.Idx → Elt F (⟨cs, bi, bκ⟩ : Ref sig .tc).ty.elt} {hx : ((Memref.whole ⟨cs, bi, bκ⟩).access r).Stores Finset.univ}
    {hm : (Finset.univ : Finset r.shape.Idx) = Finset.univ ∨ ∀ a, r.stride a = 1}
    {k : PUnit → Prog (TpuEff nD τ sig (Elt F) Λ₀ .tc) α} (hr : ∀ i ∈ r.set, P i)
    (hw : ∀ j, D' (r.emb j) → w j = V' (r.emb j)) (hD : ∀ i, i ∉ r.set → D' i → D i ∧ V i = V' i) :
    (PT c ⟨cs, bi, bκ⟩ P D V : sProp 𝕄) ⊢ iprop((PT c ⟨cs, bi, bκ⟩ P D' V'
        -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole ⟨cs, bi, bκ⟩) r w Finset.univ hx hm) k) Q) := by
  have hset : ((Memref.whole ⟨cs, bi, bκ⟩).access r).setOn Finset.univ = r.set := View.set_slice_whole _ r
  unfold PT PTs
  iintro ⟨%f, %hf, H⟩ Hk
  iapply (wp_store 𝒱₀ (c : Thread nD τ) none Set.univ (m := Memref.whole ⟨cs, bi, bκ⟩) (r := r) (Mk := Finset.univ) (S := pick P) (fun i hi => by
    rw [hset] at hi
    exact mem_pick.mpr (hr _ hi))) $$ H
  iintro H
  iapply Hk
  iexists (((Memref.whole ⟨cs, bi, bκ⟩).access r).write (Elt F) f w Finset.univ)
  isplitr
  · ipureintro
    intro i hi
    by_cases h : i ∈ r.set
    · rw [← Rect.map_emb_univ] at h
      obtain ⟨j, -, rfl⟩ := Finset.mem_map.mp h
      exact (View.write_emb_of_mem (v := (Memref.whole ⟨cs, bi, bκ⟩).access r) f w (Finset.mem_univ j)).trans (hw j hi)
    · exact (View.write_of_not_mem (v := (Memref.whole ⟨cs, bi, bκ⟩).access r) f w Finset.univ (by rw [hset]; exact h)).trans ((hf i (hD i h hi).1).trans (hD i h hi).2)
  iexact H

end

end Cert.KernelIdeal.Ring
end
-- ==== Proof.Copies.lean ====
module

public import proofs.«01_k».proof.Proof.Pts

/-! The ninety copies a device sends: the two reduction streams (`L` to the previous device, `R` to the
next) and the two gathering streams (`A` to the next, `B` to the previous); their order in the program,
their sources, landing places and semaphores. -/

@[expose] public section

noncomputable section

namespace Cert.KernelIdeal.Ring

open Idealize.ShloMosaic
open Idealize.ShloMosaic.TcCoe
open Idealize.SL.Sem
open Facts₀ Facts
open Cert.KernelIdeal.Gen (facts facts₀)

inductive Cp where
  | L (t : Fin 8) (s : Fin 4)
  | R (t : Fin 7) (s : Fin 4)
  | A (t : Fin 8) (s : Fin 2)
  | B (t : Fin 7) (s : Fin 2)
deriving DecidableEq

namespace Cp

def toSum : Cp ≃ ((Fin 8 × Fin 4) ⊕ (Fin 7 × Fin 4)) ⊕ ((Fin 8 × Fin 2) ⊕ (Fin 7 × Fin 2)) where
  toFun
    | L t s => .inl (.inl (t, s))
    | R t s => .inl (.inr (t, s))
    | A t s => .inr (.inl (t, s))
    | B t s => .inr (.inr (t, s))
  invFun
    | .inl (.inl (t, s)) => L t s
    | .inl (.inr (t, s)) => R t s
    | .inr (.inl (t, s)) => A t s
    | .inr (.inr (t, s)) => B t s
  left_inv i := by cases i <;> rfl
  right_inv i := by rcases i with (⟨t, s⟩ | ⟨t, s⟩) | (⟨t, s⟩ | ⟨t, s⟩) <;> rfl

instance : Fintype Cp := Fintype.ofEquiv _ toSum.symm

/-- The place of a copy's start in the program. -/
def seq : Cp → ℕ
  | L t s => if t.val < 7 then 8 * t.val + 2 * s.val else 56 + s.val
  | R t s => 8 * t.val + 2 * s.val + 1
  | A t s => if t.val < 7 then 60 + 4 * t.val + 2 * s.val else 88 + s.val
  | B t s => 60 + 4 * t.val + 2 * s.val + 1

theorem seq_lt (i : Cp) : i.seq < 90 := by
  cases i <;> simp only [seq] <;> (try split) <;> omega

theorem seq_inj {i j : Cp} (h : i.seq = j.seq) : i = j := by
  cases i with
  | L t s => cases j with
    | L t' s' => simp only [seq] at h; congr 1 <;> apply Fin.ext <;> split at h <;> split at h <;> omega
    | R t' s' => simp only [seq] at h; split at h <;> omega
    | A t' s' => simp only [seq] at h; split at h <;> split at h <;> omega
    | B t' s' => simp only [seq] at h; split at h <;> omega
  | R t s => cases j with
    | L t' s' => simp only [seq] at h; split at h <;> omega
    | R t' s' => simp only [seq] at h; congr 1 <;> apply Fin.ext <;> omega
    | A t' s' => simp only [seq] at h; split at h <;> omega
    | B t' s' => simp only [seq] at h; omega
  | A t s => cases j with
    | L t' s' => simp only [seq] at h; split at h <;> split at h <;> omega
    | R t' s' => simp only [seq] at h; split at h <;> omega
    | A t' s' => simp only [seq] at h; congr 1 <;> apply Fin.ext <;> split at h <;> split at h <;> omega
    | B t' s' => simp only [seq] at h; split at h <;> omega
  | B t s => cases j with
    | L t' s' => simp only [seq] at h; split at h <;> omega
    | R t' s' => simp only [seq] at h; omega
    | A t' s' => simp only [seq] at h; split at h <;> omega
    | B t' s' => simp only [seq] at h; congr 1 <;> apply Fin.ext <;> omega

/-- The shape a copy carries. -/
abbrev sh : Cp → Shape
  | L _ _ => S16x1152
  | R _ _ => S16x1152
  | A _ _ => S32x1024
  | B _ _ => S32x1024

/-- The rows device `d` sends. -/
abbrev src (d : Dev nD) : (i : Cp) → Memref sig .tc .vmem i.sh .bf16
  | L t s => lSrc d t s
  | R t s => rSrc d t s
  | A t s => aPie d t s
  | B t s => bPie d t s

/-- Where the rows device `d` sends land. -/
abbrev dst (d : Dev nD) : (i : Cp) → Memref sig .tc .vmem i.sh .bf16
  | L t s => lbS t s
  | R t s => rbS t s
  | A t s => aPie d t s
  | B t s => bPie d t s

theorem src_exact (d : Dev nD) : (i : Cp) → (i.src d).view.WordExact
  | L t s => sbS_exact _ _ (k0_off21_wordsbf16 d t s)
  | R t s => sbS_exact _ _ (k0_off22_wordsbf16 d t s)
  | A t s => obS_exact _ _ (k0_off62_wordsbf16 d t s)
  | B t s => obS_exact _ _ (k0_off63_wordsbf16 d t s)
theorem dst_exact (d : Dev nD) : (i : Cp) → (i.dst d).view.WordExact
  | L t s => lbS_exact t s
  | R t s => rbS_exact t s
  | A t s => obS_exact _ _ (k0_off62_wordsbf16 d t s)
  | B t s => obS_exact _ _ (k0_off63_wordsbf16 d t s)

/-- The semaphore a copy's sender waits on. -/
abbrev sS : Cp → DmaSem sig
  | L t s => lSend t s
  | R t s => rSend t s
  | A t s => aSend t s
  | B t s => bSend t s
/-- The semaphore a copy's receiver waits on. -/
abbrev sR : Cp → DmaSem sig
  | L t s => lRecv t s
  | R t s => rRecv t s
  | A t s => aRecv t s
  | B t s => bRecv t s

def nS : Cp → ℕ
  | L t s => 6 + 4 * t.val + s.val
  | R t s => 70 + 4 * t.val + s.val
  | A t s => 126 + 2 * t.val + s.val
  | B t s => 158 + 2 * t.val + s.val
def nR : Cp → ℕ
  | L t s => 38 + 4 * t.val + s.val
  | R t s => 98 + 4 * t.val + s.val
  | A t s => 142 + 2 * t.val + s.val
  | B t s => 172 + 2 * t.val + s.val

theorem sS_val (i : Cp) : (i.sS).val = i.nS := by
  cases i with
  | L t s => revert t s; decide
  | R t s => revert t s; decide
  | A t s => revert t s; decide
  | B t s => revert t s; decide
theorem sR_val (i : Cp) : (i.sR).val = i.nR := by
  cases i with
  | L t s => revert t s; decide
  | R t s => revert t s; decide
  | A t s => revert t s; decide
  | B t s => revert t s; decide

theorem nS_inj {i j : Cp} (h : i.nS = j.nS) : i = j := by
  cases i <;> cases j <;> simp only [nS] at h <;> first | omega | (congr 1 <;> apply Fin.ext <;> omega)
theorem nR_inj {i j : Cp} (h : i.nR = j.nR) : i = j := by
  cases i <;> cases j <;> simp only [nR] at h <;> first | omega | (congr 1 <;> apply Fin.ext <;> omega)
theorem nS_ne_nR (i j : Cp) : i.nS ≠ j.nR := by
  intro h
  cases i <;> cases j <;> simp only [nS, nR] at h <;> omega
theorem nS_ge (i : Cp) : 6 ≤ i.nS := by cases i <;> simp only [nS] <;> omega
theorem nR_ge (i : Cp) : 6 ≤ i.nR := by cases i <;> simp only [nR] <;> omega

theorem sS_inj {i j : Cp} (h : i.sS = j.sS) : i = j := nS_inj (by rw [← sS_val, ← sS_val, h])
theorem sR_inj {i j : Cp} (h : i.sR = j.sR) : i = j := nR_inj (by rw [← sR_val, ← sR_val, h])
theorem sS_ne_sR (i j : Cp) : i.sS ≠ j.sR := fun h => nS_ne_nR i j (by rw [← sS_val, ← sR_val, h])

/-- The amount a copy counts. -/
def amt (i : Cp) : ℕ := (i.dst 0).view.dmaCredit
theorem amt_pos (i : Cp) : 0 < i.amt := by
  unfold amt
  refine View.dmaCredit_pos _ ?_
  cases i with
  | L t s => show 0 < S16x1152.numel; decide
  | R t s => show 0 < S16x1152.numel; decide
  | A t s => show 0 < S32x1024.numel; decide
  | B t s => show 0 < S32x1024.numel; decide
theorem dst_amt (d : Dev nD) (i : Cp) : (i.dst d).view.dmaCredit = i.amt := by cases i <;> rfl
theorem src_amt (d : Dev nD) (i : Cp) : (i.src d).view.dmaCredit = i.amt := by cases i <;> rfl

/-- Whom device `d` sends a copy to. -/
def tgt (d : Dev nD) : Cp → Dev nD
  | L _ _ => ld d
  | R _ _ => rd d
  | A _ _ => rd d
  | B _ _ => ld d
/-- Whom device `d` gets a copy from. -/
def org (d : Dev nD) : Cp → Dev nD
  | L _ _ => rd d
  | R _ _ => ld d
  | A _ _ => ld d
  | B _ _ => rd d
theorem org_tgt (d : Dev nD) (i : Cp) : i.org (i.tgt d) = d := by
  cases i
  · exact rd_ld d
  · exact ld_rd d
  · exact ld_rd d
  · exact rd_ld d
theorem tgt_org (d : Dev nD) (i : Cp) : i.tgt (i.org d) = d := by
  cases i
  · exact ld_rd d
  · exact rd_ld d
  · exact rd_ld d
  · exact ld_rd d

end Cp

end Cert.KernelIdeal.Ring
end
-- ==== Proof.Sched.lean ====
module

public import proofs.«01_k».proof.Proof.Copies

/-! What each semaphore's increments hand over: the barrier's two units the neighbours' landing
buffers, a copy's the rows it carries. The levels of the cells, and what a device owes. -/

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Cert.KernelIdeal.Gen (facts facts₀)

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev barCell (c : Dev nD) : GSem nD τ sig := ((c : Thread nD τ), .reg barSem)
abbrev sCell (c : Dev nD) (i : Cp) : GSem nD τ sig := ((c : Thread nD τ), .dma i.sS)
abbrev rCell (c : Dev nD) (i : Cp) : GSem nD τ sig := ((c : Thread nD τ), .dma i.sR)

/-- A row's place among device `d`'s rows, counted from its own chunk. -/
def rel (d : Dev nD) (row : ℕ) : ℕ := (row + 1024 - 64 * pos d) % 1024

/-- The pieces of the gathering buffer that arrive from the previous device, in order. -/
def isA (q : ℕ) : Prop := q < 2 ∨ 18 ≤ q
def jA (q : ℕ) : ℕ := 2 * ((16 - q / 2) % 16) + q % 2
/-- The pieces of the gathering buffer that arrive from the next device, in order. -/
def isB (q : ℕ) : Prop := 4 ≤ q ∧ q < 18
def jB (q : ℕ) : ℕ := q - 4

/-- Landing places of device `d`, those of the copies numbered `n` and up. -/
def lFrom (n : ℕ) (i : S8x64x1152.Idx) : Prop := n ≤ 4 * (i 0).val + (i 1).val / 16
def rFrom (n : ℕ) (i : S7x64x1152.Idx) : Prop := n ≤ 4 * (i 0).val + (i 1).val / 16
def aFrom (d : Dev nD) (n : ℕ) (i : S1024x1024.Idx) : Prop :=
  isA (rel d (i 0).val / 32) ∧ n ≤ jA (rel d (i 0).val / 32)
def bFrom (d : Dev nD) (n : ℕ) (i : S1024x1024.Idx) : Prop :=
  isB (rel d (i 0).val / 32) ∧ n ≤ jB (rel d (i 0).val / 32)

/-- Part of a buffer, nothing known of its contents. -/
abbrev pool (c : Dev nD) (b : Ref sig .tc) (P : b.ty.Idx → Prop) : sProp 𝕄 :=
  iprop(∃ f : Buf (Elt F) ((c : Thread nD τ).loc b), (c : Thread nD τ).loc b ↦[pick P]{fullShare} f)

/-- The landing places device `c`'s copies to the previous device go to. -/
def landL (c : Dev nD) (n m : ℕ) : sProp 𝕄 := iprop(pool (F := F) (ld c) cc0_scratch2 (lFrom n) ∗ pool (F := F) (ld c) cc0_scratch5 (bFrom (ld c) m))
/-- The landing places device `c`'s copies to the next device go to. -/
def landR (c : Dev nD) (n m : ℕ) : sProp 𝕄 := iprop(pool (F := F) (rd c) cc0_scratch3 (rFrom n) ∗ pool (F := F) (rd c) cc0_scratch5 (aFrom (rd c) m))

/-- The share of its source a copy takes along. -/
def shr : Cp → PosShare TreeShare
  | .L _ _ => fullShare
  | .R _ _ => fullShare
  | .A _ _ => fullShare.left
  | .B _ _ => fullShare.right

/-- What the copies carry. -/
abbrev Carry (F : FTy → Type) : Type := (c : Dev nD) → (i : Cp) → (i.sh.Idx → Elt F .bf16) → Prop

variable (ct : Carry F)

def barPay (c : Dev nD) (d : Bool) : sProp 𝕄 := if d then landR (F := F) c 0 0 else landL (F := F) c 0 0
def sendPay (c : Dev nD) (i : Cp) : sProp 𝕄 :=
  iprop(∃ f, (i.src c).view.loc (c : Thread nD τ) ↦[(i.src c).view.set]{shr i} f)
def recvPay (c : Dev nD) (i : Cp) : sProp 𝕄 :=
  iprop(∃ f, ⌜ct (i.org c) i ((i.dst (i.org c)).view.read (Elt F) f)⌝
    ∗ ((i.dst (i.org c)).view.loc (c : Thread nD τ) ↦[(i.dst (i.org c)).view.set]{fullShare} f))

omit [FloatOps F] in
instance barPay_storable (c : Dev nD) (d : Bool) : BI.Storable (upEmb : UEmb _ 𝕄) (barPay (F := F) c d) := by
  unfold barPay landL landR pool; split <;> infer_instance
omit [FloatOps F] in
instance sendPay_storable (c : Dev nD) (i : Cp) : BI.Storable (upEmb : UEmb _ 𝕄) (sendPay (F := F) c i) := by
  unfold sendPay; infer_instance
omit [FloatOps F] in
instance recvPay_storable (c : Dev nD) (i : Cp) : BI.Storable (upEmb : UEmb _ 𝕄) (recvPay ct c i) := by
  unfold recvPay; infer_instance

abbrev IsS (q : SemLoc sig) (i : Cp) : Prop := q = .dma i.sS
abbrev IsR (q : SemLoc sig) (i : Cp) : Prop := q = .dma i.sR

open Classical in
/-- One round each: the barrier's two units, and every copy's two counts. -/
def sched : Rounds.Schedule (GSem nD τ sig) Bool 𝕄 where
  duties g r := if r = 0 ∧ g.1.2 = .tc then
      (if g.2 = .reg barSem then Finset.univ else if (∃ i, IsS g.2 i) ∨ (∃ i, IsR g.2 i) then {false} else ∅) else ∅
  unitless _ := False
  amount g _ _ := if h : ∃ i, IsS g.2 i then (h.choose).amt else if h : ∃ i, IsR g.2 i then (h.choose).amt else 1
  payload g _ d :=
    if h : ∃ i, IsS g.2 i then sendPay (F := F) g.1.1 h.choose
    else if h : ∃ i, IsR g.2 i then recvPay ct g.1.1 h.choose
    else barPay (F := F) g.1.1 d
  amount_pos g _ _ _ := by
    split
    · exact Cp.amt_pos _
    · split
      · exact Cp.amt_pos _
      · exact Nat.one_pos

instance sched_payload_storable (g : GSem nD τ sig) (r : ℕ) (d : Bool) :
    BI.Storable (upEmb : UEmb _ 𝕄) ((sched ct).payload g r d) := by
  classical
  show BI.Storable upEmb (if h : ∃ i, IsS g.2 i then sendPay (F := F) g.1.1 h.choose
    else if h : ∃ i, IsR g.2 i then recvPay ct g.1.1 h.choose
    else barPay (F := F) g.1.1 d)
  split
  · infer_instance
  · split <;> infer_instance

theorem choose_S (i : Cp) (h : ∃ j, IsS (.dma i.sS) j) : h.choose = i := by
  have := h.choose_spec
  exact (Cp.sS_inj (SemLoc.dma.inj this)).symm
theorem choose_R (i : Cp) (h : ∃ j, IsR (.dma i.sR) j) : h.choose = i := by
  have := h.choose_spec
  exact (Cp.sR_inj (SemLoc.dma.inj this)).symm
theorem not_S_R (i : Cp) : ¬ ∃ j, IsS (.dma i.sR) j := fun ⟨j, h⟩ => Cp.sS_ne_sR j i (SemLoc.dma.inj h).symm
theorem not_R_S (i : Cp) : ¬ ∃ j, IsR (.dma i.sS) j := fun ⟨j, h⟩ => Cp.sS_ne_sR i j (SemLoc.dma.inj h)
theorem not_S_bar : ¬ ∃ j, IsS (.reg barSem) j := fun ⟨j, h⟩ => by cases h
theorem not_R_bar : ¬ ∃ j, IsR (.reg barSem) j := fun ⟨j, h⟩ => by cases h

section
variable (c : Dev nD) (i : Cp) (d : Bool)

theorem duties_bar : (sched ct).duties (barCell c) 0 = Finset.univ := by
  dsimp only [sched]
  rw [if_pos ⟨rfl, rfl⟩, if_pos rfl]
theorem duties_s : (sched ct).duties (sCell c i) 0 = {false} := by
  dsimp only [sched]
  rw [if_pos ⟨rfl, rfl⟩, if_neg (fun h => by cases h), if_pos (.inl ⟨i, rfl⟩)]
theorem duties_r : (sched ct).duties (rCell c i) 0 = {false} := by
  dsimp only [sched]
  rw [if_pos ⟨rfl, rfl⟩, if_neg (fun h => by cases h), if_pos (.inr ⟨i, rfl⟩)]
theorem duties_later (g : GSem nD τ sig) : ∀ r, 1 ≤ r → (sched ct).duties g r = ∅ := fun r hr => by
  dsimp only [sched]
  rw [if_neg fun h => by omega]

theorem amount_bar : (sched ct).amount (barCell c) 0 d = 1 := by
  dsimp only [sched]; rw [dif_neg not_S_bar, dif_neg not_R_bar]
theorem amount_s : (sched ct).amount (sCell c i) 0 d = i.amt := by
  dsimp only [sched]; rw [dif_pos ⟨i, rfl⟩, choose_S]
theorem amount_r : (sched ct).amount (rCell c i) 0 d = i.amt := by
  dsimp only [sched]; rw [dif_neg (not_S_R i), dif_pos ⟨i, rfl⟩, choose_R]

theorem expect_bar : (sched ct).expect (barCell c) 0 = 2 := by
  unfold Schedule.expect Schedule.amountOf
  rw [duties_bar, Finset.sum_congr rfl fun d _ => amount_bar ct c d, Finset.sum_const, Finset.card_univ, Fintype.card_bool, smul_eq_mul]
theorem expect_s : (sched ct).expect (sCell c i) 0 = i.amt := by
  unfold Schedule.expect Schedule.amountOf; rw [duties_s, Finset.sum_singleton, amount_s]
theorem expect_r : (sched ct).expect (rCell c i) 0 = i.amt := by
  unfold Schedule.expect Schedule.amountOf; rw [duties_r, Finset.sum_singleton, amount_r]

theorem payload_bar : (sched ct).payload (barCell c) 0 d = barPay (F := F) c d := by
  dsimp only [sched]; rw [dif_neg not_S_bar, dif_neg not_R_bar]
theorem payload_s : (sched ct).payload (sCell c i) 0 d = sendPay (F := F) c i := by
  dsimp only [sched]; rw [dif_pos ⟨i, rfl⟩, choose_S]
theorem payload_r : (sched ct).payload (rCell c i) 0 d = recvPay ct c i := by
  dsimp only [sched]; rw [dif_neg (not_S_R i), dif_pos ⟨i, rfl⟩, choose_R]

theorem rest_bar : bigSep ((sched ct).duties (barCell c) 0 \ ∅) (fun d => (sched ct).payload (barCell c) 0 d)
    = iprop(landL (F := F) c 0 0 ∗ landR (F := F) c 0 0) := by
  rw [Finset.sdiff_empty, duties_bar, bigSep_univ_eq_bigSepL [false, true] (by decide) (by decide), bigSepL_cons_cons, bigSepL_singleton,
    payload_bar, payload_bar]
  rfl
theorem rest_s : bigSep ((sched ct).duties (sCell c i) 0 \ ∅) (fun d => (sched ct).payload (sCell c i) 0 d) = sendPay (F := F) c i := by
  rw [Finset.sdiff_empty, duties_s, bigSep_singleton, payload_s]
theorem rest_r : bigSep ((sched ct).duties (rCell c i) 0 \ ∅) (fun d => (sched ct).payload (rCell c i) 0 d) = recvPay ct c i := by
  rw [Finset.sdiff_empty, duties_r, bigSep_singleton, payload_r]

end

/-! ### What is owed, and the levels -/

/-- What device `c` owes its neighbours' receive cells once `n` copies have started. -/
def owed (c : Dev nD) (n : ℕ) : CellTallies nD τ sig Unit :=
  ∑ i : Cp, if n ≤ i.seq then tallyAt (rCell (i.tgt c) i) () i.amt else 0
def O₁ (c : Dev nD) : CellTallies nD τ sig Unit := owed c 0 + tallyAt (barCell (rd c)) () 1
def O₀ (c : Dev nD) : CellTallies nD τ sig Unit := O₁ c + tallyAt (barCell (ld c)) () 1

theorem owed_step (c : Dev nD) (i : Cp) : owed c i.seq = owed c (i.seq + 1) + tallyAt (rCell (i.tgt c) i) () i.amt := by
  unfold owed
  rw [← Finset.add_sum_erase _ _ (Finset.mem_univ i), ← Finset.add_sum_erase (a := i) Finset.univ _ (Finset.mem_univ i)]
  rw [if_pos (le_refl _), if_neg (by omega), zero_add, add_comm]
  congr 1
  refine Finset.sum_congr rfl fun j hj => ?_
  have hne : j.seq ≠ i.seq := fun h => (Finset.mem_erase.mp hj).1 (Cp.seq_inj h)
  by_cases h : i.seq ≤ j.seq
  · rw [if_pos h, if_pos (by omega)]
  · rw [if_neg h, if_neg (by omega)]

theorem owed_end (c : Dev nD) : owed c 90 = 0 := by
  unfold owed
  exact Finset.sum_eq_zero fun i _ => if_neg (by have := i.seq_lt; omega)

theorem owed_apply (c : Dev nD) (n : ℕ) (g : GSem nD τ sig) (u : Unit) :
    owed c n g u = ∑ i : Cp, if n ≤ i.seq ∧ g = rCell (i.tgt c) i then i.amt else 0 := by
  unfold owed
  rw [Finset.sum_apply, Finsupp.finsetSum_apply]
  refine Finset.sum_congr rfl fun i _ => ?_
  by_cases h : n ≤ i.seq
  · rw [if_pos h, tallyAt_apply]
    by_cases h2 : g = rCell (i.tgt c) i
    · rw [if_pos ⟨h2, rfl⟩, if_pos ⟨h, h2⟩]
    · rw [if_neg (fun h3 => h2 h3.1), if_neg (fun h3 => h2 h3.2)]
  · rw [if_neg h, if_neg (fun h3 => h h3.1)]; rfl

theorem owed_pos {c : Dev nD} {n : ℕ} {g : GSem nD τ sig} {u : Unit} (h : 0 < owed c n g u) :
    ∃ i : Cp, n ≤ i.seq ∧ g = rCell (i.tgt c) i := by
  rw [owed_apply] at h
  obtain ⟨i, -, hi⟩ := Finset.exists_ne_zero_of_sum_ne_zero h.ne'
  by_cases h2 : n ≤ i.seq ∧ g = rCell (i.tgt c) i
  · exact ⟨i, h2⟩
  · exact absurd (if_neg h2) hi

def L (g : GSem nD τ sig) : Finset Unit := if g.1.2 = .tc then {()} else ∅
open Classical in
/-- Staging and send cells lowest, then the barrier's, then the receive cells in the order their copies start. -/
def lv (g : GSem nD τ sig) (_ : Unit) : ℕ :=
  if g.2 = .reg barSem then 1 else if h : ∃ i, IsR g.2 i then 2 + h.choose.seq else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_r (c : Dev nD) (i : Cp) : lv (rCell c i) () = 2 + i.seq := by
  unfold lv
  rw [if_neg (fun h => by cases h), dif_pos ⟨i, rfl⟩, choose_R]
theorem lv_low (c : Dev nD) (q : DmaSem sig) (hq : ∀ i : Cp, q ≠ i.sR) : lv ((c : Thread nD τ), .dma q) () = 0 := by
  unfold lv
  rw [if_neg (fun h => by cases h), dif_neg (fun ⟨i, h⟩ => hq i (SemLoc.dma.inj h))]

omit [FloatOps F] in
/-- A wait at a level below everything owed. -/
theorem mayWait_owed (c : Dev nD) (sm : SemLoc sig) (n b : ℕ) (hb : lv ((c : Thread nD τ), sm) () ≤ b) (hn : b < 2 + n) :
    (levAts L lv : sProp 𝕄) ⊢ MayWait (c : Thread nD τ) sm () (owed c n) :=
  MayOwe.of_cut (L := L) (lev := lv) b
    (fun p hp => by rw [Finset.mem_singleton.mp hp, L_tc]; exact Finset.mem_singleton_self _)
    (fun g u hg => by
      obtain ⟨i, -, rfl⟩ := owed_pos hg
      rw [L_tc]; exact Finset.mem_singleton_self _)
    (fun p hp => by rw [Finset.mem_singleton.mp hp]; exact hb)
    (fun g u hg => by
      obtain ⟨i, hi, rfl⟩ := owed_pos hg
      rw [lv_r]; omega)

end Cert.KernelIdeal.Ring
end
-- ==== Proof.Run.lean ====
module

public import proofs.«01_k».proof.Proof.Sched

/-! How far a device's copies have come — `w` waited for, `n` started — and the two rules that move
it on: a copy started, a copy waited for. -/

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Cert.KernelIdeal.Gen (facts facts₀)

variable {F : FTy → Type} [FloatOps F]

local notation "𝕄" => MT nD τ sig Unit (Elt F) ℕ UU ℕ

variable (ct : Carry F)

/-- The cells of one device: the barrier's (`none`), and each copy's two. -/
abbrev KI : Type := Option (Cp × Bool)
abbrev csem : KI → SemLoc sig
  | none => .reg barSem
  | some (i, false) => .dma i.sS
  | some (i, true) => .dma i.sR
abbrev kcell (ck : Dev nD × KI) : GSem nD τ sig := ((ck.1 : Thread nD τ), csem ck.2)

/-- Every cell's invariant, under the names `K`, and that each cell's round 0 is reached. -/
def records (K : Dev nD × KI → ℕ) : sProp 𝕄 :=
  iprop((bigSep Finset.univ fun ck : Dev nD × KI => cellInv ER (sched ct) (K ck) (kcell ck))
    ∗ bigSep Finset.univ fun ck : Dev nD × KI => reached ER (kcell ck) 0)

instance records_persistent (K : Dev nD × KI → ℕ) : BI.Persistent (records ct K) := by unfold records; infer_instance

omit [FloatOps F] in
theorem inv_at (K : Dev nD × KI → ℕ) (ck : Dev nD × KI) : (records ct K : sProp 𝕄) ⊢ cellInv ER (sched ct) (K ck) (kcell ck) := by
  unfold records
  iintro ⟨H, -⟩
  iapply (show (bigSep Finset.univ fun ck : Dev nD × KI => (cellInv ER (sched ct) (K ck) (kcell ck) : sProp 𝕄)) ⊢ cellInv ER (sched ct) (K ck) (kcell ck)
    from bigSep_elim (Finset.mem_univ ck))
  iexact H
omit [FloatOps F] in
theorem reached_at (K : Dev nD × KI → ℕ) (ck : Dev nD × KI) : (records ct K : sProp 𝕄) ⊢ reached ER (kcell ck) 0 := by
  unfold records
  iintro ⟨-, H⟩
  iapply (show (bigSep Finset.univ fun ck : Dev nD × KI => (reached ER (kcell ck) 0 : sProp 𝕄)) ⊢ reached ER (kcell ck) 0
    from bigSep_elim (Finset.mem_univ ck))
  iexact H

/-- A copy not started. -/
def rdy (c : Dev nD) (i : Cp) : sProp 𝕄 :=
  iprop(dutyTok ER (sCell c i) 0 false ∗ dutyTok ER (rCell (i.tgt c) i) 0 false
    ∗ atPos ER (sCell c i) 0 ∅ 0 ∗ atPos ER (rCell c i) 0 ∅ 0 ∗ cred (tallyAt (rCell c i) () i.amt))
/-- A copy on its way, neither side waited for. -/
def fly (c : Dev nD) (i : Cp) : sProp 𝕄 :=
  iprop(cred (tallyAt (sCell c i) () i.amt) ∗ atPos ER (sCell c i) 0 ∅ 0 ∗ atPos ER (rCell c i) 0 ∅ 0
    ∗ cred (tallyAt (rCell c i) () i.amt))
/-- A copy over. -/
def ovr (c : Dev nD) (i : Cp) : sProp 𝕄 := iprop(semVal (sCell c i) 0 ∗ semVal (rCell c i) 0)

def stt (c : Dev nD) (w n : ℕ) (i : Cp) : sProp 𝕄 :=
  if i.seq < w then ovr c i else if i.seq < n then fly c i else rdy c i

/-- The copies, `w` waited for and `n` started, with what is owed. -/
def Run (c : Dev nD) (w n : ℕ) : sProp 𝕄 :=
  iprop((bigSep Finset.univ fun i : Cp => stt (F := F) c w n i) ∗ ∃ W, owes (c : Thread nD τ) (owed c n) W)

omit [FloatOps F] in
theorem split_at (i : Cp) (Φ : Cp → sProp 𝕄) : bigSep Finset.univ Φ = iprop(Φ i ∗ bigSep (Finset.univ.erase i) Φ) :=
  bigSep_univ_split i

omit [FloatOps F] in
theorem stt_turn (c : Dev nD) (w n w' n' : ℕ) (i : Cp) (h : ∀ j : Cp, j ≠ i → stt (F := F) c w n j = stt c w' n' j) :
    (bigSep Finset.univ fun j : Cp => stt (F := F) c w n j)
      ⊢ iprop(stt (F := F) c w n i ∗ (stt (F := F) c w' n' i -∗ bigSep Finset.univ fun j : Cp => stt (F := F) c w' n' j)) := by
  rw [split_at i (fun j : Cp => stt (F := F) c w n j), split_at i (fun j : Cp => stt (F := F) c w' n' j),
    bigSep_congr (s := Finset.univ.erase i) (Ψ := fun j : Cp => stt (F := F) c w' n' j) fun j hj => h j (Finset.mem_erase.mp hj).1]
  iintro ⟨H1, H2⟩
  isplitl [H1]; · iexact H1
  iintro H
  isplitl [H]; · iexact H
  iexact H2

omit [FloatOps F] in
theorem stt_start (c : Dev nD) (w : ℕ) (i : Cp) (hw : w ≤ i.seq) :
    (bigSep Finset.univ fun j : Cp => stt (F := F) c w i.seq j)
      ⊢ iprop(rdy (F := F) c i ∗ (fly (F := F) c i -∗ bigSep Finset.univ fun j : Cp => stt (F := F) c w (i.seq + 1) j)) := by
  refine (stt_turn c w i.seq w (i.seq + 1) i fun j hj => ?_).trans (Entails.of_eq ?_)
  · have hne : j.seq ≠ i.seq := fun h => hj (Cp.seq_inj h)
    unfold stt
    by_cases h1 : j.seq < w
    · rw [if_pos h1, if_pos h1]
    · rw [if_neg h1, if_neg h1]
      by_cases h2 : j.seq < i.seq
      · rw [if_pos h2, if_pos (by omega)]
      · rw [if_neg h2, if_neg (by omega)]
  · unfold stt
    rw [if_neg (by omega), if_neg (by omega), if_neg (by omega), if_pos (by omega)]

omit [FloatOps F] in
theorem stt_wait (c : Dev nD) (n : ℕ) (i : Cp) (hn : i.seq < n) :
    (bigSep Finset.univ fun j : Cp => stt (F := F) c i.seq n j)
      ⊢ iprop(fly (F := F) c i ∗ (ovr (F := F) c i -∗ bigSep Finset.univ fun j : Cp => stt (F := F) c (i.seq + 1) n j)) := by
  refine (stt_turn c i.seq n (i.seq + 1) n i fun j hj => ?_).trans (Entails.of_eq ?_)
  · have hne : j.seq ≠ i.seq := fun h => hj (Cp.seq_inj h)
    unfold stt
    by_cases h1 : j.seq < i.seq
    · rw [if_pos h1, if_pos (by omega)]
    · rw [if_neg h1, if_neg (show ¬ j.seq < i.seq + 1 by omega)]
  · unfold stt
    rw [if_neg (by omega), if_pos (by omega), if_pos (by omega)]

omit [FloatOps F] in
theorem Run_end (c : Dev nD) :
    (Run c 90 90 : sProp 𝕄) ⊢ iprop((bigSep Finset.univ fun i : Cp => ovr (F := F) c i) ∗ ∃ W, owes (c : Thread nD τ) 0 W) := by
  unfold Run
  rw [owed_end, bigSep_congr (s := Finset.univ) (Ψ := fun i : Cp => ovr (F := F) c i) fun i _ => by
    unfold stt; rw [if_pos i.seq_lt]]

abbrev WP (c : Dev nD) (p : PG F) (Q : PUnit → sProp 𝕄) : sProp 𝕄 :=
  wp frame (wpE (defs₀ (F := F)) 𝒱₀ (c : Thread nD τ) none) Set.univ p Q

variable {K : Dev nD × KI → ℕ} {c : Dev nD}

/-- A copy started. -/
theorem wp_start (i : Cp) {src dst : Memref sig .tc .vmem i.sh .bf16} {hs : src.view.WordExact} {hd : dst.view.WordExact}
    {dev : Dev nD} {k : PG F} {Q : PUnit → sProp 𝕄} (w n : ℕ) (hsrc : src = i.src c) (hdst : dst = i.dst c) (hdev : dev = i.tgt c)
    (hn : n = i.seq) (hw : w ≤ n)
    (fs : Buf (Elt F) ((i.src c).view.loc (c : Thread nD τ))) (hct : ct c i ((i.src c).view.read (Elt F) fs)) :
    iprop(records ct K ∗ Run (F := F) c w n
        ∗ ((i.src c).view.loc (c : Thread nD τ) ↦[(i.src c).view.set]{shr i} fs)
        ∗ (∃ f, (i.dst c).view.loc ((i.tgt c : Dev nD) : Thread nD τ) ↦[(i.dst c).view.set]{fullShare} f)
        ∗ (Run (F := F) c w (n + 1) -∗ WP c k Q))
      ⊢ WP c (startP src dst hs hd dev i.sS i.sR k) Q := by
  subst hsrc; subst hdst; subst hdev; subst hn
  have hd₁ : false ∈ (sched ct).duties (sCell c i) 0 := by rw [duties_s]; exact Finset.mem_singleton_self _
  have hd₂ : false ∈ (sched ct).duties (rCell (i.tgt c) i) 0 := by rw [duties_r]; exact Finset.mem_singleton_self _
  have hp₁ : ((i.src c).view.loc (c : Thread nD τ) ↦[(i.src c).view.set]{shr i} fs : sProp 𝕄) ⊢ (sched ct).payload (sCell c i) 0 false := by
    rw [payload_s]; unfold sendPay
    iintro H; iexists fs; iexact H
  have hp₂ (fd : Buf (Elt F) ((i.dst c).view.loc ((i.tgt c : Dev nD) : Thread nD τ))) :
      ((i.dst c).view.loc ((i.tgt c : Dev nD) : Thread nD τ) ↦[(i.dst c).view.set]{fullShare}
        ((i.dst c).view.write (Elt F) fd ((i.src c).view.read (Elt F) fs) Finset.univ) : sProp 𝕄)
      ⊢ (sched ct).payload (rCell (i.tgt c) i) 0 false := by
    rw [payload_r]; unfold recvPay
    rw [Cp.org_tgt]
    iintro H
    iexists ((i.dst c).view.write (Elt F) fd ((i.src c).view.read (Elt F) fs) Finset.univ)
    isplitr
    · ipureintro
      rw [View.read_write_univ]
      exact hct
    · iexact H
  have hrt : τ.routes (c : Thread nD τ) ((i.tgt c : Dev nD) : Thread nD τ) = true := by routes
  unfold Run startP
  iintro ⟨#HR, ⟨Hst, %W, HO⟩, Hs, ⟨%fd, Hd⟩, Hk⟩
  ihave Hst := (stt_start c w i hw) $$ Hst
  icases Hst with ⟨Hr, Hst⟩
  unfold rdy
  icases Hr with ⟨Ht1, Ht2, Ha1, Ha2, Hc⟩
  iapply (Rounds.wp_send_pointsTo 𝒱₀ ER (sched ct) (c : Thread nD τ) none (κ₁ := K (c, some (i, false))) (κ₂ := K (i.tgt c, some (i, true)))
    (c' := ((i.tgt c : Dev nD) : Thread nD τ)) (src := i.src c) (dst := i.dst c) (sem := .dma i.sR) (sS := .dma i.sS)
    (r₁ := 0) (r₂ := 0) (d₁ := false) (d₂ := false) (fd := fd)
    hd₁ hd₂ () () i.amt (Cp.dst_amt c i) (amount_s ct c i false) (amount_r ct (i.tgt c) i false) (owed c (i.seq + 1)) (owed_step c i) (W := W)
    hp₁ (hp₂ fd) (hr := hrt)) $$ [Hs Hd HO Ht1 Ht2]
  · isplitr; · iapply (inv_at ct K (c, some (i, false))); iexact HR
    isplitr; · iapply (inv_at ct K (i.tgt c, some (i, true))); iexact HR
    isplitl [Hs]; · iexact Hs
    isplitl [Hd]; · iexact Hd
    isplitl [HO]; · iexact HO
    isplitl [Ht1]; · iexact Ht1
    isplitr; · iapply (reached_at ct K (c, some (i, false))); iexact HR
    isplitl [Ht2]; · iexact Ht2
    iapply (reached_at ct K (i.tgt c, some (i, true))); iexact HR
  iintro ⟨Hcs, HO⟩
  iapply Hk
  isplitr [HO]
  · iapply Hst
    unfold fly
    isplitl [Hcs]; · iexact Hcs
    isplitl [Ha1]; · iexact Ha1
    isplitl [Ha2] <;> iassumption
  · iexists W; iexact HO

/-- A copy waited for, both sides: its source comes back, and what its counterpart carried. -/
theorem wp_waits (i : Cp) {src dst : Memref sig .tc .vmem i.sh .bf16} {hs : src.view.WordExact} {hd : dst.view.WordExact}
    {k : PG F} {Q : PUnit → sProp 𝕄} (w n : ℕ) (hsrc : src.view.dmaCredit = i.amt) (hdst : dst.view.dmaCredit = i.amt)
    (hw : w = i.seq) (hn : w < n) :
    iprop(records ct K ∗ levAts L lv ∗ Run (F := F) c w n
        ∗ (Run (F := F) c (w + 1) n -∗ sendPay (F := F) c i -∗ recvPay ct c i -∗ WP c k Q))
      ⊢ WP c (waitP src dst hs hd i.sS i.sR k) Q := by
  subst hw
  have hw₁ : ∀ K' : PUnit → sProp 𝕄, wpE (defs₀ (F := F)) 𝒱₀ (c : Thread nD τ) none Set.univ (.waitDma2 i.sS dst src hd hs) K'
      = waitSpec (c : Thread nD τ) Set.univ (.dma i.sS) i.amt K' := fun K' => by
    rw [wpE_waitDma2_eq, hsrc]
  have hw₂ : ∀ K' : PUnit → sProp 𝕄, wpE (defs₀ (F := F)) 𝒱₀ (c : Thread nD τ) none Set.univ (.waitDma2 i.sR src dst hs hd) K'
      = waitSpec (c : Thread nD τ) Set.univ (.dma i.sR) i.amt K' := fun K' => by
    rw [wpE_waitDma2_eq, hdst]
  have he₁ : 0 + i.amt = (sched ct).expect (sCell c i) 0 := by rw [Nat.zero_add]; exact (expect_s ct c i).symm
  have he₂ : 0 + i.amt = (sched ct).expect (rCell c i) 0 := by rw [Nat.zero_add]; exact (expect_r ct c i).symm
  have hm₁ : (levAts L lv : sProp 𝕄) ⊢ MayWait (c : Thread nD τ) (.dma i.sS) () (owed c n) :=
    mayWait_owed c (.dma i.sS) n 0 (le_of_eq (lv_low c _ fun j => Cp.sS_ne_sR i j)) (by omega)
  have hm₂ : (levAts L lv : sProp 𝕄) ⊢ MayWait (c : Thread nD τ) (.dma i.sR) () (owed c n) :=
    mayWait_owed c (.dma i.sR) n (2 + i.seq) (le_of_eq (lv_r c i)) (by omega)
  unfold Run waitP
  iintro ⟨#HR, #HL, ⟨Hst, %W, HO⟩, Hk⟩
  ihave Hst := (stt_wait c n i hn) $$ Hst
  icases Hst with ⟨Hr, Hst⟩
  unfold fly
  icases Hr with ⟨Hcs, Ha1, Ha2, Hc⟩
  ihave #HI1 := (inv_at ct K (c, some (i, false))) $$ HR
  ihave #HI2 := (inv_at ct K (c, some (i, true))) $$ HR
  iapply (Rounds.wp_wait_rest_token 𝒱₀ ER (sched ct) (c : Thread nD τ) none (κ := K (c, some (i, false))) (sm := .dma i.sS) (k' := i.amt)
      hw₁ (Set.mem_univ _) () (O := owed c n) (W := W) (R := 0) (m := 0) (T := ∅)
      he₁) $$ [Hcs HO Ha1]
  · isplitr; · iexact HI1
    isplitl [Hcs]; · iexact Hcs
    isplitl [HO]; · iexact HO
    isplitr
    · iapply hm₁; iexact HL
    iexact Ha1
  iintro ⟨HO, Ha1, -, Hp1⟩
  ihave Hp1 := (Entails.of_eq (rest_s ct c i)) $$ Hp1
  iapply (Rounds.wp_wait_rest_token 𝒱₀ ER (sched ct) (c : Thread nD τ) none (κ := K (c, some (i, true))) (sm := .dma i.sR) (k' := i.amt)
      hw₂ (Set.mem_univ _) () (O := owed c n)
      (W := insert (SemLoc.dma i.sS, ()) W) (R := 0) (m := 0) (T := ∅)
      he₂) $$ [Hc HO Ha2]
  · isplitr; · iexact HI2
    isplitl [Hc]; · iexact Hc
    isplitl [HO]; · iexact HO
    isplitr
    · iapply hm₂; iexact HL
    iexact Ha2
  iintro ⟨HO, Ha2, -, Hp2⟩
  ihave Hp2 := (Entails.of_eq (rest_r ct c i)) $$ Hp2
  imod (Rounds.cell_close ER (sched ct) (Set.mem_univ (K (c, some (i, false)))) (fun h => h) (R := 0 + 1) (duties_later ct (sCell c i))) $$ [Ha1] with Hz1
  · isplitr; · iexact HI1
    iexact Ha1
  imod (Rounds.cell_close ER (sched ct) (Set.mem_univ (K (c, some (i, true)))) (fun h => h) (R := 0 + 1) (duties_later ct (rCell c i))) $$ [Ha2] with Hz2
  · isplitr; · iexact HI2
    iexact Ha2
  iapply Hk $$ [Hst Hz1 Hz2 HO] [Hp1] [Hp2]
  · isplitr [HO]
    · iapply Hst
      unfold ovr
      isplitl [Hz1] <;> iassumption
    · iexists _; iexact HO
  · iexact Hp1
  · iexact Hp2

end Cert.KernelIdeal.Ring
end
-- ==== Proof.Spec.lean ====
module

public import proofs.«01_k».proof.Proof.Run
public import Idealize.ShloMosaic.Lib.ValueIdx
public import Idealize.ShloMosaic.Lib.Pipeline.Value

/-! What the buffers hold: each device's sums over its part of the sequence, what the reduction streams
carry, the finished chunk, its projection, and the result. Columns 1032 and up of the sums are unused. -/

@[expose] public section

noncomputable section

namespace Cert.KernelIdeal.Ring

open Idealize.ShloMosaic
open Idealize.ShloMosaic.ValueIdx
open Facts₀ Facts
open Cert.KernelIdeal.Gen (facts facts₀)

variable {F : FTy → Type} [FloatOps F]

/-- One device's inputs. -/
structure Inp (F : FTy → Type) where
  x : Vec F S4x256x1024 .f32
  wq : Vec F S1024x1024 .f32
  wo : Vec F S1024x1024 .f32
  k : Vec F S4x1024x2x128 .f32
  v : Vec F S4x1024x2x128 .f32

/-- A rectangle of an array. -/
def sl {s : Shape} {e : EltTy} (r : Rect s) (f : Vec F s e) : Vec F r.toLoadRect.shape e := fun j => f (r.emb j)

section
variable (I : Inp F) (b : Fin 4) (h : Fin 8)

def qB : FVec F S256x1024 .f32 := qV (sl (xR (bo b).x (bo b).hx) I.x) (sl wR I.wq)
def kB : FVec F S1024x128 .f32 := if h.val < 4 then kV (sl (kR (bo b).k0 (bo b).hk0) I.k) else kV (sl (kR (bo b).k1 (bo b).hk1) I.k)
def vB : FVec F S1024x128 .f32 := if h.val < 4 then kV (sl (kR (bo b).k0 (bo b).hk0) I.v) else kV (sl (kR (bo b).k1 (bo b).hk1) I.v)
/-- A batch's weighted sums of one head, and its row sums. -/
def aB : FVec F S256x128 .f32 := aV (qB I b) (kB I b h) (vB I b h) h
def lB : FVec F S256x1 .f32 := lV (qB I b) (kB I b h) h

/-- All the sums of one device. -/
def ownS : FVec F S1024x1152 .f32 := fun i =>
  if hc : (i 1).val < 1024 then
    aB I ⟨(i 0).val / 256, by have : (i 0).val < 1024 := (i 0).isLt; omega⟩ ⟨(i 1).val / 128, by omega⟩
      (ix2 (n0 := 256) (n1 := 128) ⟨(i 0).val % 256, Nat.mod_lt _ (by decide)⟩ ⟨(i 1).val % 128, Nat.mod_lt _ (by decide)⟩)
  else
    lB I ⟨(i 0).val / 256, by have : (i 0).val < 1024 := (i 0).isLt; omega⟩ ⟨(i 1).val % 8, Nat.mod_lt _ (by decide)⟩
      (ix2 (n0 := 256) (n1 := 1) ⟨(i 0).val % 256, Nat.mod_lt _ (by decide)⟩ 0)

/-- The sums as they are sent. -/
def ownB : FVec F S1024x1152 .bf16 := truncf .bf16 (ownS I) bitsLt_bf16_f32

end

variable (I : Dev nD → Inp F)

/-- Row `r` of the sixteen of the piece `s` of the chunk `e` places after the device's own. -/
def rowAt (c : Dev nD) (e : ℕ) (s : Fin 4) (j : S16x1152.Idx) : S1024x1152.Idx :=
  ix2 (n0 := 1024) (n1 := 1152) ⟨64 * ch c e + 16 * s.val + (j 0).val, by have := ch_lt c e; have : (j 0).val < 16 := (j 0).isLt; omega⟩ (j 1)

def rowsB (c : Dev nD) (e : ℕ) (s : Fin 4) : FVec F S16x1152 .bf16 := fun j => ownB (I c) (rowAt c e s j)

/-- What the left-going copies of device `c` carry. -/
def LW : ℕ → Dev nD → Fin 4 → FVec F S16x1152 .bf16
  | 0, c, s => rowsB I c 9 s
  | t + 1, c, s => addf (rowsB I c (10 + t) s) (LW t (rd c) s)
/-- What the right-going copies of device `c` carry. -/
def RW : ℕ → Dev nD → Fin 4 → FVec F S16x1152 .bf16
  | 0, c, s => rowsB I c 8 s
  | t + 1, c, s => addf (rowsB I c (7 - t) s) (RW t (ld c) s)

/-- The own chunk with what came from the previous device, then with what came from the next. -/
def finR (c : Dev nD) (s : Fin 4) : FVec F S16x1152 .f32 :=
  addf (fun j => ownS (I c) (rowAt c 1 s j)) (extf .f32 (RW I 6 (ld c) s) bitsLt_bf16_f32)
def finL (c : Dev nD) (s : Fin 4) : FVec F S16x1152 .f32 :=
  addf (finR I c s) (extf .f32 (LW I 7 (rd c) s) bitsLt_bf16_f32)

def subOf (i : S1024x1152.Idx) : Fin 4 := ⟨(i 0).val / 16 % 4, Nat.mod_lt _ (by decide)⟩
def inPc (i : S1024x1152.Idx) : S16x1152.Idx := ix2 (n0 := 16) (n1 := 1152) ⟨(i 0).val % 16, Nat.mod_lt _ (by decide)⟩ (i 1)

/-- The sums, of the own chunk the first `nr` pieces with what came from the previous device, the first
`nl` with what came from the next as well. -/
def finS (c : Dev nD) (nr nl : ℕ) : FVec F S1024x1152 .f32 := fun i =>
  if (i 0).val / 64 = ch c 1 then
    (if (subOf i).val < nl then finL I c (subOf i) (inPc i)
      else if (subOf i).val < nr then finR I c (subOf i) (inPc i) else ownS (I c) i)
  else ownS (I c) i

/-- Row `r` of the own chunk. -/
def chunkAt (c : Dev nD) (r : Fin 64) (k : Fin 1152) : S1024x1152.Idx :=
  ix2 (n0 := 1024) (n1 := 1152) ⟨64 * ch c 1 + r.val, by have := ch_lt c 1; omega⟩ k

def aC (c : Dev nD) (h : Fin 8) : FVec F S64x128 .f32 := fun j =>
  finS I c 4 4 (chunkAt c (j 0) ⟨128 * h.val + (j 1).val, by have : (j 1).val < 128 := (j 1).isLt; omega⟩)
def lC (c : Dev nD) (h : Fin 8) : FVec F S64x1 .f32 := fun j =>
  finS I c 4 4 (chunkAt c (j 0) ⟨1024 + h.val, by omega⟩)

/-- The own chunk divided by its row sums. -/
def nC (c : Dev nD) : FVec F S64x1024 .f32 := fun i =>
  nV (aC I c ⟨(i 1).val / 128, by have : (i 1).val < 1024 := (i 1).isLt; omega⟩)
    (lC I c ⟨(i 1).val / 128, by have : (i 1).val < 1024 := (i 1).isLt; omega⟩)
    (ix2 (n0 := 64) (n1 := 128) (i 0) ⟨(i 1).val % 128, Nat.mod_lt _ (by decide)⟩)

/-- Its projection. -/
def oC (c : Dev nD) : FVec F S64x1024 .f32 := oV (sl nwR (nC I c)) (sl wR (I c).wo)

/-- The device whose own chunk is `k`. -/
def owner (k : ℕ) : Dev nD := atP (k + 15)

def inChunk (i : S1024x1024.Idx) : S64x1024.Idx := ix2 (n0 := 64) (n1 := 1024) ⟨(i 0).val % 64, Nat.mod_lt _ (by decide)⟩ (i 1)

/-- All chunks' projections as they are sent. -/
def obAll : FVec F S1024x1024 .bf16 := fun i => obV (oC I (owner ((i 0).val / 64))) (inChunk i)

/-- The result: the own chunk as computed, the others as received. -/
def outV (c : Dev nD) : FVec F S1024x1024 .f32 := fun i =>
  if (i 0).val / 64 = ch c 1 then oC I c (inChunk i) else extf .f32 (obAll I) bitsLt_bf16_f32 i

theorem owner_of {c : Dev nD} {k : ℕ} (h : k = ch c 1) : owner k = c := by
  apply pos_inj
  unfold owner
  rw [pos_atP, h]
  have := pos_lt c
  unfold ch
  omega

/-- What the copies carry. -/
def ct : Carry F := fun c i => match i with
  | .L t s => fun v => ∀ j : S16x1152.Idx, (j 1).val < 1032 → v j = LW I t.val c s j
  | .R t s => fun v => ∀ j : S16x1152.Idx, (j 1).val < 1032 → v j = RW I t.val c s j
  | .A t s => fun v => v = sl (pieR (k0_off62 c (w32 t.val) (w32 (32 * s.val))) (k0_off62_inb c t s)) (obAll I)
  | .B t s => fun v => v = sl (pieR (k0_off63 c (w32 t.val) (w32 (32 * s.val))) (k0_off63_inb c t s)) (obAll I)

/-! ### The steps' values at an index -/

theorem sbV_eq (s : Vec F S256x1152 .f32) (S : FVec F S1024x1152 .f32) (j : S256x1152.Idx) (i : S1024x1152.Idx) (h : s j = S i) :
    sbV s j = truncf .bf16 S bitsLt_bf16_f32 i := by
  unfold sbV
  rw [shapeCast_self]
  show FloatOps.truncf _ _ (s j) = FloatOps.truncf _ _ (S i)
  rw [h]

theorem accV_eq (b : Vec F S16x1152 .bf16) (y : Vec F S1x16x1152 .bf16) (B Y : FVec F S16x1152 .bf16) (j : S16x1152.Idx)
    (h1 : b j = B j) (h2 : y (ix3 (n0 := 1) (n1 := 16) (n2 := 1152) 0 (j 0) (j 1)) = Y j) : accV b y j = addf B Y j := by
  unfold accV
  rw [shapeCast_self]
  show FloatOps.addf (b j) (shapeCast S16x1152 y shapeCasts_S1x16x1152_S16x1152 j) = FloatOps.addf (B j) (Y j)
  rw [h1, ← h2]
  congr 1
  refine (shapeCast_dropUnit_apply ![16, 1152] y _ j).trans (congrArg y ?_)
  funext a
  match a with
  | ⟨0, _⟩ => rfl
  | ⟨1, _⟩ => rfl
  | ⟨2, _⟩ => rfl

theorem finV_eq (b : Vec F S16x1152 .f32) (y : Vec F S1x16x1152 .bf16) (B : FVec F S16x1152 .f32) (Y : FVec F S16x1152 .bf16) (j : S16x1152.Idx)
    (h1 : b j = B j) (h2 : y (ix3 (n0 := 1) (n1 := 16) (n2 := 1152) 0 (j 0) (j 1)) = Y j) : finV b y j = addf B (extf .f32 Y bitsLt_bf16_f32) j := by
  unfold finV
  rw [shapeCast_self]
  have h3 : shapeCast S16x1152 y shapeCasts_S1x16x1152_S16x1152 j = Y j := by
    rw [← h2]
    refine (shapeCast_dropUnit_apply ![16, 1152] y _ j).trans (congrArg y ?_)
    funext a
    match a with
    | ⟨0, _⟩ => rfl
    | ⟨1, _⟩ => rfl
    | ⟨2, _⟩ => rfl
  show FloatOps.addf (b j) (FloatOps.extf _ _ (shapeCast S16x1152 y shapeCasts_S1x16x1152_S16x1152 j)) = FloatOps.addf (B j) (FloatOps.extf _ _ (Y j))
  rw [h1, h3]

end Cert.KernelIdeal.Ring
end
-- ==== Proof.Places.lean ====
module

public import proofs.«01_k».proof.Proof.Spec

/-! Where the copies' sources and landing places lie, counted from the device's own chunk. -/

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Facts₀ Facts
open Cert.KernelIdeal.Gen (facts facts₀)

variable {F : FTy → Type} [FloatOps F]

local notation "𝕄" => MT nD τ sig Unit (Elt F) ℕ UU ℕ

/-! ### Rows -/

theorem rel_row (c : Dev nD) (e s row : ℕ) (hs : s < 4) (hr : row < 1024) :
    row / 16 = 4 * ch c e + s ↔ rel c row / 16 = (4 * e + s) % 64 := by
  have := pos_lt c
  unfold rel ch
  omega

theorem mem_rowR {c : Dev nD} {o : Fin 2 → Nat} {h : ∀ a, o a + S16x1152.size a ≤ S1024x1152.size a} {e : ℕ} {s : Fin 4}
    (ho : o = ![64 * ch c e + 16 * s.val, 0]) (i : S1024x1152.Idx) :
    i ∈ (rowR o h).set ↔ rel c (i 0).val / 16 = (4 * e + s.val) % 64 := by
  subst ho
  have hi0 : (i 0).val < 1024 := (i 0).isLt
  have hi : (i 1).val < 1152 := (i 1).isLt
  rw [← rel_row c e s.val (i 0).val s.isLt hi0, Rect.mem_set_unit]
  constructor
  · intro H
    have h0 : 64 * ch c e + 16 * s.val ≤ (i 0).val ∧ (i 0).val < 64 * ch c e + 16 * s.val + 16 := H 0
    omega
  · intro h0 a
    match a with
    | ⟨0, _⟩ => show 64 * ch c e + 16 * s.val ≤ (i 0).val ∧ (i 0).val < 64 * ch c e + 16 * s.val + 16; omega
    | ⟨1, _⟩ => show 0 ≤ (i 1).val ∧ (i 1).val < 0 + 1152; omega

theorem emb_rowR {c : Dev nD} {o : Fin 2 → Nat} {h : ∀ a, o a + S16x1152.size a ≤ S1024x1152.size a} {e : ℕ} {s : Fin 4}
    (ho : o = ![64 * ch c e + 16 * s.val, 0]) (j : S16x1152.Idx) : (rowR o h).emb j = rowAt c e s j := by
  subst ho
  funext a
  match a with
  | ⟨0, _⟩ => apply Fin.ext; show 64 * ch c e + 16 * s.val + 1 * (j 0).val = 64 * ch c e + 16 * s.val + (j 0).val; omega
  | ⟨1, _⟩ => apply Fin.ext; show 0 + 1 * (j 1).val = (j 1).val; omega

theorem inPc_rowAt (c : Dev nD) (e : ℕ) (s : Fin 4) (j : S16x1152.Idx) : inPc (rowAt c e s j) = j := by
  have h0 : (j 0).val < 16 := (j 0).isLt
  funext a
  match a with
  | ⟨0, _⟩ => apply Fin.ext; show (64 * ch c e + 16 * s.val + (j 0).val) % 16 = (j 0).val; omega
  | ⟨1, _⟩ => rfl

theorem rowAt_inPc {c : Dev nD} {e : ℕ} {s : Fin 4} {i : S1024x1152.Idx} (h : rel c (i 0).val / 16 = (4 * e + s.val) % 64) :
    rowAt c e s (inPc i) = i := by
  have hi0 : (i 0).val < 1024 := (i 0).isLt
  have h2 := (rel_row c e s.val (i 0).val s.isLt hi0).mpr h
  funext a
  match a with
  | ⟨0, _⟩ => apply Fin.ext; show 64 * ch c e + 16 * s.val + (i 0).val % 16 = (i 0).val; omega
  | ⟨1, _⟩ => rfl

/-! ### Slots -/

theorem mem_slotR {n : ℕ} (t : Fin n) (s : Fin 4) (i : (⟨3, ![n, 64, 1152]⟩ : Shape).Idx) :
    i ∈ (slotR t s).set ↔ 4 * (i 0).val + (i 1).val / 16 = 4 * t.val + s.val := by
  have hi1 : (i 1).val < 64 := (i 1).isLt
  have hi : (i 2).val < 1152 := (i 2).isLt
  rw [Rect.mem_set_unit]
  constructor
  · intro H
    have h0 : t.val ≤ (i 0).val ∧ (i 0).val < t.val + 1 := H 0
    have h1 : 16 * s.val ≤ (i 1).val ∧ (i 1).val < 16 * s.val + 16 := H 1
    omega
  · intro h0 a
    have hs := s.isLt
    match a with
    | ⟨0, _⟩ => show t.val ≤ (i 0).val ∧ (i 0).val < t.val + 1; omega
    | ⟨1, _⟩ => show 16 * s.val ≤ (i 1).val ∧ (i 1).val < 16 * s.val + 16; omega
    | ⟨2, _⟩ => show 0 ≤ (i 2).val ∧ (i 2).val < 0 + 1152; omega

/-- The place of an element in a slot. -/
abbrev in3 (j : S16x1152.Idx) : S1x16x1152.Idx := ix3 (n0 := 1) (n1 := 16) (n2 := 1152) 0 (j 0) (j 1)

theorem read_lbS (t : Fin 8) (s : Fin 4) (f : (lbS t s).view.ty.Contents (Elt F)) (j : S16x1152.Idx) :
    (lbS t s).view.read (Elt F) f j = f ((slotR t s).emb (in3 j)) := by
  show shapeCast S16x1152 (fun k : S1x16x1152.Idx => (f ((slotR t s).emb k) : Elt F .bf16)) shapeCasts_S1x16x1152_S16x1152 j = _
  refine (shapeCast_dropUnit_apply ![16, 1152] _ _ j).trans (congrArg (fun k : S1x16x1152.Idx => (f ((slotR t s).emb k) : Elt F .bf16)) ?_)
  funext a
  match a with
  | ⟨0, _⟩ => rfl
  | ⟨1, _⟩ => rfl
  | ⟨2, _⟩ => rfl
theorem read_rbS (t : Fin 7) (s : Fin 4) (f : (rbS t s).view.ty.Contents (Elt F)) (j : S16x1152.Idx) :
    (rbS t s).view.read (Elt F) f j = f ((slotR t s).emb (in3 j)) := by
  show shapeCast S16x1152 (fun k : S1x16x1152.Idx => (f ((slotR t s).emb k) : Elt F .bf16)) shapeCasts_S1x16x1152_S16x1152 j = _
  refine (shapeCast_dropUnit_apply ![16, 1152] _ _ j).trans (congrArg (fun k : S1x16x1152.Idx => (f ((slotR t s).emb k) : Elt F .bf16)) ?_)
  funext a
  match a with
  | ⟨0, _⟩ => rfl
  | ⟨1, _⟩ => rfl
  | ⟨2, _⟩ => rfl

theorem set_lbS (t : Fin 8) (s : Fin 4) : (lbS t s).view.set = (slotR t s).set :=
  (View.set_reshape _ _).trans (View.set_slice_whole _ _)
theorem set_rbS (t : Fin 7) (s : Fin 4) : (rbS t s).view.set = (slotR t s).set :=
  (View.set_reshape _ _).trans (View.set_slice_whole _ _)
theorem set_sbS (o : Fin 2 → Nat) (h : ∀ a, o a + S16x1152.size a ≤ S1024x1152.size a) : (sbS o h).view.set = (rowR o h).set :=
  View.set_slice_whole _ _
theorem set_obS (o : Fin 2 → Nat) (h : ∀ a, o a + S32x1024.size a ≤ S1024x1024.size a) : (obS o h).view.set = (pieR o h).set :=
  View.set_slice_whole _ _
theorem read_sbS (o : Fin 2 → Nat) (h : ∀ a, o a + S16x1152.size a ≤ S1024x1152.size a) (f : (sbS o h).view.ty.Contents (Elt F)) (j : S16x1152.Idx) :
    (sbS o h).view.read (Elt F) f j = f ((rowR o h).emb j) := rfl
theorem read_obS (o : Fin 2 → Nat) (h : ∀ a, o a + S32x1024.size a ≤ S1024x1024.size a) (f : (obS o h).view.ty.Contents (Elt F)) :
    (obS o h).view.read (Elt F) f = sl (pieR o h) f := rfl

/-! ### Pieces of the gathering buffer -/

theorem rel_pie (c : Dev nD) (e s row : ℕ) (hs : s < 2) (hr : row < 1024) :
    row / 32 = 2 * ch c e + s ↔ rel c row / 32 = (2 * e + s) % 32 := by
  have := pos_lt c
  unfold rel ch
  omega

theorem mem_pieR {c : Dev nD} {o : Fin 2 → Nat} {h : ∀ a, o a + S32x1024.size a ≤ S1024x1024.size a} {e : ℕ} {s : Fin 2}
    (ho : o = ![64 * ch c e + 32 * s.val, 0]) (i : S1024x1024.Idx) :
    i ∈ (pieR o h).set ↔ rel c (i 0).val / 32 = (2 * e + s.val) % 32 := by
  subst ho
  have hi0 : (i 0).val < 1024 := (i 0).isLt
  have hi : (i 1).val < 1024 := (i 1).isLt
  rw [← rel_pie c e s.val (i 0).val s.isLt hi0, Rect.mem_set_unit]
  constructor
  · intro H
    have h0 : 64 * ch c e + 32 * s.val ≤ (i 0).val ∧ (i 0).val < 64 * ch c e + 32 * s.val + 32 := H 0
    omega
  · intro h0 a
    match a with
    | ⟨0, _⟩ => show 64 * ch c e + 32 * s.val ≤ (i 0).val ∧ (i 0).val < 64 * ch c e + 32 * s.val + 32; omega
    | ⟨1, _⟩ => show 0 ≤ (i 1).val ∧ (i 1).val < 0 + 1024; omega

theorem rel_own (c : Dev nD) (row : ℕ) (hr : row < 1024) : row / 64 = ch c 1 ↔ rel c row / 64 = 1 := by
  have := pos_lt c
  unfold rel ch
  omega

/-! ### Pools -/

omit [FloatOps F] in
theorem pool_take {c : Dev nD} {b : Ref sig .tc} {P P' : b.ty.Idx → Prop} {T : Finset b.ty.Idx}
    (hT : ∀ i ∈ T, P i) (hP : ∀ i, P' i ↔ P i ∧ i ∉ T) :
    (pool (F := F) c b P : sProp 𝕄) ⊢ iprop((∃ f : Buf (Elt F) ((c : Thread nD τ).loc b), (c : Thread nD τ).loc b ↦[T]{fullShare} f) ∗ pool (F := F) c b P') := by
  have hs : pick P \ T = pick P' := by
    ext i; rw [Finset.mem_sdiff, mem_pick, mem_pick, hP]
  unfold pool
  iintro ⟨%f, H⟩
  ihave H := (pointsTo_split_subset (I := T) (fun i hi => mem_pick.mpr (hT i hi))).1 $$ H
  icases H with ⟨H1, H2⟩
  rw [hs]
  isplitl [H1]
  · iexists f; iexact H1
  · iexists f; iexact H2

end Cert.KernelIdeal.Ring
end
-- ==== Proof.Red.lean ====
module

public import proofs.«01_k».proof.Proof.Places

/-! The reduction streams: copies started, waited for, added and sent on. -/

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Facts₀ Facts
open Cert.KernelIdeal.Gen (facts facts₀)

variable {F : FTy → Type} [FloatOps F]

local notation "𝕄" => MT nD τ sig Unit (Elt F) ℕ UU ℕ

/-- The sixteen-row block an element lies in, counted from the device's own chunk. -/
def qOf (c : Dev nD) (i : S1024x1152.Idx) : ℕ := rel c (i 0).val / 16

theorem qOf_lt (c : Dev nD) (i : S1024x1152.Idx) : qOf c i < 64 := by unfold qOf rel; omega

/-- The blocks the left-going copies are sent from, and their order; the same of the right-going. -/
def isL (q : ℕ) : Prop := 36 ≤ q ∨ q < 4
def jL (q : ℕ) : ℕ := (q + 28) % 64
def isR (q : ℕ) : Prop := 8 ≤ q ∧ q < 36
def jR (q : ℕ) : ℕ := 4 * (8 - q / 4) + q % 4

/-- The blocks not on their way: of the left-going copies `a` to `b` are, of the right-going `a'` to `b'`. -/
def sbP (c : Dev nD) (a b a' b' : ℕ) (i : S1024x1152.Idx) : Prop :=
  ¬ (isL (qOf c i) ∧ a ≤ jL (qOf c i) ∧ jL (qOf c i) < b) ∧ ¬ (isR (qOf c i) ∧ a' ≤ jR (qOf c i) ∧ jR (qOf c i) < b')
/-- The sums still to be sent, of the batches done. -/
def sbD (c : Dev nD) (C : ℕ → Prop) (b b' : ℕ) (i : S1024x1152.Idx) : Prop :=
  (C ((i 0).val / 256) ∧ (i 1).val < 1032) ∧ (isL (qOf c i) → b ≤ jL (qOf c i)) ∧ (isR (qOf c i) → b' ≤ jR (qOf c i))

def slotL (i : S8x64x1152.Idx) : ℕ := 4 * (i 0).val + (i 1).val / 16
def slotRt (i : S7x64x1152.Idx) : ℕ := 4 * (i 0).val + (i 1).val / 16

/-- One block of the sums, the unused columns apart. -/
def blkD (c : Dev nD) (q : ℕ) (i : S1024x1152.Idx) : Prop := qOf c i = q ∧ (i 1).val < 1032
abbrev Blk (c : Dev nD) (q : ℕ) (W : FVec F S16x1152 .bf16) : sProp 𝕄 :=
  PT c cc0_scratch1 (fun i => qOf c i = q) (blkD c q) (fun i => W (inPc i))

/-- A received slot. -/
abbrev SlL (c : Dev nD) (t : Fin 8) (s : Fin 4) (W : FVec F S16x1152 .bf16) : sProp 𝕄 :=
  PT c cc0_scratch2 (fun i => slotL i = 4 * t.val + s.val) (fun i => slotL i = 4 * t.val + s.val ∧ (i 2).val < 1032)
    (fun i => W (ValueIdx.ix2 (n0 := 16) (n1 := 1152) ⟨(i 1).val % 16, Nat.mod_lt _ (by decide)⟩ (i 2)))
abbrev SlR (c : Dev nD) (t : Fin 7) (s : Fin 4) (W : FVec F S16x1152 .bf16) : sProp 𝕄 :=
  PT c cc0_scratch3 (fun i => slotRt i = 4 * t.val + s.val) (fun i => slotRt i = 4 * t.val + s.val ∧ (i 2).val < 1032)
    (fun i => W (ValueIdx.ix2 (n0 := 16) (n1 := 1152) ⟨(i 1).val % 16, Nat.mod_lt _ (by decide)⟩ (i 2)))

variable (I : Dev nD → Inp F) {K : Dev nD × KI → ℕ} {c : Dev nD}

theorem qOf_row {c : Dev nD} {e : ℕ} {s : Fin 4} {i : S1024x1152.Idx} (q : ℕ) (hq : q = (4 * e + s.val) % 64) :
    rel c (i 0).val / 16 = (4 * e + s.val) % 64 ↔ qOf c i = q := by subst hq; exact Iff.rfl

/-- Starting a left-going copy. -/
theorem wp_startL {k : PG F} {Q : PUnit → sProp 𝕄} (t : Fin 8) (s : Fin 4) (w n m nb q : ℕ) (hn : n = (Cp.L t s).seq) (hw : w ≤ n)
    (hm : m = 4 * t.val + s.val) (hq : q = (36 + m) % 64) :
    iprop(records (ct I) K ∗ Run (F := F) c w n ∗ landL (F := F) c m nb ∗ Blk c q (LW I t.val c s)
        ∗ (Run (F := F) c w (n + 1) -∗ landL (F := F) c (m + 1) nb -∗ WP c k Q))
      ⊢ WP c (startL c t s k) Q := by
  have hqe : q = (4 * (9 + t.val) + s.val) % 64 := by subst hq; subst hm; omega
  unfold startL
  iintro ⟨#HR, Hrun, Hl, Hb, Hk⟩
  unfold landL
  icases Hl with ⟨Hl, Hob⟩
  ihave Hb := (PT_to (b := cc0_scratch1) (T := ((lSrc c t s).view.set : Finset S1024x1152.Idx)) (fun i => by
    rw [set_sbS]
    exact (qOf_row q hqe).symm.trans (mem_rowR (o21 c t s) i).symm)) $$ Hb
  icases Hb with ⟨%f, %hf, Hb⟩
  ihave Hl := (pool_take (b := cc0_scratch2) (P' := lFrom (m + 1)) (T := ((lbS t s).view.set : Finset S8x64x1152.Idx))
    (fun i hi => by
      rw [set_lbS] at hi
      have := (mem_slotR t s i).mp hi
      unfold lFrom; omega)
    (fun i => by
      rw [set_lbS]
      have := mem_slotR t s i
      rw [this]
      unfold lFrom; omega)) $$ Hl
  icases Hl with ⟨Hd, Hl⟩
  iapply (wp_start (ct I) (.L t s) w n rfl rfl (lDev_eq c t s) hn hw f (fun j hj => by
    have e := emb_rowR (h := k0_off21_inb c t s) (o21 c t s) j
    rw [show ((Cp.L t s).src c).view.read (Elt F) f j = f ((rowR (k0_off21 c (w32 t.val) (w32 (16 * s.val))) (k0_off21_inb c t s)).emb j) from rfl, e]
    have hb : blkD c q (rowAt c (9 + t.val) s j) :=
      ⟨(qOf_row q hqe).mp ((mem_rowR (o21 c t s) _).mp (by rw [← e, ← Rect.map_emb_univ]; exact Finset.mem_map_of_mem _ (Finset.mem_univ j))), hj⟩
    rw [hf _ hb, inPc_rowAt])) $$ [Hrun Hl Hob Hb Hd Hk]
  isplitr; · iexact HR
  isplitl [Hrun]; · iexact Hrun
  isplitl [Hb]; · iexact Hb
  isplitl [Hd]; · iexact Hd
  iintro Hrun
  iapply Hk $$ [Hrun] [Hl Hob]
  · iexact Hrun
  · isplitl [Hl] <;> iassumption

/-- Starting a right-going copy. -/
theorem wp_startR {k : PG F} {Q : PUnit → sProp 𝕄} (t : Fin 7) (s : Fin 4) (w n m nb q : ℕ) (hn : n = (Cp.R t s).seq) (hw : w ≤ n)
    (hm : m = 4 * t.val + s.val) (hq : q = 4 * (8 - t.val) + s.val) :
    iprop(records (ct I) K ∗ Run (F := F) c w n ∗ landR (F := F) c m nb ∗ Blk c q (RW I t.val c s)
        ∗ (Run (F := F) c w (n + 1) -∗ landR (F := F) c (m + 1) nb -∗ WP c k Q))
      ⊢ WP c (startR c t s k) Q := by
  have hqe : q = (4 * (8 - t.val) + s.val) % 64 := by subst hq; have := t.isLt; have := s.isLt; omega
  unfold startR
  iintro ⟨#HR, Hrun, Hl, Hb, Hk⟩
  unfold landR
  icases Hl with ⟨Hl, Hob⟩
  ihave Hb := (PT_to (b := cc0_scratch1) (T := ((rSrc c t s).view.set : Finset S1024x1152.Idx)) (fun i => by
    rw [set_sbS]
    exact (qOf_row q hqe).symm.trans (mem_rowR (o22 c t s) i).symm)) $$ Hb
  icases Hb with ⟨%f, %hf, Hb⟩
  ihave Hl := (pool_take (b := cc0_scratch3) (P' := rFrom (m + 1)) (T := ((rbS t s).view.set : Finset S7x64x1152.Idx))
    (fun i hi => by
      rw [set_rbS] at hi
      have := (mem_slotR t s i).mp hi
      unfold rFrom; omega)
    (fun i => by
      rw [set_rbS]
      have := mem_slotR t s i
      rw [this]
      unfold rFrom; omega)) $$ Hl
  icases Hl with ⟨Hd, Hl⟩
  iapply (wp_start (ct I) (.R t s) w n rfl rfl (rDev_eq c t s) hn hw f (fun j hj => by
    have e := emb_rowR (h := k0_off22_inb c t s) (o22 c t s) j
    rw [show ((Cp.R t s).src c).view.read (Elt F) f j = f ((rowR (k0_off22 c (w32 t.val) (w32 (16 * s.val))) (k0_off22_inb c t s)).emb j) from rfl, e]
    have hb : blkD c q (rowAt c (8 - t.val) s j) :=
      ⟨(qOf_row q hqe).mp ((mem_rowR (o22 c t s) _).mp (by rw [← e, ← Rect.map_emb_univ]; exact Finset.mem_map_of_mem _ (Finset.mem_univ j))), hj⟩
    rw [hf _ hb, inPc_rowAt])) $$ [Hrun Hl Hob Hb Hd Hk]
  isplitr; · iexact HR
  isplitl [Hrun]; · iexact Hrun
  isplitl [Hb]; · iexact Hb
  isplitl [Hd]; · iexact Hd
  iintro Hrun
  iapply Hk $$ [Hrun] [Hl Hob]
  · iexact Hrun
  · isplitl [Hl] <;> iassumption

theorem sbP_waitL {c : Dev nD} {a b a' b' : ℕ} (hb : a < b) (h32 : a < 32) (i : S1024x1152.Idx) :
    (sbP c (a + 1) b a' b' i ↔ sbP c a b a' b' i ∨ qOf c i = (36 + a) % 64) ∧ (qOf c i = (36 + a) % 64 → ¬ sbP c a b a' b' i) := by
  have hq := qOf_lt c i
  unfold sbP isL jL isR jR
  generalize qOf c i = q at *
  have hj : q = (36 + a) % 64 ↔ ((36 ≤ q ∨ q < 4) ∧ (q + 28) % 64 = a) := by omega
  rw [hj]
  by_cases hL : 36 ≤ q ∨ q < 4
  · have hR : ¬ (8 ≤ q ∧ q < 36) := by omega
    generalize (q + 28) % 64 = j
    simp only [hL, hR, true_and, false_and, not_false_eq_true, and_true]
    omega
  · simp only [hL, false_and, not_false_eq_true, true_and, or_false, iff_self, false_imp_iff]
theorem sbP_waitR {c : Dev nD} {a b a' b' : ℕ} (hb : a' < b') (h28 : a' < 28) (i : S1024x1152.Idx) :
    (sbP c a b (a' + 1) b' i ↔ sbP c a b a' b' i ∨ qOf c i = 4 * (8 - a' / 4) + a' % 4) ∧ (qOf c i = 4 * (8 - a' / 4) + a' % 4 → ¬ sbP c a b a' b' i) := by
  have hq := qOf_lt c i
  unfold sbP isL jL isR jR
  generalize qOf c i = q at *
  have hj : q = 4 * (8 - a' / 4) + a' % 4 ↔ ((8 ≤ q ∧ q < 36) ∧ 4 * (8 - q / 4) + q % 4 = a') := by omega
  rw [hj]
  by_cases hR : 8 ≤ q ∧ q < 36
  · have hL : ¬ (36 ≤ q ∨ q < 4) := by omega
    generalize 4 * (8 - q / 4) + q % 4 = j
    simp only [hL, hR, true_and, false_and, not_false_eq_true, and_true]
    omega
  · simp only [hR, false_and, not_false_eq_true, and_true, or_false, iff_self, false_imp_iff, true_and]

/-- Waiting for a left-going copy: its source comes back, and what the next device's copy carried. -/
theorem wp_waitL {k : PG F} {Q : PUnit → sProp 𝕄} (t : Fin 8) (s : Fin 4) (w n a b a' b' : ℕ) (C : ℕ → Prop)
    (hw : w = (Cp.L t s).seq) (hn : w < n) (ha : a = 4 * t.val + s.val) (hb : a < b) :
    iprop(records (ct I) K ∗ levAts L lv ∗ Run (F := F) c w n ∗ PT c cc0_scratch1 (sbP c a b a' b') (sbD c C b b') (ownB (I c))
        ∗ (Run (F := F) c (w + 1) n -∗ PT c cc0_scratch1 (sbP c (a + 1) b a' b') (sbD c C b b') (ownB (I c))
          -∗ SlL c t s (LW I t.val (rd c) s) -∗ WP c k Q))
      ⊢ WP c (waitL c t s k) Q := by
  have hT : ∀ i : S1024x1152.Idx, i ∈ ((lSrc c t s).view.set : Finset S1024x1152.Idx) ↔ qOf c i = (36 + a) % 64 := fun i => by
    rw [set_sbS]
    exact (mem_rowR (o21 c t s) i).trans (qOf_row _ (by subst ha; omega))
  have ha32 : a < 32 := by have := t.isLt; have := s.isLt; omega
  unfold waitL
  iintro ⟨#HR, #HL, Hrun, Hsb, Hk⟩
  iapply (wp_waits (ct I) (.L t s) w n (Cp.src_amt c (.L t s)) (Cp.dst_amt c (.L t s)) hw hn) $$ [Hrun Hsb Hk]
  isplitr; · iexact HR
  isplitr; · iexact HL
  isplitl [Hrun]; · iexact Hrun
  iintro Hrun Hs Hr
  unfold sendPay recvPay
  icases Hs with ⟨%f, Hs⟩
  icases Hr with ⟨%g, %hg, Hr⟩
  ihave Hsb := (PT_put (q := fullShare) (b := cc0_scratch1) (T := ((lSrc c t s).view.set : Finset S1024x1152.Idx)) (P' := sbP c (a + 1) b a' b') (D' := sbD c C b b') (V := ownB (I c)) (g := f)
    (fun i => by rw [hT]; exact (sbP_waitL hb ha32 i).1)
    (fun i hi => (sbP_waitL hb ha32 i).2 ((hT i).mp hi))
    (fun i hi hd => by
      rw [hT] at hi
      have := t.isLt
      have := s.isLt
      unfold sbD isL jL isR jR at hd; omega)
    (fun i hd _ => hd)) $$ [Hs Hsb]
  · isplitl [Hs]; · iexact Hs
    iexact Hsb
  ihave Hr := (PT_of (b := cc0_scratch2) (T := ((lbS t s).view.set : Finset S8x64x1152.Idx)) (P := fun i => slotL i = 4 * t.val + s.val)
    (D := fun i => slotL i = 4 * t.val + s.val ∧ (i 2).val < 1032)
    (V := fun i => LW I t.val (rd c) s (ValueIdx.ix2 (n0 := 16) (n1 := 1152) ⟨(i 1).val % 16, Nat.mod_lt _ (by decide)⟩ (i 2)))
    (fun i => by rw [set_lbS]; exact (mem_slotR t s i).symm)
    (fun i hi => by
      have hmem := (mem_slotR t s i).mpr hi.1
      rw [← Rect.map_emb_univ] at hmem
      obtain ⟨j, -, rfl⟩ := Finset.mem_map.mp hmem
      have j0 : (j 0).val < 1 := (j 0).isLt
      have j1 : (j 1).val < 16 := (j 1).isLt
      have hj : in3 (ValueIdx.ix2 (n0 := 16) (n1 := 1152) (j 1) (j 2)) = j := by
        funext a
        match a with
        | ⟨0, _⟩ => apply Fin.ext; show 0 = (j 0).val; omega
        | ⟨1, _⟩ => rfl
        | ⟨2, _⟩ => rfl
      have e2 : ((slotR t s).emb j 2).val = 0 + 1 * (j 2).val := rfl
      have hlt : (j 2).val < 1032 := by have := hi.2; omega
      have h1 := hg (ValueIdx.ix2 (n0 := 16) (n1 := 1152) (j 1) (j 2)) hlt
      have h2 := read_lbS (F := F) t s g (ValueIdx.ix2 (n0 := 16) (n1 := 1152) (j 1) (j 2))
      rw [hj] at h2
      refine (h2.symm.trans h1).trans (congrArg (LW I t.val (rd c) s) ?_)
      funext a
      match a with
      | ⟨0, _⟩ => apply Fin.ext; show (j 1).val = (16 * s.val + 1 * (j 1).val) % 16; omega
      | ⟨1, _⟩ => apply Fin.ext; show (j 2).val = 0 + 1 * (j 2).val; omega)) $$ Hr
  iapply Hk $$ Hrun Hsb Hr

/-- Waiting for a right-going copy: its source comes back, and what the previous device's copy carried. -/
theorem wp_waitR {k : PG F} {Q : PUnit → sProp 𝕄} (t : Fin 7) (s : Fin 4) (w n a b a' b' : ℕ) (C : ℕ → Prop)
    (hw : w = (Cp.R t s).seq) (hn : w < n) (ha : a' = 4 * t.val + s.val) (hb : a' < b') :
    iprop(records (ct I) K ∗ levAts L lv ∗ Run (F := F) c w n ∗ PT c cc0_scratch1 (sbP c a b a' b') (sbD c C b b') (ownB (I c))
        ∗ (Run (F := F) c (w + 1) n -∗ PT c cc0_scratch1 (sbP c a b (a' + 1) b') (sbD c C b b') (ownB (I c))
          -∗ SlR c t s (RW I t.val (ld c) s) -∗ WP c k Q))
      ⊢ WP c (waitR c t s k) Q := by
  have hT : ∀ i : S1024x1152.Idx, i ∈ ((rSrc c t s).view.set : Finset S1024x1152.Idx) ↔ qOf c i = 4 * (8 - t.val) + s.val := fun i => by
    rw [set_sbS]
    exact (mem_rowR (o22 c t s) i).trans (qOf_row _ (by subst ha; have := t.isLt; have := s.isLt; omega))
  have ha28 : a' < 28 := by have := t.isLt; have := s.isLt; omega
  have hsrc : 4 * (8 - a' / 4) + a' % 4 = 4 * (8 - t.val) + s.val := by have := t.isLt; have := s.isLt; omega
  unfold waitR
  iintro ⟨#HR, #HL, Hrun, Hsb, Hk⟩
  iapply (wp_waits (ct I) (.R t s) w n (Cp.src_amt c (.R t s)) (Cp.dst_amt c (.R t s)) hw hn) $$ [Hrun Hsb Hk]
  isplitr; · iexact HR
  isplitr; · iexact HL
  isplitl [Hrun]; · iexact Hrun
  iintro Hrun Hs Hr
  unfold sendPay recvPay
  icases Hs with ⟨%f, Hs⟩
  icases Hr with ⟨%g, %hg, Hr⟩
  ihave Hsb := (PT_put (q := fullShare) (b := cc0_scratch1) (T := ((rSrc c t s).view.set : Finset S1024x1152.Idx)) (P' := sbP c a b (a' + 1) b') (D' := sbD c C b b') (V := ownB (I c)) (g := f)
    (fun i => by rw [hT, ← hsrc]; exact (sbP_waitR hb ha28 i).1)
    (fun i hi => (sbP_waitR hb ha28 i).2 (((hT i).mp hi).trans hsrc.symm))
    (fun i hi hd => by
      rw [hT] at hi
      have := t.isLt
      have := s.isLt
      unfold sbD isL jL isR jR at hd; omega)
    (fun i hd _ => hd)) $$ [Hs Hsb]
  · isplitl [Hs]; · iexact Hs
    iexact Hsb
  ihave Hr := (PT_of (b := cc0_scratch3) (T := ((rbS t s).view.set : Finset S7x64x1152.Idx)) (P := fun i => slotRt i = 4 * t.val + s.val)
    (D := fun i => slotRt i = 4 * t.val + s.val ∧ (i 2).val < 1032)
    (V := fun i => RW I t.val (ld c) s (ValueIdx.ix2 (n0 := 16) (n1 := 1152) ⟨(i 1).val % 16, Nat.mod_lt _ (by decide)⟩ (i 2)))
    (fun i => by rw [set_rbS]; exact (mem_slotR t s i).symm)
    (fun i hi => by
      have hmem := (mem_slotR t s i).mpr hi.1
      rw [← Rect.map_emb_univ] at hmem
      obtain ⟨j, -, rfl⟩ := Finset.mem_map.mp hmem
      have j0 : (j 0).val < 1 := (j 0).isLt
      have j1 : (j 1).val < 16 := (j 1).isLt
      have hj : in3 (ValueIdx.ix2 (n0 := 16) (n1 := 1152) (j 1) (j 2)) = j := by
        funext a
        match a with
        | ⟨0, _⟩ => apply Fin.ext; show 0 = (j 0).val; omega
        | ⟨1, _⟩ => rfl
        | ⟨2, _⟩ => rfl
      have e2 : ((slotR t s).emb j 2).val = 0 + 1 * (j 2).val := rfl
      have hlt : (j 2).val < 1032 := by have := hi.2; omega
      have h1 := hg (ValueIdx.ix2 (n0 := 16) (n1 := 1152) (j 1) (j 2)) hlt
      have h2 := read_rbS (F := F) t s g (ValueIdx.ix2 (n0 := 16) (n1 := 1152) (j 1) (j 2))
      rw [hj] at h2
      refine (h2.symm.trans h1).trans (congrArg (RW I t.val (ld c) s) ?_)
      funext a
      match a with
      | ⟨0, _⟩ => apply Fin.ext; show (j 1).val = (16 * s.val + 1 * (j 1).val) % 16; omega
      | ⟨1, _⟩ => apply Fin.ext; show (j 2).val = 0 + 1 * (j 2).val; omega)) $$ Hr
  iapply Hk $$ Hrun Hsb Hr

/-- The received rows added into a block. -/
theorem wp_acc {k : PG F} {Q : PUnit → sProp 𝕄} {n : ℕ} {b : Memref sig .tc .vmem ⟨3, ![n, 64, 1152]⟩ .bf16} {t : Fin n} {s : Fin 4}
    {o : Fin 2 → Nat} {h : ∀ a, o a + S16x1152.size a ≤ S1024x1152.size a} {hp : (rowR o h).PackedRows (EltTy.packing .bf16)}
    {e q : ℕ} (ho : o = ![64 * ch c e + 16 * s.val, 0]) (hq : q = (4 * e + s.val) % 64) (B Y : FVec F S16x1152 .bf16) (HY : sProp 𝕄)
    (hload : ∀ k' : ((slotR t s).toLoadRect.shape.Idx → Elt F .bf16) → PG F,
      iprop(HY ∗ (∀ y : (slotR t s).toLoadRect.shape.Idx → Elt F .bf16, ⌜∀ j : S16x1152.Idx, (j 1).val < 1032 → y (in3 j) = Y j⌝ -∗ HY -∗ WP c (k' y) Q))
        ⊢ WP c (.op (.load b (slotR t s).toLoadRect (View.loadsAt_vmem h_S1x16x1152)) k') Q) :
    iprop(Blk c q B ∗ HY ∗ (Blk c q (addf B Y) -∗ HY -∗ WP c k Q)) ⊢ WP c (accP b t s o h hp k) Q := by
  have hmem : ∀ i : S1024x1152.Idx, i ∈ (rowR o h).set ↔ qOf c i = q := fun i => (mem_rowR ho i).trans (qOf_row q hq)
  have hemb : ∀ j : S16x1152.Idx, (rowR o h).emb j = rowAt c e s j := emb_rowR ho
  have hin : ∀ j : S16x1152.Idx, qOf c (rowAt c e s j) = q := fun j =>
    (hmem _).mp (by rw [← hemb, ← Rect.map_emb_univ]; exact Finset.mem_map_of_mem _ (Finset.mem_univ j))
  unfold accP
  iintro ⟨Hb, Hy, Hk⟩
  iapply (PT_load (cs := .vmem) (bi := 7) (bκ := rfl) (fun i hi => (hmem i).mp hi)) $$ Hb
  iintro %x %hx Hb
  iapply hload
  isplitl [Hy]; · iexact Hy
  iintro %y %hy Hy
  iapply (PT_load (cs := .vmem) (bi := 7) (bκ := rfl) (fun i hi => (hmem i).mp hi)) $$ Hb
  iintro %x' - Hb
  iapply (PT_store (cs := .vmem) (bi := 7) (bκ := rfl) (V' := fun i : S1024x1152.Idx => addf B Y (inPc i)) (D' := blkD c q)
    (fun i hi => (hmem i).mp hi)
    (fun j hj => by
      have hj' : (j 1).val < 1032 := by
        have := hj.2
        rw [hemb j] at this
        exact this
      have hxj := hx j (by rw [hemb j]; exact ⟨hin j, hj'⟩)
      rw [hemb j] at hxj ⊢
      rw [inPc_rowAt] at hxj ⊢
      exact accV_eq x y B Y j hxj (hy j hj'))
    (fun i hi hd => absurd ((hmem i).mpr hd.1) hi)) $$ Hb
  iintro Hb
  iapply Hk $$ Hb Hy

theorem load_SlL {Q : PUnit → sProp 𝕄} (t : Fin 8) (s : Fin 4) (W : FVec F S16x1152 .bf16)
    (k' : ((slotR t s).toLoadRect.shape.Idx → Elt F .bf16) → PG F) :
    iprop(SlL c t s W ∗ (∀ y : (slotR t s).toLoadRect.shape.Idx → Elt F .bf16, ⌜∀ j : S16x1152.Idx, (j 1).val < 1032 → y (in3 j) = W j⌝ -∗ SlL c t s W -∗ WP c (k' y) Q))
      ⊢ WP c (.op (.load lbM (slotR t s).toLoadRect (View.loadsAt_vmem h_S1x16x1152)) k') Q := by
  iintro ⟨H, Hk⟩
  iapply (PT_load (cs := .vmem) (bi := 8) (bκ := rfl) (P := fun i => slotL i = 4 * t.val + s.val) (fun i hi => (mem_slotR t s i).mp hi)) $$ H
  iintro %y %hy H
  iapply Hk $$ %y [] H
  ipureintro
  intro j hj
  have j0 : (j 0).val < 16 := (j 0).isLt
  have hm : slotL ((slotR t s).emb (in3 j)) = 4 * t.val + s.val := (mem_slotR t s ((slotR t s).emb (in3 j))).mp (by rw [← Rect.map_emb_univ]; exact Finset.mem_map_of_mem _ (Finset.mem_univ _))
  have e2 : ((slotR t s).emb (in3 j) 2).val = 0 + 1 * (j 1).val := rfl
  refine (hy (in3 j) ⟨hm, by rw [e2]; omega⟩).trans (congrArg W ?_)
  funext a
  match a with
  | ⟨0, _⟩ => apply Fin.ext; show (16 * s.val + 1 * (j 0).val) % 16 = (j 0).val; omega
  | ⟨1, _⟩ => apply Fin.ext; show 0 + 1 * (j 1).val = (j 1).val; omega

theorem load_SlR {Q : PUnit → sProp 𝕄} (t : Fin 7) (s : Fin 4) (W : FVec F S16x1152 .bf16)
    (k' : ((slotR t s).toLoadRect.shape.Idx → Elt F .bf16) → PG F) :
    iprop(SlR c t s W ∗ (∀ y : (slotR t s).toLoadRect.shape.Idx → Elt F .bf16, ⌜∀ j : S16x1152.Idx, (j 1).val < 1032 → y (in3 j) = W j⌝ -∗ SlR c t s W -∗ WP c (k' y) Q))
      ⊢ WP c (.op (.load rbM (slotR t s).toLoadRect (View.loadsAt_vmem h_S1x16x1152)) k') Q := by
  iintro ⟨H, Hk⟩
  iapply (PT_load (cs := .vmem) (bi := 9) (bκ := rfl) (P := fun i => slotRt i = 4 * t.val + s.val) (fun i hi => (mem_slotR t s i).mp hi)) $$ H
  iintro %y %hy H
  iapply Hk $$ %y [] H
  ipureintro
  intro j hj
  have j0 : (j 0).val < 16 := (j 0).isLt
  have hm : slotRt ((slotR t s).emb (in3 j)) = 4 * t.val + s.val := (mem_slotR t s ((slotR t s).emb (in3 j))).mp (by rw [← Rect.map_emb_univ]; exact Finset.mem_map_of_mem _ (Finset.mem_univ _))
  have e2 : ((slotR t s).emb (in3 j) 2).val = 0 + 1 * (j 1).val := rfl
  refine (hy (in3 j) ⟨hm, by rw [e2]; omega⟩).trans (congrArg W ?_)
  funext a
  match a with
  | ⟨0, _⟩ => apply Fin.ext; show (16 * s.val + 1 * (j 0).val) % 16 = (j 0).val; omega
  | ⟨1, _⟩ => apply Fin.ext; show 0 + 1 * (j 1).val = (j 1).val; omega

end Cert.KernelIdeal.Ring
end
-- ==== Proof.Fwd.lean ====
module

public import proofs.«01_k».proof.Proof.Red

/-! The reduction, step by step. -/

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Facts₀ Facts
open Cert.KernelIdeal.Gen (facts facts₀)

variable {F : FTy → Type} [FloatOps F]

local notation "𝕄" => MT nD τ sig Unit (Elt F) ℕ UU ℕ

variable (I : Dev nD → Inp F) {K : Dev nD × KI → ℕ} {c : Dev nD}

omit [FloatOps F] in
/-- A part put back among elements of which nothing is known. -/
theorem pool_put {b : Ref sig .tc} {P P₁ P' D : b.ty.Idx → Prop} {V : b.ty.Contents (Elt F)} (hP : ∀ i, P' i ↔ P i ∨ P₁ i) (hd : ∀ i, P₁ i → ¬ P i) :
    iprop(PT c b P₁ D V ∗ pool (F := F) c b P) ⊢ (pool (F := F) c b P' : sProp 𝕄) := by
  classical
  have hs : pick P' \ pick P₁ = pick P := by
    ext i; rw [Finset.mem_sdiff, mem_pick, mem_pick, mem_pick, hP]
    exact ⟨fun h => h.1.resolve_right h.2, fun h => ⟨.inl h, fun ht => hd i ht h⟩⟩
  have hT : pick P₁ ⊆ pick P' := fun i hi => mem_pick.mpr ((hP i).mpr (.inr (mem_pick.mp hi)))
  unfold PT PTs
  iintro ⟨⟨%f, %hf, H1⟩, %g, H2⟩
  rw [← hs]
  ihave H := (pointsTo_join_subset (ℓ := (c : Thread nD τ).loc b) hT) $$ [H1 H2]
  · isplitl [H1] <;> iassumption
  iexists _
  iexact H

theorem inPc_val {c : Dev nD} {e : ℕ} {s : Fin 4} {i : S1024x1152.Idx} (h : qOf c i = (4 * e + s.val) % 64) : rowAt c e s (inPc i) = i := by
  exact rowAt_inPc h

/-- A block of the device's own sums taken out to be added to and sent on, to the left. -/
theorem takeL {a b a' b' e q : ℕ} {s : Fin 4} {C : ℕ → Prop} (hq : q = (36 + b) % 64) (he : q = (4 * e + s.val) % 64) (hb : b < 32) (hab : a ≤ b)
    (hC : ∀ i, qOf c i = q → C ((i 0).val / 256)) :
    (PT c cc0_scratch1 (sbP c a b a' b') (sbD c C b b') (ownB (I c)) : sProp 𝕄) ⊢
      iprop(Blk c q (rowsB I c e s) ∗ PT c cc0_scratch1 (sbP c a (b + 1) a' b') (sbD c C (b + 1) b') (ownB (I c))) := by
  have key : ∀ x, x < 64 → (x = q ↔ ((36 ≤ x ∨ x < 4) ∧ (x + 28) % 64 = b)) := fun x hx => by omega
  iintro H
  ihave H := (PT_take (b := cc0_scratch1) (T := (pick (b := cc0_scratch1) fun i => qOf c i = q)) (P' := sbP c a (b + 1) a' b') (D' := sbD c C (b + 1) b')
    (fun i hi => by
      have hx := qOf_lt c i
      have h := (key _ hx).mp (mem_pick.mp hi)
      unfold sbP isL jL isR jR
      omega)
    (fun i => by
      have hx := qOf_lt c i
      rw [mem_pick, key _ hx]
      unfold sbP isL jL isR jR
      generalize qOf c i = x at *
      by_cases hL : 36 ≤ x ∨ x < 4
      · generalize (x + 28) % 64 = j
        simp only [hL, true_and]
        omega
      · simp only [hL, false_and, not_false_eq_true, true_and, and_true])
    (fun i hi => ⟨hi.1, fun h => by have := hi.2.1 h; omega, hi.2.2⟩)) $$ H
  icases H with ⟨⟨%f, %hf, Hb⟩, H⟩
  isplitl [Hb]
  · iapply (PT_of (b := cc0_scratch1) (T := (pick (b := cc0_scratch1) fun i => qOf c i = q)) (D := blkD c q) (V := fun i : S1024x1152.Idx => rowsB I c e s (inPc i))
      (fun i => mem_pick.symm)
      (fun i hi => by
        have hx := qOf_lt c i
        have h := (key _ hx).mp hi.1
        refine (hf i ⟨⟨hC i hi.1, hi.2⟩, fun _ => ?_, fun hr => ?_⟩).trans ?_
        · unfold jL; omega
        · unfold isR at hr; omega
        · exact congrArg (ownB (I c)) (inPc_val (hi.1.trans he)).symm)) $$ Hb
  · iexact H

theorem takeR {a b a' b' e q : ℕ} {s : Fin 4} {C : ℕ → Prop} (hq : q = 4 * (8 - b' / 4) + b' % 4) (he : q = (4 * e + s.val) % 64) (hb : b' < 28) (hab : a' ≤ b')
    (hC : ∀ i, qOf c i = q → C ((i 0).val / 256)) :
    (PT c cc0_scratch1 (sbP c a b a' b') (sbD c C b b') (ownB (I c)) : sProp 𝕄) ⊢
      iprop(Blk c q (rowsB I c e s) ∗ PT c cc0_scratch1 (sbP c a b a' (b' + 1)) (sbD c C b (b' + 1)) (ownB (I c))) := by
  have key : ∀ x, x < 64 → (x = q ↔ ((8 ≤ x ∧ x < 36) ∧ 4 * (8 - x / 4) + x % 4 = b')) := fun x hx => by omega
  iintro H
  ihave H := (PT_take (b := cc0_scratch1) (T := (pick (b := cc0_scratch1) fun i => qOf c i = q)) (P' := sbP c a b a' (b' + 1)) (D' := sbD c C b (b' + 1))
    (fun i hi => by
      have hx := qOf_lt c i
      have h := (key _ hx).mp (mem_pick.mp hi)
      unfold sbP isL jL isR jR
      omega)
    (fun i => by
      have hx := qOf_lt c i
      rw [mem_pick, key _ hx]
      unfold sbP isL jL isR jR
      generalize qOf c i = x at *
      by_cases hR : 8 ≤ x ∧ x < 36
      · generalize 4 * (8 - x / 4) + x % 4 = j
        simp only [hR, true_and]
        omega
      · simp only [hR, false_and, not_false_eq_true, true_and, and_true])
    (fun i hi => ⟨hi.1, hi.2.1, fun h => by have := hi.2.2 h; omega⟩)) $$ H
  icases H with ⟨⟨%f, %hf, Hb⟩, H⟩
  isplitl [Hb]
  · iapply (PT_of (b := cc0_scratch1) (T := (pick (b := cc0_scratch1) fun i => qOf c i = q)) (D := blkD c q) (V := fun i : S1024x1152.Idx => rowsB I c e s (inPc i))
      (fun i => mem_pick.symm)
      (fun i hi => by
        have hx := qOf_lt c i
        have h := (key _ hx).mp hi.1
        refine (hf i ⟨⟨hC i hi.1, hi.2⟩, fun hr => ?_, fun _ => ?_⟩).trans ?_
        · unfold isL at hr; omega
        · unfold jR; omega
        · exact congrArg (ownB (I c)) (inPc_val (hi.1.trans he)).symm)) $$ Hb
  · iexact H

/-- The reduction's state: `w` counts awaited, `n` copies started, of the left-going ones `b` started and
`a` awaited, of the right-going `b'` and `a'`; the batches in `C` computed. -/
def RedS (c : Dev nD) (C : ℕ → Prop) (w n a b a' b' : ℕ) : sProp 𝕄 :=
  iprop(Run (F := F) c w n ∗ PT c cc0_scratch1 (sbP c a b a' b') (sbD c C b b') (ownB (I c))
    ∗ pool (F := F) c cc0_scratch2 (fun i => slotL i < a) ∗ pool (F := F) c cc0_scratch3 (fun i => slotRt i < a')
    ∗ landL (F := F) c b 0 ∗ landR (F := F) c b' 0)

theorem wp_beginL {k : PG F} {Q : PUnit → sProp 𝕄} (s : Fin 4) (w n a b a' b' : ℕ) (C : ℕ → Prop)
    (hn : n = (Cp.L 0 s).seq) (hw : w ≤ n) (ha : a ≤ b) (hb : b = s.val) (hC : ∀ i, qOf c i = (36 + b) % 64 → C ((i 0).val / 256)) :
    iprop(records (ct I) K ∗ RedS I c C w n a b a' b' ∗ (RedS I c C w (n + 1) a (b + 1) a' b' -∗ WP c k Q)) ⊢ WP c (startL c 0 s k) Q := by
  have hs := s.isLt
  unfold RedS
  iintro ⟨#HR, ⟨Hrun, Hsb, Hl, Hr, HL, HR'⟩, Hk⟩
  ihave Hsb := (takeL (c := c) I (e := 9) (s := s) (q := (36 + b) % 64) rfl (by omega) (by omega) ha hC) $$ Hsb
  icases Hsb with ⟨Hb, Hsb⟩
  iapply (wp_startL I 0 s w n b 0 ((36 + b) % 64) hn hw (by rw [hb]; show _ = 4 * 0 + _; omega) rfl)
  isplitr; · iexact HR
  isplitl [Hrun]; · iexact Hrun
  isplitl [HL]; · iexact HL
  isplitl [Hb]; · iexact Hb
  iintro Hrun HL
  iapply Hk
  isplitl [Hrun]; · iexact Hrun
  isplitl [Hsb]; · iexact Hsb
  isplitl [Hl]; · iexact Hl
  isplitl [Hr]; · iexact Hr
  isplitl [HL]; · iexact HL
  iexact HR'

theorem wp_beginR {k : PG F} {Q : PUnit → sProp 𝕄} (s : Fin 4) (w n a b a' b' : ℕ) (C : ℕ → Prop)
    (hn : n = (Cp.R 0 s).seq) (hw : w ≤ n) (ha : a' ≤ b') (hb : b' = s.val) (hC : ∀ i, qOf c i = 4 * (8 - b' / 4) + b' % 4 → C ((i 0).val / 256)) :
    iprop(records (ct I) K ∗ RedS I c C w n a b a' b' ∗ (RedS I c C w (n + 1) a b a' (b' + 1) -∗ WP c k Q)) ⊢ WP c (startR c 0 s k) Q := by
  have hs := s.isLt
  unfold RedS
  iintro ⟨#HR, ⟨Hrun, Hsb, Hl, Hr, HL, HR'⟩, Hk⟩
  ihave Hsb := (takeR (c := c) I (e := 8) (s := s) (q := 4 * (8 - b' / 4) + b' % 4) rfl (by omega) (by omega) ha hC) $$ Hsb
  icases Hsb with ⟨Hb, Hsb⟩
  iapply (wp_startR I 0 s w n b' 0 (4 * (8 - b' / 4) + b' % 4) hn hw (by rw [hb]; show _ = 4 * 0 + _; omega) (by show _ = 4 * (8 - 0) + s.val; omega))
  isplitr; · iexact HR
  isplitl [Hrun]; · iexact Hrun
  isplitl [HR']; · iexact HR'
  isplitl [Hb]; · iexact Hb
  iintro Hrun HR'
  iapply Hk
  isplitl [Hrun]; · iexact Hrun
  isplitl [Hsb]; · iexact Hsb
  isplitl [Hl]; · iexact Hl
  isplitl [Hr]; · iexact Hr
  isplitl [HL]; · iexact HL
  iexact HR'

/-- A left-going block awaited, added to the device's own, and sent on. -/
theorem wp_fwdL {k : PG F} {Q : PUnit → sProp 𝕄} (t : Fin 7) (s : Fin 4) (w n a b a' b' : ℕ) (C : ℕ → Prop)
    (hw : w = (Cp.L t.castSucc s).seq) (hn : n = (Cp.L t.succ s).seq) (hwn : w < n) (ha : a = 4 * t.val + s.val) (hb : b = a + 4)
    (hC : ∀ i, qOf c i = (36 + b) % 64 → C ((i 0).val / 256)) :
    iprop(records (ct I) K ∗ levAts L lv ∗ RedS I c C w n a b a' b' ∗ (RedS I c C (w + 1) (n + 1) (a + 1) (b + 1) a' b' -∗ WP c k Q))
      ⊢ WP c (fwdL c t s k) Q := by
  have hs := s.isLt
  have ht := t.isLt
  have hcs : t.castSucc.val = t.val := rfl
  have hsu : t.succ.val = t.val + 1 := rfl
  unfold RedS fwdL
  iintro ⟨#HR, #HLv, ⟨Hrun, Hsb, Hl, Hr, HL, HR'⟩, Hk⟩
  iapply (wp_waitL I t.castSucc s w n a b a' b' C hw hwn ha (by omega))
  isplitr; · iexact HR
  isplitr; · iexact HLv
  isplitl [Hrun]; · iexact Hrun
  isplitl [Hsb]; · iexact Hsb
  iintro Hrun Hsb Hy
  ihave Hsb := (takeL (c := c) I (e := 10 + t.val) (s := s) (q := (36 + b) % 64) rfl (by omega) (by omega) (by omega) hC) $$ Hsb
  icases Hsb with ⟨Hb, Hsb⟩
  iapply (wp_acc (e := 10 + t.val) (q := (36 + b) % 64) (o23 c t.castSucc s) (by omega) (rowsB I c (10 + t.val) s) (LW I t.val (rd c) s)
    (SlL c t.castSucc s (LW I t.val (rd c) s)) (load_SlL t.castSucc s _))
  isplitl [Hb]; · iexact Hb
  isplitl [Hy]; · iexact Hy
  iintro Hb Hy
  ihave Hl := (pool_put (b := cc0_scratch2) (P' := fun i => slotL i < a + 1) (fun i => by show slotL i < a + 1 ↔ slotL i < a ∨ slotL i = 4 * t.val + s.val; omega)
    (fun i h => by have h : slotL i = 4 * t.val + s.val := h; show ¬ slotL i < a; omega)) $$ [Hy Hl]
  · isplitl [Hy]; · iexact Hy
    iexact Hl
  iapply (wp_startL I t.succ s (w + 1) n b 0 ((36 + b) % 64) hn hwn (by omega) rfl)
  isplitr; · iexact HR
  isplitl [Hrun]; · iexact Hrun
  isplitl [HL]; · iexact HL
  isplitl [Hb]; · iexact Hb
  iintro Hrun HL
  iapply Hk
  isplitl [Hrun]; · iexact Hrun
  isplitl [Hsb]; · iexact Hsb
  isplitl [Hl]; · iexact Hl
  isplitl [Hr]; · iexact Hr
  isplitl [HL]; · iexact HL
  iexact HR'

/-- A right-going block awaited, added to the device's own, and sent on. -/
theorem wp_fwdR {k : PG F} {Q : PUnit → sProp 𝕄} (t : Fin 6) (s : Fin 4) (w n a b a' b' : ℕ) (C : ℕ → Prop)
    (hw : w = (Cp.R t.castSucc s).seq) (hn : n = (Cp.R t.succ s).seq) (hwn : w < n) (ha : a' = 4 * t.val + s.val) (hb : b' = a' + 4)
    (hC : ∀ i, qOf c i = 4 * (8 - b' / 4) + b' % 4 → C ((i 0).val / 256)) :
    iprop(records (ct I) K ∗ levAts L lv ∗ RedS I c C w n a b a' b' ∗ (RedS I c C (w + 1) (n + 1) a b (a' + 1) (b' + 1) -∗ WP c k Q))
      ⊢ WP c (fwdR c t s k) Q := by
  have hs := s.isLt
  have ht := t.isLt
  have hcs : t.castSucc.val = t.val := rfl
  have hsu : t.succ.val = t.val + 1 := rfl
  unfold RedS fwdR
  iintro ⟨#HR, #HLv, ⟨Hrun, Hsb, Hl, Hr, HL, HR'⟩, Hk⟩
  iapply (wp_waitR I t.castSucc s w n a b a' b' C hw hwn ha (by omega))
  isplitr; · iexact HR
  isplitr; · iexact HLv
  isplitl [Hrun]; · iexact Hrun
  isplitl [Hsb]; · iexact Hsb
  iintro Hrun Hsb Hy
  ihave Hsb := (takeR (c := c) I (e := 7 - t.val) (s := s) (q := 4 * (8 - b' / 4) + b' % 4) rfl (by omega) (by omega) (by omega) hC) $$ Hsb
  icases Hsb with ⟨Hb, Hsb⟩
  iapply (wp_acc (e := 7 - t.val) (q := 4 * (8 - b' / 4) + b' % 4) (o24 c t.castSucc s) (by omega) (rowsB I c (7 - t.val) s) (RW I t.val (ld c) s)
    (SlR c t.castSucc s (RW I t.val (ld c) s)) (load_SlR t.castSucc s _))
  isplitl [Hb]; · iexact Hb
  isplitl [Hy]; · iexact Hy
  iintro Hb Hy
  ihave Hr := (pool_put (b := cc0_scratch3) (P' := fun i => slotRt i < a' + 1) (fun i => by show slotRt i < a' + 1 ↔ slotRt i < a' ∨ slotRt i = 4 * t.val + s.val; omega)
    (fun i h => by have h : slotRt i = 4 * t.val + s.val := h; show ¬ slotRt i < a'; omega)) $$ [Hy Hr]
  · isplitl [Hy]; · iexact Hy
    iexact Hr
  iapply (wp_startR I t.succ s (w + 1) n b' 0 (4 * (8 - b' / 4) + b' % 4) hn hwn (by omega) (by omega))
  isplitr; · iexact HR
  isplitl [Hrun]; · iexact Hrun
  isplitl [HR']; · iexact HR'
  isplitl [Hb]; · iexact Hb
  iintro Hrun HR'
  iapply Hk
  isplitl [Hrun]; · iexact Hrun
  isplitl [Hsb]; · iexact Hsb
  isplitl [Hl]; · iexact Hl
  isplitl [Hr]; · iexact Hr
  isplitl [HL]; · iexact HL
  iexact HR'

end Cert.KernelIdeal.Ring
end
-- ==== Proof.Steps.lean ====
module

public import proofs.«01_k».proof.Proof.Fwd

/-! The end of the reduction, and its steps put together. -/

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Facts₀ Facts
open Cert.KernelIdeal.Gen (facts facts₀)

variable {F : FTy → Type} [FloatOps F]

local notation "𝕄" => MT nD τ sig Unit (Elt F) ℕ UU ℕ

variable (I : Dev nD → Inp F) {K : Dev nD × KI → ℕ} {c : Dev nD}

/-- The columns of the sums that are used. -/
def used (i : S1024x1152.Idx) : Prop := (i 1).val < 1032

/-- The received rows added into the finished chunk. -/
theorem wp_fin {k : PG F} {Q : PUnit → sProp 𝕄} {n : ℕ} {b : Memref sig .tc .vmem ⟨3, ![n, 64, 1152]⟩ .bf16} {t : Fin n} {s : Fin 4}
    {o : Fin 2 → Nat} {h : ∀ a, o a + S16x1152.size a ≤ S1024x1152.size a}
    (ho : o = ![64 * ch c 1 + 16 * s.val, 0]) (Y : FVec F S16x1152 .bf16) (HY : sProp 𝕄) (V V' : FVec F S1024x1152 .f32)
    (hload : ∀ k' : ((slotR t s).toLoadRect.shape.Idx → Elt F .bf16) → PG F,
      iprop(HY ∗ (∀ y : (slotR t s).toLoadRect.shape.Idx → Elt F .bf16, ⌜∀ j : S16x1152.Idx, (j 1).val < 1032 → y (in3 j) = Y j⌝ -∗ HY -∗ WP c (k' y) Q))
        ⊢ WP c (.op (.load b (slotR t s).toLoadRect (View.loadsAt_vmem h_S1x16x1152)) k') Q)
    (hin : ∀ j, V' (rowAt c 1 s j) = addf (fun j => V (rowAt c 1 s j)) (extf .f32 Y bitsLt_bf16_f32) j)
    (hout : ∀ i : S1024x1152.Idx, rel c (i 0).val / 16 ≠ (4 * 1 + s.val) % 64 → V i = V' i) :
    iprop(PT c cc0_scratch0 (fun _ => True) used V ∗ HY ∗ (PT c cc0_scratch0 (fun _ => True) used V' -∗ HY -∗ WP c k Q)) ⊢ WP c (finP b t s o h k) Q := by
  have hemb : ∀ j : S16x1152.Idx, (rowR o h).emb j = rowAt c 1 s j := emb_rowR ho
  unfold finP
  iintro ⟨Hb, Hy, Hk⟩
  iapply (PT_load (cs := .vmem) (bi := 6) (bκ := rfl) (fun _ _ => trivial)) $$ Hb
  iintro %x %hx Hb
  iapply hload
  isplitl [Hy]; · iexact Hy
  iintro %y %hy Hy
  iapply (PT_load (cs := .vmem) (bi := 6) (bκ := rfl) (fun _ _ => trivial)) $$ Hb
  iintro %x' - Hb
  iapply (PT_store (cs := .vmem) (bi := 6) (bκ := rfl) (V' := V') (D' := used)
    (fun _ _ => trivial)
    (fun j hj => by
      have hj' : (j 1).val < 1032 := by
        have := hj
        rw [hemb j] at this
        exact this
      have hxj := hx j hj
      rw [hemb j] at hxj ⊢
      rw [hin j]
      exact finV_eq x y (fun j => V (rowAt c 1 s j)) Y j hxj (hy j hj'))
    (fun i hi hd => ⟨hd, hout i (fun he => hi ((mem_rowR ho i).mpr he))⟩)) $$ Hb
  iintro Hb
  iapply Hk $$ Hb Hy

theorem finS_in (nr nl : ℕ) (s : Fin 4) (j : S16x1152.Idx) :
    finS I c nr nl (rowAt c 1 s j) = if s.val < nl then finL I c s j else if s.val < nr then finR I c s j else ownS (I c) (rowAt c 1 s j) := by
  have hj : (j 0).val < 16 := (j 0).isLt
  have hs := s.isLt
  have e0 : (rowAt c 1 s j 0).val = 64 * ch c 1 + 16 * s.val + (j 0).val := rfl
  have h1 : (rowAt c 1 s j 0).val / 64 = ch c 1 := by rw [e0]; omega
  have h2 : subOf (rowAt c 1 s j) = s := by
    apply Fin.ext
    show (rowAt c 1 s j 0).val / 16 % 4 = s.val
    rw [e0]; omega
  unfold finS
  rw [if_pos h1, h2, inPc_rowAt]

theorem finS_out (nr nl nr' nl' : ℕ) (s : Fin 4) (i : S1024x1152.Idx) (hi : rel c (i 0).val / 16 ≠ (4 * 1 + s.val) % 64)
    (hl : ∀ x, x ≠ s.val → (x < nl ↔ x < nl')) (hr : ∀ x, x ≠ s.val → (x < nr ↔ x < nr')) :
    finS I c nr nl i = finS I c nr' nl' i := by
  have h0 : (i 0).val < 1024 := (i 0).isLt
  have hs := s.isLt
  unfold finS
  by_cases h1 : (i 0).val / 64 = ch c 1
  · rw [if_pos h1, if_pos h1]
    have hne : (subOf i).val ≠ s.val := by
      intro h
      have h : (i 0).val / 16 % 4 = s.val := h
      exact hi ((rel_row c 1 s.val (i 0).val hs h0).mp (by omega))
    simp only [hl _ hne, hr _ hne]
  · rw [if_neg h1, if_neg h1]

theorem wp_lastL {k : PG F} {Q : PUnit → sProp 𝕄} (s : Fin 4) (w n a b a' b' : ℕ) (C : ℕ → Prop)
    (hw : w = (Cp.L 7 s).seq) (hwn : w < n) (ha : a = 28 + s.val) (hb : b = 32) :
    iprop(records (ct I) K ∗ levAts L lv ∗ RedS I c C w n a b a' b' ∗ PT c cc0_scratch0 (fun _ => True) used (finS I c 4 s.val)
        ∗ (RedS I c C (w + 1) n (a + 1) b a' b' -∗ PT c cc0_scratch0 (fun _ => True) used (finS I c 4 (s.val + 1)) -∗ WP c k Q))
      ⊢ WP c (lastL c s k) Q := by
  have hs := s.isLt
  unfold RedS lastL
  iintro ⟨#HR, #HLv, ⟨Hrun, Hsb, Hl, Hr, HL, HR'⟩, HS, Hk⟩
  iapply (wp_waitL I 7 s w n a b a' b' C hw hwn ha (by omega))
  isplitr; · iexact HR
  isplitr; · iexact HLv
  isplitl [Hrun]; · iexact Hrun
  isplitl [Hsb]; · iexact Hsb
  iintro Hrun Hsb Hy
  have ho : k0_off23 c (w32 7) (w32 (16 * s.val)) = ![64 * ch c 1 + 16 * s.val, 0] := by
    have h := o23 c 7 s
    have h2 : ch c (10 + (7 : Fin 8).val) = ch c 1 := ch_mod c 1
    rw [h2] at h
    exact h
  iapply (wp_fin (s := s) ho (LW I 7 (rd c) s) (SlL c 7 s (LW I 7 (rd c) s)) (finS I c 4 s.val) (finS I c 4 (s.val + 1)) (load_SlL 7 s _)
    (fun j => by
      rw [finS_in, if_pos (Nat.lt_succ_self _)]
      have e : (fun j => finS I c 4 s.val (rowAt c 1 s j)) = finR I c s := funext fun j => by
        rw [finS_in, if_neg (Nat.lt_irrefl _), if_pos hs]
      rw [e]
      rfl)
    (fun i hi => finS_out I 4 _ 4 _ s i hi (fun x hx => by omega) (fun x hx => Iff.rfl)))
  isplitl [HS]; · iexact HS
  isplitl [Hy]; · iexact Hy
  iintro HS Hy
  ihave Hl := (pool_put (b := cc0_scratch2) (P' := fun i => slotL i < a + 1) (fun i => by show slotL i < a + 1 ↔ slotL i < a ∨ slotL i = 4 * 7 + s.val; omega)
    (fun i h => by have h : slotL i = 4 * 7 + s.val := h; show ¬ slotL i < a; omega)) $$ [Hy Hl]
  · isplitl [Hy]; · iexact Hy
    iexact Hl
  iapply Hk $$ [Hrun Hsb Hl Hr HL HR'] HS
  isplitl [Hrun]; · iexact Hrun
  isplitl [Hsb]; · iexact Hsb
  isplitl [Hl]; · iexact Hl
  isplitl [Hr]; · iexact Hr
  isplitl [HL]; · iexact HL
  iexact HR'

theorem wp_lastR {k : PG F} {Q : PUnit → sProp 𝕄} (s : Fin 4) (w n a b a' b' : ℕ) (C : ℕ → Prop)
    (hw : w = (Cp.R 6 s).seq) (hwn : w < n) (ha : a' = 24 + s.val) (hb : b' = 28) :
    iprop(records (ct I) K ∗ levAts L lv ∗ RedS I c C w n a b a' b' ∗ PT c cc0_scratch0 (fun _ => True) used (finS I c s.val 0)
        ∗ (RedS I c C (w + 1) n a b (a' + 1) b' -∗ PT c cc0_scratch0 (fun _ => True) used (finS I c (s.val + 1) 0) -∗ WP c k Q))
      ⊢ WP c (lastR c s k) Q := by
  have hs := s.isLt
  unfold RedS lastR
  iintro ⟨#HR, #HLv, ⟨Hrun, Hsb, Hl, Hr, HL, HR'⟩, HS, Hk⟩
  iapply (wp_waitR I 6 s w n a b a' b' C hw hwn ha (by omega))
  isplitr; · iexact HR
  isplitr; · iexact HLv
  isplitl [Hrun]; · iexact Hrun
  isplitl [Hsb]; · iexact Hsb
  iintro Hrun Hsb Hy
  iapply (wp_fin (s := s) (o24 c 6 s) (RW I 6 (ld c) s) (SlR c 6 s (RW I 6 (ld c) s)) (finS I c s.val 0) (finS I c (s.val + 1) 0) (load_SlR 6 s _)
    (fun j => by
      rw [finS_in, if_neg (Nat.not_lt_zero _), if_pos (Nat.lt_succ_self _)]
      have e : (fun j => finS I c s.val 0 (rowAt c 1 s j)) = fun j => ownS (I c) (rowAt c 1 s j) := funext fun j => by
        rw [finS_in, if_neg (Nat.not_lt_zero _), if_neg (Nat.lt_irrefl _)]
      rw [e]
      rfl)
    (fun i hi => finS_out I _ 0 _ 0 s i hi (fun x hx => Iff.rfl) (fun x hx => by omega)))
  isplitl [HS]; · iexact HS
  isplitl [Hy]; · iexact Hy
  iintro HS Hy
  ihave Hr := (pool_put (b := cc0_scratch3) (P' := fun i => slotRt i < a' + 1) (fun i => by show slotRt i < a' + 1 ↔ slotRt i < a' ∨ slotRt i = 4 * 6 + s.val; omega)
    (fun i h => by have h : slotRt i = 4 * 6 + s.val := h; show ¬ slotRt i < a'; omega)) $$ [Hy Hr]
  · isplitl [Hy]; · iexact Hy
    iexact Hr
  iapply Hk $$ [Hrun Hsb Hl Hr HL HR'] HS
  isplitl [Hrun]; · iexact Hrun
  isplitl [Hsb]; · iexact Hsb
  isplitl [Hl]; · iexact Hl
  isplitl [Hr]; · iexact Hr
  isplitl [HL]; · iexact HL
  iexact HR'

theorem seqL (t : Fin 8) (s : Fin 4) (h : t.val < 7) : (Cp.L t s).seq = 8 * t.val + 2 * s.val := if_pos h

/-- The first copies of both streams. -/
theorem wp_starts {k : PG F} {Q : PUnit → sProp 𝕄} (C : ℕ → Prop)
    (hC : ∀ i, (∃ m, m < 4 ∧ (qOf c i = (36 + m) % 64 ∨ qOf c i = 4 * (8 - m / 4) + m % 4)) → C ((i 0).val / 256)) :
    iprop(records (ct I) K ∗ RedS I c C 0 0 0 0 0 0 ∗ (RedS I c C 0 8 0 4 0 4 -∗ WP c k Q)) ⊢ WP c (startsP c k) Q := by
  have hL : ∀ m, m < 4 → ∀ i, qOf c i = (36 + m) % 64 → C ((i 0).val / 256) := fun m hm i hi => hC i ⟨m, hm, .inl hi⟩
  have hR : ∀ m, m < 4 → ∀ i, qOf c i = 4 * (8 - m / 4) + m % 4 → C ((i 0).val / 256) := fun m hm i hi => hC i ⟨m, hm, .inr hi⟩
  unfold startsP
  iintro ⟨#HR, H, Hk⟩
  iapply (wp_beginL I 0 0 0 0 0 0 0 C rfl (by omega) (by omega) rfl (hL 0 (by omega)))
  isplitr; · iexact HR
  isplitl [H]; · iexact H
  iintro H
  iapply (wp_beginR I 0 0 1 0 1 0 0 C rfl (by omega) (by omega) rfl (hR 0 (by omega)))
  isplitr; · iexact HR
  isplitl [H]; · iexact H
  iintro H
  iapply (wp_beginL I 1 0 2 0 1 0 1 C rfl (by omega) (by omega) rfl (hL 1 (by omega)))
  isplitr; · iexact HR
  isplitl [H]; · iexact H
  iintro H
  iapply (wp_beginR I 1 0 3 0 2 0 1 C rfl (by omega) (by omega) rfl (hR 1 (by omega)))
  isplitr; · iexact HR
  isplitl [H]; · iexact H
  iintro H
  iapply (wp_beginL I 2 0 4 0 2 0 2 C rfl (by omega) (by omega) rfl (hL 2 (by omega)))
  isplitr; · iexact HR
  isplitl [H]; · iexact H
  iintro H
  iapply (wp_beginR I 2 0 5 0 3 0 2 C rfl (by omega) (by omega) rfl (hR 2 (by omega)))
  isplitr; · iexact HR
  isplitl [H]; · iexact H
  iintro H
  iapply (wp_beginL I 3 0 6 0 3 0 3 C rfl (by omega) (by omega) rfl (hL 3 (by omega)))
  isplitr; · iexact HR
  isplitl [H]; · iexact H
  iintro H
  iapply (wp_beginR I 3 0 7 0 4 0 3 C rfl (by omega) (by omega) rfl (hR 3 (by omega)))
  isplitr; · iexact HR
  isplitl [H]; · iexact H
  iexact Hk

/-- One forward of each stream. -/
theorem wp_both {k : PG F} {Q : PUnit → sProp 𝕄} (t : Fin 6) (s : Fin 4) (w n a b : ℕ) (C : ℕ → Prop)
    (hw : w = 8 * t.val + 2 * s.val) (hn : n = w + 8) (ha : a = 4 * t.val + s.val) (hb : b = a + 4)
    (hC : ∀ i, (qOf c i = (36 + b) % 64 ∨ qOf c i = 4 * (8 - b / 4) + b % 4) → C ((i 0).val / 256)) :
    iprop(records (ct I) K ∗ levAts L lv ∗ RedS I c C w n a b a b ∗ (RedS I c C (w + 2) (n + 2) (a + 1) (b + 1) (a + 1) (b + 1) -∗ WP c k Q))
      ⊢ WP c (fwdL c t.castSucc s (fwdR c t s k)) Q := by
  have hs := s.isLt
  have ht := t.isLt
  have h1 := seqL t.castSucc.castSucc s (by show t.val < 7; omega)
  have h2 := seqL t.castSucc.succ s (by show t.val + 1 < 7; omega)
  have e1 : t.castSucc.castSucc.val = t.val := rfl
  have e2 : t.castSucc.succ.val = t.val + 1 := rfl
  have h3 : (Cp.R t.castSucc s).seq = 8 * t.val + 2 * s.val + 1 := rfl
  have h4 : (Cp.R t.succ s).seq = 8 * (t.val + 1) + 2 * s.val + 1 := rfl
  iintro ⟨#HR, #HLv, H, Hk⟩
  iapply (wp_fwdL I t.castSucc s w n a b a b C (by omega) (by omega) (by omega) (by show a = 4 * t.val + s.val; omega) hb (fun i hi => hC i (.inl hi)))
  isplitr; · iexact HR
  isplitr; · iexact HLv
  isplitl [H]; · iexact H
  iintro H
  iapply (wp_fwdR I t s (w + 1) (n + 1) (a + 1) (b + 1) a b C (by omega) (by omega) (by omega) ha hb (fun i hi => hC i (.inr hi)))
  isplitr; · iexact HR
  isplitr; · iexact HLv
  isplitl [H]; · iexact H
  iexact Hk

theorem wp_step {k : PG F} {Q : PUnit → sProp 𝕄} (t : Fin 6) (w a : ℕ) (C : ℕ → Prop)
    (hw : w = 8 * t.val) (ha : a = 4 * t.val)
    (hC : ∀ i, (∃ m, m < 4 ∧ (qOf c i = (36 + (a + 4 + m)) % 64 ∨ qOf c i = 4 * (8 - (a + 4 + m) / 4) + (a + 4 + m) % 4)) → C ((i 0).val / 256)) :
    iprop(records (ct I) K ∗ levAts L lv ∗ RedS I c C w (w + 8) a (a + 4) a (a + 4)
        ∗ (RedS I c C (w + 8) (w + 16) (a + 4) (a + 8) (a + 4) (a + 8) -∗ WP c k Q))
      ⊢ WP c (stepP c t k) Q := by
  unfold stepP
  iintro ⟨#HR, #HLv, H, Hk⟩
  iapply (wp_both I t 0 w (w + 8) a (a + 4) C (by rw [hw]; rfl) rfl (by rw [ha]; rfl) rfl (fun i hi => hC i ⟨0, by omega, hi⟩))
  isplitr; · iexact HR
  isplitr; · iexact HLv
  isplitl [H]; · iexact H
  iintro H
  iapply (wp_both I t 1 (w + 2) (w + 10) (a + 1) (a + 5) C (by rw [hw]; rfl) rfl (by rw [ha]; rfl) rfl (fun i hi => hC i ⟨1, by omega, hi⟩))
  isplitr; · iexact HR
  isplitr; · iexact HLv
  isplitl [H]; · iexact H
  iintro H
  iapply (wp_both I t 2 (w + 4) (w + 12) (a + 2) (a + 6) C (by rw [hw]; rfl) rfl (by rw [ha]; rfl) rfl (fun i hi => hC i ⟨2, by omega, hi⟩))
  isplitr; · iexact HR
  isplitr; · iexact HLv
  isplitl [H]; · iexact H
  iintro H
  iapply (wp_both I t 3 (w + 6) (w + 14) (a + 3) (a + 7) C (by rw [hw]; rfl) rfl (by rw [ha]; rfl) rfl (fun i hi => hC i ⟨3, by omega, hi⟩))
  isplitr; · iexact HR
  isplitr; · iexact HLv
  isplitl [H]; · iexact H
  iexact Hk

theorem wp_pair6 {k : PG F} {Q : PUnit → sProp 𝕄} (s : Fin 4) (w n a b a' : ℕ) (C : ℕ → Prop)
    (hw : w = 48 + 2 * s.val) (hn : n = 56 + s.val) (ha : a = 24 + s.val) (hb : b = a + 4) (ha' : a' = 24 + s.val) (hC : ∀ r, C r) :
    iprop(records (ct I) K ∗ levAts L lv ∗ RedS I c C w n a b a' 28 ∗ PT c cc0_scratch0 (fun _ => True) used (finS I c s.val 0)
        ∗ (RedS I c C (w + 2) (n + 1) (a + 1) (b + 1) (a' + 1) 28 -∗ PT c cc0_scratch0 (fun _ => True) used (finS I c (s.val + 1) 0) -∗ WP c k Q))
      ⊢ WP c (fwdL c 6 s (lastR c s k)) Q := by
  have hs := s.isLt
  have h1 := seqL (6 : Fin 7).castSucc s (by decide)
  have h2 : (Cp.L (6 : Fin 7).succ s).seq = 56 + s.val := rfl
  have e1 : (6 : Fin 7).castSucc.val = 6 := rfl
  have h3 : (Cp.R 6 s).seq = 8 * 6 + 2 * s.val + 1 := rfl
  iintro ⟨#HR, #HLv, H, HS, Hk⟩
  iapply (wp_fwdL I 6 s w n a b a' 28 C (by omega) (by omega) (by omega) (by show a = 4 * 6 + s.val; omega) hb (fun i hi => hC _))
  isplitr; · iexact HR
  isplitr; · iexact HLv
  isplitl [H]; · iexact H
  iintro H
  iapply (wp_lastR I s (w + 1) (n + 1) (a + 1) (b + 1) a' 28 C (by omega) (by omega) (by omega) rfl)
  isplitr; · iexact HR
  isplitr; · iexact HLv
  isplitl [H]; · iexact H
  isplitl [HS]; · iexact HS
  iexact Hk

theorem wp_step6 {k : PG F} {Q : PUnit → sProp 𝕄} (C : ℕ → Prop) (hC : ∀ r, C r) :
    iprop(records (ct I) K ∗ levAts L lv ∗ RedS I c C 48 56 24 28 24 28 ∗ PT c cc0_scratch0 (fun _ => True) used (finS I c 0 0)
        ∗ (RedS I c C 56 60 28 32 28 28 -∗ PT c cc0_scratch0 (fun _ => True) used (finS I c 4 0) -∗ WP c k Q))
      ⊢ WP c (step6P c k) Q := by
  unfold step6P
  iintro ⟨#HR, #HLv, H, HS, Hk⟩
  iapply (wp_pair6 I 0 48 56 24 28 24 C rfl rfl rfl rfl rfl hC)
  isplitr; · iexact HR
  isplitr; · iexact HLv
  isplitl [H]; · iexact H
  isplitl [HS]; · iexact HS
  iintro H HS
  iapply (wp_pair6 I 1 50 57 25 29 25 C rfl rfl rfl rfl rfl hC)
  isplitr; · iexact HR
  isplitr; · iexact HLv
  isplitl [H]; · iexact H
  isplitl [HS]; · iexact HS
  iintro H HS
  iapply (wp_pair6 I 2 52 58 26 30 26 C rfl rfl rfl rfl rfl hC)
  isplitr; · iexact HR
  isplitr; · iexact HLv
  isplitl [H]; · iexact H
  isplitl [HS]; · iexact HS
  iintro H HS
  iapply (wp_pair6 I 3 54 59 27 31 27 C rfl rfl rfl rfl rfl hC)
  isplitr; · iexact HR
  isplitr; · iexact HLv
  isplitl [H]; · iexact H
  isplitl [HS]; · iexact HS
  iexact Hk

theorem wp_step7 {k : PG F} {Q : PUnit → sProp 𝕄} (C : ℕ → Prop) :
    iprop(records (ct I) K ∗ levAts L lv ∗ RedS I c C 56 60 28 32 28 28 ∗ PT c cc0_scratch0 (fun _ => True) used (finS I c 4 0)
        ∗ (RedS I c C 60 60 32 32 28 28 -∗ PT c cc0_scratch0 (fun _ => True) used (finS I c 4 4) -∗ WP c k Q))
      ⊢ WP c (step7P c k) Q := by
  unfold step7P
  iintro ⟨#HR, #HLv, H, HS, Hk⟩
  iapply (wp_lastL I 0 56 60 28 32 28 28 C rfl (by omega) rfl rfl)
  isplitr; · iexact HR
  isplitr; · iexact HLv
  isplitl [H]; · iexact H
  isplitl [HS]; · iexact HS
  iintro H HS
  iapply (wp_lastL I 1 57 60 29 32 28 28 C rfl (by omega) rfl rfl)
  isplitr; · iexact HR
  isplitr; · iexact HLv
  isplitl [H]; · iexact H
  isplitl [HS]; · iexact HS
  iintro H HS
  iapply (wp_lastL I 2 58 60 30 32 28 28 C rfl (by omega) rfl rfl)
  isplitr; · iexact HR
  isplitr; · iexact HLv
  isplitl [H]; · iexact H
  isplitl [HS]; · iexact HS
  iintro H HS
  iapply (wp_lastL I 3 59 60 31 32 28 28 C rfl (by omega) rfl rfl)
  isplitr; · iexact HR
  isplitr; · iexact HLv
  isplitl [H]; · iexact H
  isplitl [HS]; · iexact HS
  iexact Hk

end Cert.KernelIdeal.Ring
end
-- ==== Proof.Batch.lean ====
module

public import proofs.«01_k».proof.Proof.Spec

/-! One batch: its queries, its eight heads' sums stored, and the sums rounded into the buffer they are
sent from. -/

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Facts₀ Facts
open Cert.KernelIdeal.Gen (facts facts₀)

variable {F : FTy → Type} [FloatOps F]

local notation "𝕄" => MT nD τ sig Unit (Elt F) ℕ UU ℕ

/-- The staged inputs of device `c`. -/
def InP (c : Dev nD) (I : Inp F) : sProp 𝕄 :=
  iprop(PT c cc0_stg0_0 (fun _ => True) (fun _ => True) I.x ∗ PT c cc0_stg1_0 (fun _ => True) (fun _ => True) I.wq
    ∗ PT c cc0_stg2_0 (fun _ => True) (fun _ => True) I.wo ∗ PT c cc0_stg3_0 (fun _ => True) (fun _ => True) I.k
    ∗ PT c cc0_stg4_0 (fun _ => True) (fun _ => True) I.v)

/-- What is known of the sums after `h` heads of the batch `b`. -/
def headD (D : S1024x1152.Idx → Prop) (b : Fin 4) (h : ℕ) (i : S1024x1152.Idx) : Prop :=
  D i ∨ ((i 0).val / 256 = b.val ∧ ((i 1).val / 128 < h ∨ (1024 ≤ (i 1).val ∧ (i 1).val < 1024 + h)))

section
variable {c : Dev nD} {I : Inp F} {b : Fin 4}

theorem mem_aR (h : Fin 8) (i : S1024x1152.Idx) :
    i ∈ (aR ((bo b).A h) ((bo b).hA h)).set ↔ (i 0).val / 256 = b.val ∧ (i 1).val / 128 = h.val := by
  rw [Rect.mem_set_unit]
  have e0 : (bo b).A h 0 = 256 * b.val := rfl
  have e1 : (bo b).A h 1 = 128 * h.val := rfl
  have s0 : S256x128.size 0 = 256 := rfl
  have s1 : S256x128.size 1 = 128 := rfl
  constructor
  · intro H
    have h0 := H 0; have h1 := H 1
    rw [e0, s0] at h0; rw [e1, s1] at h1
    omega
  · rintro ⟨h0, h1⟩ a
    match a with
    | ⟨0, _⟩ => show (bo b).A h 0 ≤ (i 0).val ∧ (i 0).val < (bo b).A h 0 + S256x128.size 0; rw [e0, s0]; omega
    | ⟨1, _⟩ => show (bo b).A h 1 ≤ (i 1).val ∧ (i 1).val < (bo b).A h 1 + S256x128.size 1; rw [e1, s1]; omega

theorem mem_lR (h : Fin 8) (i : S1024x1152.Idx) :
    i ∈ (lR ((bo b).L h) ((bo b).hL h)).set ↔ (i 0).val / 256 = b.val ∧ (i 1).val = 1024 + h.val := by
  rw [Rect.mem_set_unit]
  have e0 : (bo b).L h 0 = 256 * b.val := rfl
  have e1 : (bo b).L h 1 = 1024 + h.val := rfl
  have s0 : S256x1.size 0 = 256 := rfl
  have s1 : S256x1.size 1 = 1 := rfl
  constructor
  · intro H
    have h0 := H 0; have h1 := H 1
    rw [e0, s0] at h0; rw [e1, s1] at h1
    omega
  · rintro ⟨h0, h1⟩ a
    match a with
    | ⟨0, _⟩ => show (bo b).L h 0 ≤ (i 0).val ∧ (i 0).val < (bo b).L h 0 + S256x1.size 0; rw [e0, s0]; omega
    | ⟨1, _⟩ => show (bo b).L h 1 ≤ (i 1).val ∧ (i 1).val < (bo b).L h 1 + S256x1.size 1; rw [e1, s1]; omega

theorem mem_bR (i : S1024x1152.Idx) : i ∈ (bR (bo b).r (bo b).hr).set ↔ (i 0).val / 256 = b.val := by
  rw [Rect.mem_set_unit]
  have e0 : (bo b).r 0 = 256 * b.val := rfl
  have e1 : (bo b).r 1 = 0 := rfl
  have s0 : S256x1152.size 0 = 256 := rfl
  have s1 : S256x1152.size 1 = 1152 := rfl
  have hi : (i 1).val < 1152 := (i 1).isLt
  constructor
  · intro H
    have h0 := H 0
    rw [e0, s0] at h0
    omega
  · intro h0 a
    match a with
    | ⟨0, _⟩ => show (bo b).r 0 ≤ (i 0).val ∧ (i 0).val < (bo b).r 0 + S256x1152.size 0; rw [e0, s0]; omega
    | ⟨1, _⟩ => show (bo b).r 1 ≤ (i 1).val ∧ (i 1).val < (bo b).r 1 + S256x1152.size 1; rw [e1, s1]; omega

theorem ownS_a (h : Fin 8) (j : S256x128.Idx) : ownS I ((aR ((bo b).A h) ((bo b).hA h)).emb j) = aB I b h j := by
  have j0 : (j 0).val < 256 := (j 0).isLt
  have j1 : (j 1).val < 128 := (j 1).isLt
  have e0 : ((aR ((bo b).A h) ((bo b).hA h)).emb j 0).val = 256 * b.val + 1 * (j 0).val := rfl
  have e1 : ((aR ((bo b).A h) ((bo b).hA h)).emb j 1).val = 128 * h.val + 1 * (j 1).val := rfl
  unfold ownS
  rw [dif_pos (by rw [e1]; omega)]
  congr 1
  · apply Fin.ext; simp only [e0]; omega
  · apply Fin.ext; simp only [e1]; omega
  · funext a
    match a with
    | ⟨0, _⟩ => apply Fin.ext; show ((aR ((bo b).A h) ((bo b).hA h)).emb j 0).val % 256 = (j 0).val; rw [e0]; omega
    | ⟨1, _⟩ => apply Fin.ext; show ((aR ((bo b).A h) ((bo b).hA h)).emb j 1).val % 128 = (j 1).val; rw [e1]; omega

theorem ownS_l (h : Fin 8) (j : S256x1.Idx) : ownS I ((lR ((bo b).L h) ((bo b).hL h)).emb j) = lB I b h j := by
  have j0 : (j 0).val < 256 := (j 0).isLt
  have j1 : (j 1).val < 1 := (j 1).isLt
  have e0 : ((lR ((bo b).L h) ((bo b).hL h)).emb j 0).val = 256 * b.val + 1 * (j 0).val := rfl
  have e1 : ((lR ((bo b).L h) ((bo b).hL h)).emb j 1).val = 1024 + h.val + 1 * (j 1).val := rfl
  unfold ownS
  rw [dif_neg (by rw [e1]; omega)]
  congr 1
  · apply Fin.ext; simp only [e0]; omega
  · apply Fin.ext; simp only [e1]; omega
  · funext a
    match a with
    | ⟨0, _⟩ => apply Fin.ext; show ((lR ((bo b).L h) ((bo b).hL h)).emb j 0).val % 256 = (j 0).val; rw [e0]; omega
    | ⟨1, _⟩ => apply Fin.ext; show 0 = (j 1).val; omega

theorem wp_head {k : PG F} {Q : PUnit → sProp 𝕄} (D : S1024x1152.Idx → Prop) (h : Fin 8) {q : FVec F S256x1024 .f32} {kk vv : FVec F S1024x128 .f32}
    (hq : q = qB I b) (hk : kk = kB I b h) (hv : vv = vB I b h) (n : ℕ) (hn : n = h.val + 1) :
    iprop(PT c cc0_scratch0 (fun _ => True) (headD D b h.val) (ownS I)
        ∗ (PT c cc0_scratch0 (fun _ => True) (headD D b n) (ownS I) -∗ WP c k Q))
      ⊢ WP c (headP q kk vv h ((bo b).A h) ((bo b).hA h) ((bo b).L h) ((bo b).hL h) k) Q := by
  subst hq; subst hk; subst hv; subst hn
  unfold headP
  iintro ⟨H, Hk⟩
  iapply (PT_load (cs := .vmem) (bi := 6) (bκ := rfl) (fun _ _ => trivial)) $$ H
  iintro %v - H
  iapply (PT_store (cs := .vmem) (bi := 6) (bκ := rfl) (V' := ownS I) (D' := fun i => headD D b h.val i ∨ ((i 0).val / 256 = b.val ∧ (i 1).val / 128 = h.val))
    (fun _ _ => trivial) (fun j _ => (ownS_a h j).symm)
    (fun i hi hd => ⟨hd.resolve_right fun h2 => hi ((mem_aR h i).mpr h2), rfl⟩)) $$ H
  iintro H
  iapply (PT_load (cs := .vmem) (bi := 6) (bκ := rfl) (fun _ _ => trivial)) $$ H
  iintro %v' - H
  iapply (PT_store (cs := .vmem) (bi := 6) (bκ := rfl) (V' := ownS I) (D' := headD D b (h.val + 1))
    (fun _ _ => trivial) (fun j _ => (ownS_l h j).symm)
    (fun i hi hd => ⟨by
      have h3 : ¬ ((i 0).val / 256 = b.val ∧ (i 1).val = 1024 + h.val) := fun h2 => hi ((mem_lR h i).mpr h2)
      unfold headD at hd ⊢
      rcases hd with hd | hd
      · exact .inl (.inl hd)
      · by_cases h4 : (i 1).val / 128 = h.val
        · exact .inr ⟨hd.1, h4⟩
        · exact .inl (.inr (by omega)), rfl⟩)) $$ H
  iintro H
  iapply Hk
  iexact H

/-- The batch's sums rounded. -/
theorem wp_cast {k : PG F} {Q : PUnit → sProp 𝕄} {D : S1024x1152.Idx → Prop} {P D₂ : S1024x1152.Idx → Prop} (hP : ∀ i, (i 0).val / 256 = b.val → P i)
    (hD : ∀ i, (i 0).val / 256 = b.val → (i 1).val < 1032 → D i) (hD₂ : ∀ i, D₂ i → (i 1).val < 1032) :
    iprop(PT c cc0_scratch0 (fun _ => True) D (ownS I) ∗ PT c cc0_scratch1 P D₂ (ownB I)
        ∗ (PT c cc0_scratch0 (fun _ => True) D (ownS I)
          -∗ PT c cc0_scratch1 P (fun i => D₂ i ∨ ((i 0).val / 256 = b.val ∧ (i 1).val < 1032)) (ownB I) -∗ WP c k Q))
      ⊢ WP c (castP (bo b) k) Q := by
  unfold castP
  iintro ⟨H, H2, Hk⟩
  iapply (PT_load (cs := .vmem) (bi := 6) (bκ := rfl) (fun _ _ => trivial)) $$ H
  iintro %s %hs H
  iapply (PT_load (cs := .vmem) (bi := 7) (bκ := rfl) (fun i hi => hP i (mem_bR i |>.mp hi))) $$ H2
  iintro %s' - H2
  iapply (PT_store (cs := .vmem) (bi := 7) (bκ := rfl) (V' := ownB I) (D' := fun i => D₂ i ∨ ((i 0).val / 256 = b.val ∧ (i 1).val < 1032))
    (fun i hi => hP i (mem_bR i |>.mp hi))
    (fun j hj => by
      have h0 : (((bR (bo b).r (bo b).hr).emb j) 0).val / 256 = b.val := (mem_bR _).mp (by
        rw [← Rect.map_emb_univ]; exact Finset.mem_map_of_mem _ (Finset.mem_univ j))
      have h1 : (((bR (bo b).r (bo b).hr).emb j) 1).val < 1032 := by
        rcases hj with hj | hj
        · exact hD₂ _ hj
        · exact hj.2
      exact sbV_eq s (ownS I) j _ (hs j (hD _ h0 h1)))
    (fun i hi hd => ⟨by
      have h3 : ¬ (i 0).val / 256 = b.val := fun h2 => hi ((mem_bR i).mpr h2)
      exact hd.resolve_right fun h => h3 h.1, rfl⟩)) $$ H2
  iintro H2
  iapply Hk $$ [H] [H2]
  · iexact H
  · iexact H2

theorem k0_lt {h : Fin 8} (hh : h.val < 4) : kV (sl (kR (bo b).k0 (bo b).hk0) I.k) = kB I b h := by unfold kB; rw [if_pos hh]
theorem v0_lt {h : Fin 8} (hh : h.val < 4) : kV (sl (kR (bo b).k0 (bo b).hk0) I.v) = vB I b h := by unfold vB; rw [if_pos hh]
theorem k1_ge {h : Fin 8} (hh : ¬ h.val < 4) : kV (sl (kR (bo b).k1 (bo b).hk1) I.k) = kB I b h := by unfold kB; rw [if_neg hh]
theorem v1_ge {h : Fin 8} (hh : ¬ h.val < 4) : kV (sl (kR (bo b).k1 (bo b).hk1) I.v) = vB I b h := by unfold vB; rw [if_neg hh]

/-- One batch. -/
theorem wp_batch {k : PG F} {Q : PUnit → sProp 𝕄} {D : S1024x1152.Idx → Prop} {P D₂ : S1024x1152.Idx → Prop} (hP : ∀ i, (i 0).val / 256 = b.val → P i)
    (hD₂ : ∀ i, D₂ i → (i 1).val < 1032) :
    iprop(InP c I ∗ PT c cc0_scratch0 (fun _ => True) D (ownS I) ∗ PT c cc0_scratch1 P D₂ (ownB I)
        ∗ (InP c I -∗ PT c cc0_scratch0 (fun _ => True) (fun i => D i ∨ ((i 0).val / 256 = b.val ∧ (i 1).val < 1032)) (ownS I)
          -∗ PT c cc0_scratch1 P (fun i => D₂ i ∨ ((i 0).val / 256 = b.val ∧ (i 1).val < 1032)) (ownB I) -∗ WP c k Q))
      ⊢ WP c (batchP (bo b) k) Q := by
  unfold batchP groupP InP
  iintro ⟨⟨Hx, Hq, Ho, Hkk, Hv⟩, H, H2, Hk⟩
  iapply (PT_load (cs := .vmem) (bi := 0) (bκ := rfl) (fun _ _ => trivial)) $$ Hx
  iintro %x %hx Hx
  obtain rfl : x = sl (xR (bo b).x (bo b).hx) I.x := funext fun j => hx j trivial
  iapply (PT_load (cs := .vmem) (bi := 1) (bκ := rfl) (fun _ _ => trivial)) $$ Hq
  iintro %wq %hwq Hq
  obtain rfl : wq = sl wR I.wq := funext fun j => hwq j trivial
  iapply (PT_load (cs := .vmem) (bi := 3) (bκ := rfl) (fun _ _ => trivial)) $$ Hkk
  iintro %k0 %hk0 Hkk
  obtain rfl : k0 = sl (kR (bo b).k0 (bo b).hk0) I.k := funext fun j => hk0 j trivial
  iapply (PT_load (cs := .vmem) (bi := 4) (bκ := rfl) (fun _ _ => trivial)) $$ Hv
  iintro %v0 %hv0 Hv
  obtain rfl : v0 = sl (kR (bo b).k0 (bo b).hk0) I.v := funext fun j => hv0 j trivial
  ihave H := (PT_mono (b := cc0_scratch0) (D' := headD D b 0) (fun _ => Iff.rfl) (fun i hi => by
    unfold headD at hi; rcases hi with hi | hi
    · exact hi
    · omega)) $$ H
  iapply (wp_head D 0 rfl (k0_lt (by decide)) (v0_lt (by decide)) 1 rfl)
  isplitl [H]; · iexact H
  iintro H
  iapply (wp_head D 1 rfl (k0_lt (by decide)) (v0_lt (by decide)) 2 rfl)
  isplitl [H]; · iexact H
  iintro H
  iapply (wp_head D 2 rfl (k0_lt (by decide)) (v0_lt (by decide)) 3 rfl)
  isplitl [H]; · iexact H
  iintro H
  iapply (wp_head D 3 rfl (k0_lt (by decide)) (v0_lt (by decide)) 4 rfl)
  isplitl [H]; · iexact H
  iintro H
  iapply (PT_load (cs := .vmem) (bi := 3) (bκ := rfl) (fun _ _ => trivial)) $$ Hkk
  iintro %k1 %hk1 Hkk
  obtain rfl : k1 = sl (kR (bo b).k1 (bo b).hk1) I.k := funext fun j => hk1 j trivial
  iapply (PT_load (cs := .vmem) (bi := 4) (bκ := rfl) (fun _ _ => trivial)) $$ Hv
  iintro %v1 %hv1 Hv
  obtain rfl : v1 = sl (kR (bo b).k1 (bo b).hk1) I.v := funext fun j => hv1 j trivial
  iapply (wp_head D 4 rfl (k1_ge (by decide)) (v1_ge (by decide)) 5 rfl)
  isplitl [H]; · iexact H
  iintro H
  iapply (wp_head D 5 rfl (k1_ge (by decide)) (v1_ge (by decide)) 6 rfl)
  isplitl [H]; · iexact H
  iintro H
  iapply (wp_head D 6 rfl (k1_ge (by decide)) (v1_ge (by decide)) 7 rfl)
  isplitl [H]; · iexact H
  iintro H
  iapply (wp_head D 7 rfl (k1_ge (by decide)) (v1_ge (by decide)) 8 rfl)
  isplitl [H]; · iexact H
  iintro H
  ihave H := (PT_mono (b := cc0_scratch0) (D' := fun i => D i ∨ ((i 0).val / 256 = b.val ∧ (i 1).val < 1032)) (fun _ => Iff.rfl) (fun i hi => by
    unfold headD; rcases hi with hi | hi
    · exact .inl hi
    · exact .inr ⟨hi.1, by omega⟩)) $$ H
  iapply (wp_cast (D := fun i => D i ∨ ((i 0).val / 256 = b.val ∧ (i 1).val < 1032)) (D₂ := D₂) hP (fun i h1 h2 => Or.inr ⟨h1, h2⟩) hD₂)
  isplitl [H]; · iexact H
  isplitl [H2]; · iexact H2
  iintro H H2
  iapply Hk $$ [Hx Hq Ho Hkk Hv] [H] [H2]
  · isplitl [Hx]; · iexact Hx
    isplitl [Hq]; · iexact Hq
    isplitl [Ho]; · iexact Ho
    isplitl [Hkk] <;> iassumption
  · iexact H
  · iexact H2

end

end Cert.KernelIdeal.Ring
end
-- ==== Proof.Chunk.lean ====
module

public import proofs.«01_k».proof.Proof.Steps
public import proofs.«01_k».proof.Proof.Batch

/-! The finished chunk: divided by its row sums, multiplied by the output weights. -/

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Facts₀ Facts
open Cert.KernelIdeal.Gen (facts facts₀)

variable {F : FTy → Type} [FloatOps F]

local notation "𝕄" => MT nD τ sig Unit (Elt F) ℕ UU ℕ

variable (I : Dev nD → Inp F) {c : Dev nD}

/-- Columns of the divided chunk done so far, in groups of one head. -/
def heads (n : ℕ) (i : S64x1024.Idx) : Prop := (i 1).val / 128 < n

theorem nC_at (h : Fin 8) (j : S64x128.Idx) (i : S64x1024.Idx) (h0 : (i 0).val = (j 0).val) (h1 : (i 1).val = 128 * h.val + (j 1).val) :
    nC I c i = nV (aC I c h) (lC I c h) j := by
  have hj : (j 1).val < 128 := (j 1).isLt
  have hi : (i 1).val < 1024 := (i 1).isLt
  have e : (⟨(i 1).val / 128, by omega⟩ : Fin 8) = h := Fin.ext (by show (i 1).val / 128 = h.val; omega)
  have e2 : (ix2 (n0 := 64) (n1 := 128) (i 0) ⟨(i 1).val % 128, Nat.mod_lt _ (by decide)⟩ : S64x128.Idx) = j := by
    funext a
    match a with
    | ⟨0, _⟩ => exact Fin.ext h0
    | ⟨1, _⟩ => exact Fin.ext (by show (i 1).val % 128 = (j 1).val; omega)
  show nV (aC I c (⟨(i 1).val / 128, by omega⟩ : Fin 8)) (lC I c (⟨(i 1).val / 128, by omega⟩ : Fin 8)) (ix2 (n0 := 64) (n1 := 128) (i 0) ⟨(i 1).val % 128, Nat.mod_lt _ (by decide)⟩) = _
  rw [e, e2]

theorem wp_norm {k : PG F} {Q : PUnit → sProp 𝕄} (h : Fin 8) {oa ol : Fin 2 → Nat} {ha : ∀ a, oa a + S64x128.size a ≤ S1024x1152.size a}
    {hl : ∀ a, ol a + S64x1.size a ≤ S1024x1152.size a} (hoa : oa = ![64 * ch c 1, 128 * h.val]) (hol : ol = ![64 * ch c 1, 1024 + h.val]) :
    iprop(PT c cc0_scratch0 (fun _ => True) used (finS I c 4 4) ∗ PT c cc0_scratch4 (fun _ => True) (heads h.val) (nC I c)
        ∗ (PT c cc0_scratch0 (fun _ => True) used (finS I c 4 4) -∗ PT c cc0_scratch4 (fun _ => True) (heads (h.val + 1)) (nC I c) -∗ WP c k Q))
      ⊢ WP c (normP h oa ha ol hl k) Q := by
  subst hoa; subst hol
  have hh := h.isLt
  unfold normP
  iintro ⟨HS, HN, Hk⟩
  iapply (PT_load (cs := .vmem) (bi := 6) (bκ := rfl) (fun _ _ => trivial)) $$ HS
  iintro %x %hx HS
  iapply (PT_load (cs := .vmem) (bi := 6) (bκ := rfl) (fun _ _ => trivial)) $$ HS
  iintro %y %hy HS
  iapply (PT_load (cs := .vmem) (bi := 10) (bκ := rfl) (fun _ _ => trivial)) $$ HN
  iintro %z - HN
  have hxe : x = aC I c h := funext fun j => by
    have hj : (j 1).val < 128 := (j 1).isLt
    have e1 : ((naR ![64 * ch c 1, 128 * h.val] ha).emb j 1).val = 128 * h.val + 1 * (j 1).val := rfl
    refine (hx j (by show ((naR ![64 * ch c 1, 128 * h.val] ha).emb j 1).val < 1032; rw [e1]; omega)).trans (congrArg (finS I c 4 4) ?_)
    funext a
    match a with
    | ⟨0, _⟩ => apply Fin.ext; show 64 * ch c 1 + 1 * (j 0).val = 64 * ch c 1 + (j 0).val; omega
    | ⟨1, _⟩ => apply Fin.ext; show 128 * h.val + 1 * (j 1).val = 128 * h.val + (j 1).val; omega
  have hye : y = lC I c h := funext fun j => by
    have hj : (j 1).val < 1 := (j 1).isLt
    have e1 : ((nlR ![64 * ch c 1, 1024 + h.val] hl).emb j 1).val = 1024 + h.val + 1 * (j 1).val := rfl
    refine (hy j (by show ((nlR ![64 * ch c 1, 1024 + h.val] hl).emb j 1).val < 1032; rw [e1]; omega)).trans (congrArg (finS I c 4 4) ?_)
    funext a
    match a with
    | ⟨0, _⟩ => apply Fin.ext; show 64 * ch c 1 + 1 * (j 0).val = 64 * ch c 1 + (j 0).val; omega
    | ⟨1, _⟩ => apply Fin.ext; show 1024 + h.val + 1 * (j 1).val = 1024 + h.val; omega
  subst hxe; subst hye
  iapply (PT_store (cs := .vmem) (bi := 10) (bκ := rfl) (V' := nC I c) (D' := heads (h.val + 1))
    (fun _ _ => trivial)
    (fun j _ => (nC_at I h j ((nbR h).emb j) (by show 0 + 1 * (j 0).val = (j 0).val; omega) (by show 128 * h.val + 1 * (j 1).val = _; omega)).symm)
    (fun i hi hd => ⟨by
      have hi0 : (i 0).val < 64 := (i 0).isLt
      have hd : (i 1).val / 128 < h.val + 1 := hd
      show (i 1).val / 128 < h.val
      by_contra hc
      refine hi (Rect.mem_set_unit.mpr fun a => ?_)
      match a with
      | ⟨0, _⟩ => show 0 ≤ (i 0).val ∧ (i 0).val < 0 + 64; omega
      | ⟨1, _⟩ => show 128 * h.val ≤ (i 1).val ∧ (i 1).val < 128 * h.val + 128; omega, rfl⟩)) $$ HN
  iintro HN
  iapply Hk $$ HS HN

/-- The own rows of a buffer of all rows. -/
def ownR (c : Dev nD) (i : S1024x1024.Idx) : Prop := rel c (i 0).val / 64 = 1

theorem mem_oR {o : Fin 2 → Nat} {h : ∀ a, o a + S64x1024.size a ≤ S1024x1024.size a} (ho : o = ![64 * ch c 1, 0]) (i : S1024x1024.Idx) :
    i ∈ (oR o h).set ↔ ownR c i := by
  subst ho
  have h0 : (i 0).val < 1024 := (i 0).isLt
  have h1 : (i 1).val < 1024 := (i 1).isLt
  unfold ownR
  rw [← rel_own c _ h0, Rect.mem_set_unit]
  constructor
  · intro hm
    have hm : 64 * ch c 1 ≤ (i 0).val ∧ (i 0).val < 64 * ch c 1 + 64 := hm 0
    omega
  · intro hm a
    match a with
    | ⟨0, _⟩ => show 64 * ch c 1 ≤ (i 0).val ∧ (i 0).val < 64 * ch c 1 + 64; omega
    | ⟨1, _⟩ => show 0 ≤ (i 1).val ∧ (i 1).val < 0 + 1024; omega

theorem wp_proj {k : PG F} {Q : PUnit → sProp 𝕄} {o : Fin 2 → Nat} {h : ∀ a, o a + S64x1024.size a ≤ S1024x1024.size a}
    {hp : (oR o h).PackedRows (EltTy.packing .bf16)} (ho : o = ![64 * ch c 1, 0]) {V₁ : FVec F S1024x1024 .f32} {V₂ : FVec F S1024x1024 .bf16} :
    iprop(PT c cc0_scratch4 (fun _ => True) (heads 8) (nC I c) ∗ InP c (I c) ∗ PT c cc0_stg5_0 (fun _ => True) (fun _ => False) V₁
        ∗ PT c cc0_scratch5 (ownR c) (fun _ => False) V₂
        ∗ (PT c cc0_scratch4 (fun _ => True) (heads 8) (nC I c) -∗ InP c (I c) -∗ PT c cc0_stg5_0 (fun _ => True) (ownR c) (outV I c)
          -∗ PT c cc0_scratch5 (ownR c) (ownR c) (obAll I) -∗ WP c k Q))
      ⊢ WP c (projP o h hp k) Q := by
  have hmem := fun i => mem_oR (c := c) (h := h) ho i
  have hrow : ∀ j : S64x1024.Idx, ((oR o h).emb j 0).val = 64 * ch c 1 + 1 * (j 0).val := fun j => by subst ho; rfl
  have hcol : ∀ j : S64x1024.Idx, ((oR o h).emb j 1).val = 0 + 1 * (j 1).val := fun j => by subst ho; rfl
  have hdiv : ∀ j : S64x1024.Idx, ((oR o h).emb j 0).val / 64 = ch c 1 := fun j => by
    have hj : (j 0).val < 64 := (j 0).isLt
    rw [hrow]; omega
  have hinc : ∀ j : S64x1024.Idx, inChunk ((oR o h).emb j) = j := fun j => by
    have hj : (j 0).val < 64 := (j 0).isLt
    funext a
    match a with
    | ⟨0, _⟩ => apply Fin.ext; show ((oR o h).emb j 0).val % 64 = (j 0).val; rw [hrow]; omega
    | ⟨1, _⟩ => apply Fin.ext; show ((oR o h).emb j 1).val = (j 1).val; rw [hcol]; omega
  unfold projP InP
  iintro ⟨HN, ⟨Hx, Hq, Ho, Hkk, Hv⟩, HO, HB, Hk⟩
  iapply (PT_load (cs := .vmem) (bi := 10) (bκ := rfl) (fun _ _ => trivial)) $$ HN
  iintro %n %hn HN
  iapply (PT_load (cs := .vmem) (bi := 2) (bκ := rfl) (fun _ _ => trivial)) $$ Ho
  iintro %wo %hwo Ho
  obtain rfl : n = sl nwR (nC I c) := funext fun j => hn j (by
    have hj : (j 1).val < 1024 := (j 1).isLt
    show (0 + 1 * (j 1).val) / 128 < 8
    omega)
  obtain rfl : wo = sl wR (I c).wo := funext fun j => hwo j trivial
  iapply (PT_load (cs := .vmem) (bi := 5) (bκ := rfl) (fun _ _ => trivial)) $$ HO
  iintro %z - HO
  iapply (PT_store (cs := .vmem) (bi := 5) (bκ := rfl) (V' := outV I c) (D' := ownR c)
    (fun _ _ => trivial)
    (fun j _ => by
      show oC I c j = outV I c ((oR o h).emb j)
      unfold outV
      rw [if_pos (hdiv j), hinc])
    (fun i hi hd => absurd ((hmem i).mpr hd) hi)) $$ HO
  iintro HO
  iapply (PT_load (cs := .vmem) (bi := 11) (bκ := rfl) (fun i hi => (hmem i).mp hi)) $$ HB
  iintro %z2 - HB
  iapply (PT_store (cs := .vmem) (bi := 11) (bκ := rfl) (V' := obAll I) (D' := ownR c)
    (fun i hi => (hmem i).mp hi)
    (fun j _ => by
      show obV (oC I c) j = obV (oC I (owner (((oR o h).emb j 0).val / 64))) (inChunk ((oR o h).emb j))
      rw [owner_of (hdiv j), hinc])
    (fun i hi hd => absurd ((hmem i).mpr hd) hi)) $$ HB
  iintro HB
  iapply Hk $$ HN [Hx Hq Ho Hkk Hv] HO HB
  isplitl [Hx]; · iexact Hx
  isplitl [Hq]; · iexact Hq
  isplitl [Ho]; · iexact Ho
  isplitl [Hkk]; · iexact Hkk
  iexact Hv

theorem wp_chunk {k : PG F} {Q : PUnit → sProp 𝕄} {V₁ : FVec F S1024x1024 .f32} {V₂ : FVec F S1024x1024 .bf16} {V₃ : FVec F S64x1024 .f32} :
    iprop(PT c cc0_scratch0 (fun _ => True) used (finS I c 4 4) ∗ PT c cc0_scratch4 (fun _ => True) (fun _ => False) V₃
        ∗ InP c (I c) ∗ PT c cc0_stg5_0 (fun _ => True) (fun _ => False) V₁ ∗ PT c cc0_scratch5 (ownR c) (fun _ => False) V₂
        ∗ (PT c cc0_scratch0 (fun _ => True) used (finS I c 4 4) -∗ PT c cc0_scratch4 (fun _ => True) (heads 8) (nC I c)
          -∗ InP c (I c) -∗ PT c cc0_stg5_0 (fun _ => True) (ownR c) (outV I c)
          -∗ PT c cc0_scratch5 (ownR c) (ownR c) (obAll I) -∗ WP c k Q))
      ⊢ WP c (chunkP c k) Q := by
  unfold chunkP
  iintro ⟨HS, HN, HI, HO, HB, Hk⟩
  ihave HN := (PT_re (b := cc0_scratch4) (P' := fun _ => True) (D' := heads 0) (V' := nC I c) (fun _ => Iff.rfl) (fun i hi => absurd hi (Nat.not_lt_zero _))) $$ HN
  iapply (wp_norm I 0 (noA_eq c 0) (noL_eq c 0))
  isplitl [HS]; · iexact HS
  isplitl [HN]; · iexact HN
  iintro HS HN
  iapply (wp_norm I 1 (noA_eq c 1) (noL_eq c 1))
  isplitl [HS]; · iexact HS
  isplitl [HN]; · iexact HN
  iintro HS HN
  iapply (wp_norm I 2 (noA_eq c 2) (noL_eq c 2))
  isplitl [HS]; · iexact HS
  isplitl [HN]; · iexact HN
  iintro HS HN
  iapply (wp_norm I 3 (noA_eq c 3) (noL_eq c 3))
  isplitl [HS]; · iexact HS
  isplitl [HN]; · iexact HN
  iintro HS HN
  iapply (wp_norm I 4 (noA_eq c 4) (noL_eq c 4))
  isplitl [HS]; · iexact HS
  isplitl [HN]; · iexact HN
  iintro HS HN
  iapply (wp_norm I 5 (noA_eq c 5) (noL_eq c 5))
  isplitl [HS]; · iexact HS
  isplitl [HN]; · iexact HN
  iintro HS HN
  iapply (wp_norm I 6 (noA_eq c 6) (noL_eq c 6))
  isplitl [HS]; · iexact HS
  isplitl [HN]; · iexact HN
  iintro HS HN
  iapply (wp_norm I 7 (noA_eq c 7) (noL_eq c 7))
  isplitl [HS]; · iexact HS
  isplitl [HN]; · iexact HN
  iintro HS HN
  iapply (wp_proj I (o61 c))
  isplitl [HN]; · iexact HN
  isplitl [HI]; · iexact HI
  isplitl [HO]; · iexact HO
  isplitl [HB]; · iexact HB
  iintro HN HI HO HB
  iapply Hk $$ HS HN HI HO HB

end Cert.KernelIdeal.Ring
end
-- ==== Proof.Gather.lean ====
module

public import proofs.«01_k».proof.Proof.Chunk

/-! The gathering streams: the finished pieces sent around the ring both ways. A piece's buffer is held as two
halves: the left half travels with the copies to the next device, the right half with those to the previous. -/

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Facts₀ Facts
open Cert.KernelIdeal.Gen (facts facts₀)

variable {F : FTy → Type} [FloatOps F]

local notation "𝕄" => MT nD τ sig Unit (Elt F) ℕ UU ℕ

variable (I : Dev nD → Inp F) {K : Dev nD × KI → ℕ} {c : Dev nD}

/-- The piece an element lies in, counted from the device's own chunk. -/
def pOf (c : Dev nD) (i : S1024x1024.Idx) : ℕ := rel c (i 0).val / 32
theorem pOf_lt (c : Dev nD) (i : S1024x1024.Idx) : pOf c i < 32 := by unfold pOf rel; omega

/-- The pieces that pass to the next device (the own ones first), and their order; the same to the previous. -/
def srcA (q : ℕ) : Prop := q < 4 ∨ 18 ≤ q
def ordA (q : ℕ) : ℕ := 2 * ((17 - q / 2) % 16) + q % 2
def srcB (q : ℕ) : Prop := 2 ≤ q ∧ q < 18
def ordB (q : ℕ) : ℕ := q - 2

/-- The left halves at hand, and those of them still to be sent: of the copies to the next device `a` awaited
and `b` started, of those to the previous `aB` awaited. -/
def obLP (c : Dev nD) (a b aB : ℕ) (i : S1024x1024.Idx) : Prop :=
  (srcA (pOf c i) ∧ ordA (pOf c i) < a + 2 ∧ ¬ (a ≤ ordA (pOf c i) ∧ ordA (pOf c i) < b)) ∨ ((4 ≤ pOf c i ∧ pOf c i < 18) ∧ ordB (pOf c i) < aB + 2)
def obLD (c : Dev nD) (a b : ℕ) (i : S1024x1024.Idx) : Prop := srcA (pOf c i) ∧ ordA (pOf c i) < a + 2 ∧ b ≤ ordA (pOf c i)
def obRP (c : Dev nD) (aA a b : ℕ) (i : S1024x1024.Idx) : Prop :=
  (srcB (pOf c i) ∧ ordB (pOf c i) < a + 2 ∧ ¬ (a ≤ ordB (pOf c i) ∧ ordB (pOf c i) < b)) ∨ ((pOf c i < 2 ∨ 18 ≤ pOf c i) ∧ ordA (pOf c i) < aA + 2)
def obRD (c : Dev nD) (a b : ℕ) (i : S1024x1024.Idx) : Prop := srcB (pOf c i) ∧ ordB (pOf c i) < a + 2 ∧ b ≤ ordB (pOf c i)

abbrev OBL (c : Dev nD) (a b aB : ℕ) : sProp 𝕄 := PTs fullShare.left c cc0_scratch5 (obLP c a b aB) (obLD c a b) (obAll I)
abbrev OBR (c : Dev nD) (aA a b : ℕ) : sProp 𝕄 := PTs fullShare.right c cc0_scratch5 (obRP c aA a b) (obRD c a b) (obAll I)
/-- One piece, its contents known. -/
abbrev PieS (q' : PosShare TreeShare) (c : Dev nD) (q : ℕ) : sProp 𝕄 :=
  PTs q' c cc0_scratch5 (fun i => pOf c i = q) (fun i => pOf c i = q) (obAll I)

omit [FloatOps F] in
/-- Two parts of the same buffer put together. -/
theorem PTs_put {q : PosShare TreeShare} {b : Ref sig .tc} {P P₁ P' D D₁ D' : b.ty.Idx → Prop} {V : b.ty.Contents (Elt F)}
    (hP : ∀ i, P' i ↔ P i ∨ P₁ i) (hd : ∀ i, P₁ i → ¬ P i) (h1 : ∀ i, P₁ i → D' i → D₁ i) (hD : ∀ i, D' i → ¬ P₁ i → D i) :
    iprop(PTs q c b P₁ D₁ V ∗ PTs q c b P D V) ⊢ (PTs q c b P' D' V : sProp 𝕄) := by
  iintro ⟨H1, H⟩
  ihave H1 := (PT_to (T := pick P₁) (fun i => mem_pick.symm)) $$ H1
  icases H1 with ⟨%f, %hf, H1⟩
  iapply (PT_put (g := f) (T := pick P₁) (fun i => by rw [mem_pick]; exact hP i) (fun i hi => hd i (mem_pick.mp hi))
    (fun i hi hi' => hf i (h1 i (mem_pick.mp hi) hi')) (fun i hi hn => hD i hi (fun h => hn (mem_pick.mpr h)))) $$ [H1 H]
  isplitl [H1] <;> iassumption

/-- Starting a copy to the next device. -/
theorem wp_startA {k : PG F} {Q : PUnit → sProp 𝕄} (t : Fin 8) (s : Fin 2) (w n a b aB nr : ℕ) (hn : n = (Cp.A t s).seq) (hw : w ≤ n)
    (hb : b = 2 * t.val + s.val) (hab : b < a + 2) (hle : a ≤ b) :
    iprop(records (ct I) K ∗ Run (F := F) c w n ∗ landR (F := F) c nr b ∗ OBL I c a b aB
        ∗ (Run (F := F) c w (n + 1) -∗ landR (F := F) c nr (b + 1) -∗ OBL I c a (b + 1) aB -∗ WP c k Q))
      ⊢ WP c (startA c t s k) Q := by
  have ht := t.isLt
  have hs := s.isLt
  have hT : ∀ i : S1024x1024.Idx, i ∈ ((aPie c t s).view.set : Finset S1024x1024.Idx) ↔ pOf c i = (2 * (17 - t.val) + s.val) % 32 := fun i => by
    rw [set_obS]
    exact mem_pieR (o62 c t s) i
  have hT' : ∀ i : S1024x1024.Idx, i ∈ ((aPie c t s).view.set : Finset S1024x1024.Idx) ↔ rel (rd c) (i 0).val / 32 = (2 * (16 - t.val) + s.val) % 32 := fun i => by
    rw [set_obS]
    refine mem_pieR (c := rd c) (e := 16 - t.val) ((o62 c t s).trans ?_) i
    rw [ch_rd, show 16 - t.val + 1 = 17 - t.val by omega]
  have key : ∀ x, x < 32 → (x = (2 * (17 - t.val) + s.val) % 32 ↔ (srcA x ∧ ordA x = b)) := fun x hx => by unfold srcA ordA; omega
  unfold startA
  iintro ⟨#HR, Hrun, Hl, Hb, Hk⟩
  unfold landR
  icases Hl with ⟨Hob, Hl⟩
  ihave Hb := (PT_take (b := cc0_scratch5) (T := ((aPie c t s).view.set : Finset S1024x1024.Idx)) (P' := obLP c a (b + 1) aB) (D' := obLD c a (b + 1))
    (fun i hi => by
      have hx := pOf_lt c i
      have h := (key _ hx).mp ((hT i).mp hi)
      unfold obLP
      left
      exact ⟨h.1, by omega, by omega⟩)
    (fun i => by
      have hx := pOf_lt c i
      rw [hT, key _ hx]
      unfold obLP
      by_cases h : srcA (pOf c i)
      · have h2 : ¬ (4 ≤ pOf c i ∧ pOf c i < 18) := by unfold srcA at h; omega
        generalize ordA (pOf c i) = j
        simp only [h, true_and]
        omega
      · simp only [h, false_and, false_or, not_false_eq_true, and_true])
    (fun i hi => ⟨hi.1, hi.2.1, by have := hi.2.2; omega⟩)) $$ Hb
  icases Hb with ⟨⟨%f, %hf, Hb⟩, HB⟩
  ihave Hl := (pool_take (b := cc0_scratch5) (P' := aFrom (rd c) (b + 1)) (T := ((aPie c t s).view.set : Finset S1024x1024.Idx))
    (fun i hi => by
      rw [hT'] at hi
      unfold aFrom isA jA; omega)
    (fun i => by
      have hx := pOf_lt (rd c) i
      unfold pOf at hx
      rw [hT']
      unfold aFrom isA jA; omega)) $$ Hl
  icases Hl with ⟨Hd, Hl⟩
  iapply (wp_start (ct I) (.A t s) w n rfl rfl (aDev_eq c t s) hn hw f (funext fun j => by
    have hm : (pieR (k0_off62 c (w32 t.val) (w32 (32 * s.val))) (k0_off62_inb c t s)).emb j ∈ ((aPie c t s).view.set : Finset S1024x1024.Idx) := by
      rw [set_obS, ← Rect.map_emb_univ]; exact Finset.mem_map_of_mem _ (Finset.mem_univ j)
    have h := (key _ (pOf_lt c _)).mp ((hT _).mp hm)
    have hd : obLD c a b ((pieR (k0_off62 c (w32 t.val) (w32 (32 * s.val))) (k0_off62_inb c t s)).emb j) := ⟨h.1, by omega, by omega⟩
    exact hf _ hd)) $$ [Hrun Hl Hob Hb HB Hd Hk]
  isplitr; · iexact HR
  isplitl [Hrun]; · iexact Hrun
  isplitl [Hb]; · iexact Hb
  isplitl [Hd]; · iexact Hd
  iintro Hrun
  iapply Hk $$ [Hrun] [Hl Hob] HB
  · iexact Hrun
  · isplitl [Hob] <;> iassumption

/-- Waiting for a copy to the next device: its source comes back, and the piece the previous device sent. -/
theorem wp_waitA {k : PG F} {Q : PUnit → sProp 𝕄} (t : Fin 8) (s : Fin 2) (w n a b aB q : ℕ) (hw : w = (Cp.A t s).seq) (hn : w < n)
    (ha : a = 2 * t.val + s.val) (hab : a < b) (hle : b ≤ a + 2) (hq : q = (2 * (16 - t.val) + s.val) % 32) :
    iprop(records (ct I) K ∗ levAts L lv ∗ Run (F := F) c w n ∗ OBL I c a b aB
        ∗ (Run (F := F) c (w + 1) n -∗ OBL I c (a + 1) b aB -∗ PieS I fullShare.right c q -∗ WP c k Q))
      ⊢ WP c (waitA c t s k) Q := by
  have ht := t.isLt
  have hs := s.isLt
  have hT : ∀ i : S1024x1024.Idx, i ∈ ((aPie c t s).view.set : Finset S1024x1024.Idx) ↔ pOf c i = (2 * (17 - t.val) + s.val) % 32 := fun i => by
    rw [set_obS]
    exact mem_pieR (o62 c t s) i
  have hT' : ∀ i : S1024x1024.Idx, i ∈ ((aPie (ld c) t s).view.set : Finset S1024x1024.Idx) ↔ pOf c i = q := fun i => by
    rw [set_obS, hq]
    refine mem_pieR (c := c) (e := 16 - t.val) ((o62 (ld c) t s).trans ?_) i
    rw [show 17 - t.val = 16 - t.val + 1 by omega, ch_ld]
  have key : ∀ x, x < 32 → (x = (2 * (17 - t.val) + s.val) % 32 ↔ (srcA x ∧ ordA x = a)) := fun x hx => by unfold srcA ordA; omega
  have key' : ∀ x, x < 32 → (x = q ↔ (srcA x ∧ ordA x = a + 2)) := fun x hx => by subst hq; unfold srcA ordA; omega
  have hr : (recvPay (ct I) c (.A t s) : sProp 𝕄) = iprop(∃ g : Buf (Elt F) ((c : Thread nD τ).loc cc0_scratch5),
      ⌜ct I (ld c) (.A t s) ((aPie (ld c) t s).view.read (Elt F) g)⌝ ∗ ((c : Thread nD τ).loc cc0_scratch5 ↦[(aPie (ld c) t s).view.set]{fullShare} g)) := rfl
  unfold waitA
  iintro ⟨#HR, #HL, Hrun, HB, Hk⟩
  iapply (wp_waits (ct I) (.A t s) w n (Cp.src_amt c (.A t s)) (Cp.dst_amt c (.A t s)) hw hn) $$ [Hrun HB Hk]
  isplitr; · iexact HR
  isplitr; · iexact HL
  isplitl [Hrun]; · iexact Hrun
  iintro Hrun Hs Hr
  unfold sendPay
  ihave Hr := Entails.of_eq hr $$ Hr
  icases Hs with ⟨%f, Hs⟩
  icases Hr with ⟨%g, %hg, Hr⟩
  ihave HB := (PT_put (q := fullShare.left) (b := cc0_scratch5) (T := ((aPie c t s).view.set : Finset S1024x1024.Idx))
    (P' := fun i => obLP c a b aB i ∨ (srcA (pOf c i) ∧ ordA (pOf c i) = a)) (D' := obLD c a b) (V := obAll I) (g := f)
    (fun i => by rw [hT, key _ (pOf_lt c i)])
    (fun i hi => by
      have h := (key _ (pOf_lt c i)).mp ((hT i).mp hi)
      have h1 := h.1
      unfold srcA at h1
      unfold obLP; omega)
    (fun i hi hd => by
      have h := (key _ (pOf_lt c i)).mp ((hT i).mp hi)
      have := hd.2.2
      omega)
    (fun i hd _ => hd)) $$ [Hs HB]
  · isplitl [Hs]; · iexact Hs
    iexact HB
  ihave Hr := (PT_of (c := c) (f := g) (q := fullShare) (b := cc0_scratch5) (T := ((aPie (ld c) t s).view.set : Finset S1024x1024.Idx)) (P := fun i => pOf c i = q)
    (D := fun i => pOf c i = q) (V := obAll I)
    (fun i => (hT' i).symm)
    (fun i hi => by
      have hm := (hT' i).mpr hi
      rw [set_obS, ← Rect.map_emb_univ] at hm
      obtain ⟨j, -, rfl⟩ := Finset.mem_map.mp hm
      exact congrFun hg j)) $$ Hr
  ihave Hr := (PT_split (b := cc0_scratch5)) $$ Hr
  icases Hr with ⟨Hr, Hr'⟩
  ihave HB := (PTs_put (b := cc0_scratch5) (P := fun i => obLP c a b aB i ∨ (srcA (pOf c i) ∧ ordA (pOf c i) = a)) (P₁ := fun i => pOf c i = q) (D := obLD c a b) (D₁ := fun i => pOf c i = q) (P' := obLP c (a + 1) b aB) (D' := obLD c (a + 1) b) (V := obAll I)
    (fun i => by
      show _ ↔ _ ∨ pOf c i = q
      rw [key' _ (pOf_lt c i)]
      unfold obLP
      by_cases h : srcA (pOf c i)
      · have h2 : ¬ (4 ≤ pOf c i ∧ pOf c i < 18) := by unfold srcA at h; omega
        generalize ordA (pOf c i) = j
        simp only [h, true_and]
        omega
      · simp only [h, false_and, false_or, or_false])
    (fun i hi => by
      have h := (key' _ (pOf_lt c i)).mp hi
      have h1 := h.1
      unfold srcA at h1
      unfold obLP; omega)
    (fun i hi _ => hi)
    (fun i hd hi => ⟨hd.1, by
      have h1 := hd.2.1
      have h2 : ¬ (srcA (pOf c i) ∧ ordA (pOf c i) = a + 2) := fun h => hi ((key' _ (pOf_lt c i)).mpr h)
      have h3 := hd.1
      have h4 : ordA (pOf c i) ≠ a + 2 := fun h => h2 ⟨h3, h⟩
      omega, hd.2.2⟩)) $$ [Hr HB]
  · isplitl [Hr]; · iexact Hr
    iexact HB
  iapply Hk $$ Hrun HB Hr'

/-- Starting a copy to the previous device. -/
theorem wp_startB {k : PG F} {Q : PUnit → sProp 𝕄} (t : Fin 7) (s : Fin 2) (w n a b aA nr : ℕ) (hn : n = (Cp.B t s).seq) (hw : w ≤ n)
    (hb : b = 2 * t.val + s.val) (hab : b < a + 2) (hle : a ≤ b) :
    iprop(records (ct I) K ∗ Run (F := F) c w n ∗ landL (F := F) c nr b ∗ OBR I c aA a b
        ∗ (Run (F := F) c w (n + 1) -∗ landL (F := F) c nr (b + 1) -∗ OBR I c aA a (b + 1) -∗ WP c k Q))
      ⊢ WP c (startB c t s k) Q := by
  have ht := t.isLt
  have hs := s.isLt
  have hT : ∀ i : S1024x1024.Idx, i ∈ ((bPie c t s).view.set : Finset S1024x1024.Idx) ↔ pOf c i = (2 * (1 + t.val) + s.val) % 32 := fun i => by
    rw [set_obS]
    exact mem_pieR (o63 c t s) i
  have hT' : ∀ i : S1024x1024.Idx, i ∈ ((bPie c t s).view.set : Finset S1024x1024.Idx) ↔ rel (ld c) (i 0).val / 32 = (2 * (2 + t.val) + s.val) % 32 := fun i => by
    rw [set_obS]
    refine mem_pieR (c := ld c) (e := 2 + t.val) ((o63 c t s).trans ?_) i
    rw [show 2 + t.val = 1 + t.val + 1 by omega, ch_ld]
  have key : ∀ x, x < 32 → (x = (2 * (1 + t.val) + s.val) % 32 ↔ (srcB x ∧ ordB x = b)) := fun x hx => by unfold srcB ordB; omega
  unfold startB
  iintro ⟨#HR, Hrun, Hl, Hb, Hk⟩
  unfold landL
  icases Hl with ⟨Hob, Hl⟩
  ihave Hb := (PT_take (b := cc0_scratch5) (T := ((bPie c t s).view.set : Finset S1024x1024.Idx)) (P' := obRP c aA a (b + 1)) (D' := obRD c a (b + 1))
    (fun i hi => by
      have hx := pOf_lt c i
      have h := (key _ hx).mp ((hT i).mp hi)
      unfold obRP
      left
      exact ⟨h.1, by omega, by omega⟩)
    (fun i => by
      have hx := pOf_lt c i
      rw [hT, key _ hx]
      unfold obRP
      by_cases h : srcB (pOf c i)
      · have h2 : ¬ (pOf c i < 2 ∨ 18 ≤ pOf c i) := by unfold srcB at h; omega
        generalize ordB (pOf c i) = j
        simp only [h, true_and]
        omega
      · simp only [h, false_and, false_or, not_false_eq_true, and_true])
    (fun i hi => ⟨hi.1, hi.2.1, by have := hi.2.2; omega⟩)) $$ Hb
  icases Hb with ⟨⟨%f, %hf, Hb⟩, HB⟩
  ihave Hl := (pool_take (b := cc0_scratch5) (P' := bFrom (ld c) (b + 1)) (T := ((bPie c t s).view.set : Finset S1024x1024.Idx))
    (fun i hi => by
      rw [hT'] at hi
      unfold bFrom isB jB; omega)
    (fun i => by
      have hx := pOf_lt (ld c) i
      unfold pOf at hx
      rw [hT']
      unfold bFrom isB jB; omega)) $$ Hl
  icases Hl with ⟨Hd, Hl⟩
  iapply (wp_start (ct I) (.B t s) w n rfl rfl (bDev_eq c t s) hn hw f (funext fun j => by
    have hm : (pieR (k0_off63 c (w32 t.val) (w32 (32 * s.val))) (k0_off63_inb c t s)).emb j ∈ ((bPie c t s).view.set : Finset S1024x1024.Idx) := by
      rw [set_obS, ← Rect.map_emb_univ]; exact Finset.mem_map_of_mem _ (Finset.mem_univ j)
    have h := (key _ (pOf_lt c _)).mp ((hT _).mp hm)
    have hd : obRD c a b ((pieR (k0_off63 c (w32 t.val) (w32 (32 * s.val))) (k0_off63_inb c t s)).emb j) := ⟨h.1, by omega, by omega⟩
    exact hf _ hd)) $$ [Hrun Hl Hob Hb HB Hd Hk]
  isplitr; · iexact HR
  isplitl [Hrun]; · iexact Hrun
  isplitl [Hb]; · iexact Hb
  isplitl [Hd]; · iexact Hd
  iintro Hrun
  iapply Hk $$ [Hrun] [Hl Hob] HB
  · iexact Hrun
  · isplitl [Hob] <;> iassumption

/-- Waiting for a copy to the previous device: its source comes back, and the piece the next device sent. -/
theorem wp_waitB {k : PG F} {Q : PUnit → sProp 𝕄} (t : Fin 7) (s : Fin 2) (w n a b aA q : ℕ) (hw : w = (Cp.B t s).seq) (hn : w < n)
    (ha : a = 2 * t.val + s.val) (hab : a < b) (hle : b ≤ a + 2) (hq : q = (2 * (2 + t.val) + s.val) % 32) :
    iprop(records (ct I) K ∗ levAts L lv ∗ Run (F := F) c w n ∗ OBR I c aA a b
        ∗ (Run (F := F) c (w + 1) n -∗ OBR I c aA (a + 1) b -∗ PieS I fullShare.left c q -∗ WP c k Q))
      ⊢ WP c (waitB c t s k) Q := by
  have ht := t.isLt
  have hs := s.isLt
  have hT : ∀ i : S1024x1024.Idx, i ∈ ((bPie c t s).view.set : Finset S1024x1024.Idx) ↔ pOf c i = (2 * (1 + t.val) + s.val) % 32 := fun i => by
    rw [set_obS]
    exact mem_pieR (o63 c t s) i
  have hT' : ∀ i : S1024x1024.Idx, i ∈ ((bPie (rd c) t s).view.set : Finset S1024x1024.Idx) ↔ pOf c i = q := fun i => by
    rw [set_obS, hq]
    refine mem_pieR (c := c) (e := 2 + t.val) ((o63 (rd c) t s).trans ?_) i
    rw [ch_rd, show 1 + t.val + 1 = 2 + t.val by omega]
  have key : ∀ x, x < 32 → (x = (2 * (1 + t.val) + s.val) % 32 ↔ (srcB x ∧ ordB x = a)) := fun x hx => by unfold srcB ordB; omega
  have key' : ∀ x, x < 32 → (x = q ↔ (srcB x ∧ ordB x = a + 2)) := fun x hx => by subst hq; unfold srcB ordB; omega
  have hr : (recvPay (ct I) c (.B t s) : sProp 𝕄) = iprop(∃ g : Buf (Elt F) ((c : Thread nD τ).loc cc0_scratch5),
      ⌜ct I (rd c) (.B t s) ((bPie (rd c) t s).view.read (Elt F) g)⌝ ∗ ((c : Thread nD τ).loc cc0_scratch5 ↦[(bPie (rd c) t s).view.set]{fullShare} g)) := rfl
  unfold waitB
  iintro ⟨#HR, #HL, Hrun, HB, Hk⟩
  iapply (wp_waits (ct I) (.B t s) w n (Cp.src_amt c (.B t s)) (Cp.dst_amt c (.B t s)) hw hn) $$ [Hrun HB Hk]
  isplitr; · iexact HR
  isplitr; · iexact HL
  isplitl [Hrun]; · iexact Hrun
  iintro Hrun Hs Hr
  unfold sendPay
  ihave Hr := Entails.of_eq hr $$ Hr
  icases Hs with ⟨%f, Hs⟩
  icases Hr with ⟨%g, %hg, Hr⟩
  ihave HB := (PT_put (q := fullShare.right) (b := cc0_scratch5) (T := ((bPie c t s).view.set : Finset S1024x1024.Idx))
    (P' := fun i => obRP c aA a b i ∨ (srcB (pOf c i) ∧ ordB (pOf c i) = a)) (D' := obRD c a b) (V := obAll I) (g := f)
    (fun i => by rw [hT, key _ (pOf_lt c i)])
    (fun i hi => by
      have h := (key _ (pOf_lt c i)).mp ((hT i).mp hi)
      have h1 := h.1
      unfold srcB at h1
      unfold obRP; omega)
    (fun i hi hd => by
      have h := (key _ (pOf_lt c i)).mp ((hT i).mp hi)
      have := hd.2.2
      omega)
    (fun i hd _ => hd)) $$ [Hs HB]
  · isplitl [Hs]; · iexact Hs
    iexact HB
  ihave Hr := (PT_of (c := c) (f := g) (q := fullShare) (b := cc0_scratch5) (T := ((bPie (rd c) t s).view.set : Finset S1024x1024.Idx)) (P := fun i => pOf c i = q)
    (D := fun i => pOf c i = q) (V := obAll I)
    (fun i => (hT' i).symm)
    (fun i hi => by
      have hm := (hT' i).mpr hi
      rw [set_obS, ← Rect.map_emb_univ] at hm
      obtain ⟨j, -, rfl⟩ := Finset.mem_map.mp hm
      exact congrFun hg j)) $$ Hr
  ihave Hr := (PT_split (b := cc0_scratch5)) $$ Hr
  icases Hr with ⟨Hr', Hr⟩
  ihave HB := (PTs_put (b := cc0_scratch5) (P := fun i => obRP c aA a b i ∨ (srcB (pOf c i) ∧ ordB (pOf c i) = a)) (P₁ := fun i => pOf c i = q) (D := obRD c a b) (D₁ := fun i => pOf c i = q) (P' := obRP c aA (a + 1) b) (D' := obRD c (a + 1) b) (V := obAll I)
    (fun i => by
      show _ ↔ _ ∨ pOf c i = q
      rw [key' _ (pOf_lt c i)]
      unfold obRP
      by_cases h : srcB (pOf c i)
      · have h2 : ¬ (pOf c i < 2 ∨ 18 ≤ pOf c i) := by unfold srcB at h; omega
        generalize ordB (pOf c i) = j
        simp only [h, true_and]
        omega
      · simp only [h, false_and, false_or, or_false])
    (fun i hi => by
      have h := (key' _ (pOf_lt c i)).mp hi
      have h1 := h.1
      unfold srcB at h1
      unfold obRP; omega)
    (fun i hi _ => hi)
    (fun i hd hi => ⟨hd.1, by
      have h1 := hd.2.1
      have h2 : ¬ (srcB (pOf c i) ∧ ordB (pOf c i) = a + 2) := fun h => hi ((key' _ (pOf_lt c i)).mpr h)
      have h3 := hd.1
      have h4 : ordB (pOf c i) ≠ a + 2 := fun h => h2 ⟨h3, h⟩
      omega, hd.2.2⟩)) $$ [Hr HB]
  · isplitl [Hr]; · iexact Hr
    iexact HB
  iapply Hk $$ Hrun HB Hr'

/-- A received piece widened into the result. -/
theorem wp_copy {k : PG F} {Q : PUnit → sProp 𝕄} {q' : PosShare TreeShare} {o : Fin 2 → Nat} {h : ∀ a, o a + S32x1024.size a ≤ S1024x1024.size a} {e : ℕ} {s : Fin 2} {q : ℕ}
    (ho : o = ![64 * ch c e + 32 * s.val, 0]) (hq : q = (2 * e + s.val) % 32) (hne : q ≠ 2 ∧ q ≠ 3) {D D' : S1024x1024.Idx → Prop}
    (hD : ∀ i, D' i → D i ∨ pOf c i = q) :
    iprop(PieS I q' c q ∗ PT c cc0_stg5_0 (fun _ => True) D (outV I c)
        ∗ (PieS I q' c q -∗ PT c cc0_stg5_0 (fun _ => True) D' (outV I c) -∗ WP c k Q))
      ⊢ WP c (copyP o h k) Q := by
  have hmem : ∀ i, i ∈ (pieR o h).set ↔ pOf c i = q := fun i => by rw [hq]; exact mem_pieR ho i
  have hin : ∀ j, pOf c ((pieR o h).emb j) = q := fun j => (hmem _).mp (by rw [← Rect.map_emb_univ]; exact Finset.mem_map_of_mem _ (Finset.mem_univ j))
  unfold copyP
  iintro ⟨HB, HO, Hk⟩
  iapply (PT_load (cs := .vmem) (bi := 11) (bκ := rfl) (P := fun i => pOf c i = q) (fun i hi => (hmem i).mp hi)) $$ HB
  iintro %x %hx HB
  iapply (PT_load (cs := .vmem) (bi := 5) (bκ := rfl) (fun _ _ => trivial)) $$ HO
  iintro %z - HO
  iapply (PT_store (cs := .vmem) (bi := 5) (bκ := rfl) (V' := outV I c) (D' := D')
    (fun _ _ => trivial)
    (fun j _ => by
      have hp := hin j
      have h0 : (((pieR o h).emb j) 0).val < 1024 := (((pieR o h).emb j) 0).isLt
      have hn : ¬ (((pieR o h).emb j) 0).val / 64 = ch c 1 := fun hc => by
        have h1 := (rel_own c _ h0).mp hc
        unfold pOf at hp
        omega
      unfold outV
      rw [if_neg hn]
      show FloatOps.extf _ _ (x j) = FloatOps.extf _ _ (obAll I ((pieR o h).emb j))
      rw [hx j hp])
    (fun i hi hd => ⟨(hD i hd).resolve_right (fun h => hi ((hmem i).mpr h)), rfl⟩)) $$ HO
  iintro HO
  iapply Hk $$ HB HO

end Cert.KernelIdeal.Ring
end
-- ==== Proof.GSteps.lean ====
module

public import proofs.«01_k».proof.Proof.Gather

/-! The gathering streams, step by step. -/

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Facts₀ Facts
open Cert.KernelIdeal.Gen (facts facts₀)

variable {F : FTy → Type} [FloatOps F]

local notation "𝕄" => MT nD τ sig Unit (Elt F) ℕ UU ℕ

variable (I : Dev nD → Inp F) {K : Dev nD × KI → ℕ} {c : Dev nD}

/-- The rows of the result written so far. -/
def outD (c : Dev nD) (a aB : ℕ) (i : S1024x1024.Idx) : Prop :=
  (srcA (pOf c i) ∧ ordA (pOf c i) < a + 2) ∨ (srcB (pOf c i) ∧ ordB (pOf c i) < aB + 2)

/-- The gathering's state: `w` counts awaited, `n` copies started, of those to the next device `a` awaited and
`b` started, of those to the previous `aB` and `bB`. -/
def GatS (c : Dev nD) (w n a b aB bB : ℕ) : sProp 𝕄 :=
  iprop(Run (F := F) c w n ∗ OBL I c a b aB ∗ OBR I c a aB bB ∗ PT c cc0_stg5_0 (fun _ => True) (outD c a aB) (outV I c)
    ∗ landL (F := F) c 32 bB ∗ landR (F := F) c 28 b)

theorem wp_beginA {k : PG F} {Q : PUnit → sProp 𝕄} (s : Fin 2) (w n a b aB bB : ℕ)
    (hn : n = (Cp.A 0 s).seq) (hw : w ≤ n) (ha : a ≤ b) (hb : b = s.val) :
    iprop(records (ct I) K ∗ GatS I c w n a b aB bB ∗ (GatS I c w (n + 1) a (b + 1) aB bB -∗ WP c k Q)) ⊢ WP c (startA c 0 s k) Q := by
  have hs := s.isLt
  unfold GatS
  iintro ⟨#HRec, ⟨Hrun, HL, HR, HO, Hl, Hr⟩, Hk⟩
  iapply (wp_startA I 0 s w n a b aB 28 hn hw (by rw [hb]; show _ = 2 * 0 + _; omega) (by omega) ha)
  isplitr; · iexact HRec
  isplitl [Hrun]; · iexact Hrun
  isplitl [Hr]; · iexact Hr
  isplitl [HL]; · iexact HL
  iintro Hrun Hr HL
  iapply Hk
  isplitl [Hrun]; · iexact Hrun
  isplitl [HL]; · iexact HL
  isplitl [HR]; · iexact HR
  isplitl [HO]; · iexact HO
  isplitl [Hl]; · iexact Hl
  iexact Hr

theorem wp_beginB {k : PG F} {Q : PUnit → sProp 𝕄} (s : Fin 2) (w n a b aB bB : ℕ)
    (hn : n = (Cp.B 0 s).seq) (hw : w ≤ n) (ha : aB ≤ bB) (hb : bB = s.val) :
    iprop(records (ct I) K ∗ GatS I c w n a b aB bB ∗ (GatS I c w (n + 1) a b aB (bB + 1) -∗ WP c k Q)) ⊢ WP c (startB c 0 s k) Q := by
  have hs := s.isLt
  unfold GatS
  iintro ⟨#HRec, ⟨Hrun, HL, HR, HO, Hl, Hr⟩, Hk⟩
  iapply (wp_startB I 0 s w n aB bB a 32 hn hw (by rw [hb]; show _ = 2 * 0 + _; omega) (by omega) ha)
  isplitr; · iexact HRec
  isplitl [Hrun]; · iexact Hrun
  isplitl [Hl]; · iexact Hl
  isplitl [HR]; · iexact HR
  iintro Hrun Hl HR
  iapply Hk
  isplitl [Hrun]; · iexact Hrun
  isplitl [HL]; · iexact HL
  isplitl [HR]; · iexact HR
  isplitl [HO]; · iexact HO
  isplitl [Hl]; · iexact Hl
  iexact Hr

theorem keyA {x : ℕ} (hx : x < 32) (t : ℕ) (ht : t < 8) (s : Fin 2) :
    x = (2 * (16 - t) + s.val) % 32 ↔ srcA x ∧ ordA x = 2 * t + s.val + 2 := by
  have := s.isLt
  unfold srcA ordA; omega
theorem keyB {x : ℕ} (hx : x < 32) (t : ℕ) (ht : t < 7) (s : Fin 2) :
    x = (2 * (2 + t) + s.val) % 32 ↔ srcB x ∧ ordB x = 2 * t + s.val + 2 := by
  have := s.isLt
  unfold srcB ordB; omega

/-- What came from the previous device, widened into the result and its right half put with the others. -/
theorem wp_tailA {k : PG F} {Q : PUnit → sProp 𝕄} (t : Fin 8) (s : Fin 2) (a aB bB q : ℕ)
    (ha : a = 2 * t.val + s.val) (hq : q = (2 * (16 - t.val) + s.val) % 32) :
    iprop(PieS I fullShare.right c q ∗ OBR I c a aB bB ∗ PT c cc0_stg5_0 (fun _ => True) (outD c a aB) (outV I c)
        ∗ (OBR I c (a + 1) aB bB -∗ PT c cc0_stg5_0 (fun _ => True) (outD c (a + 1) aB) (outV I c) -∗ WP c k Q))
      ⊢ WP c (copyA c t s k) Q := by
  have ht := t.isLt
  have hs := s.isLt
  have key : ∀ x, x < 32 → (x = q ↔ srcA x ∧ ordA x = a + 2) := fun x hx => by rw [hq, ha]; exact keyA hx t.val ht s
  unfold copyA
  iintro ⟨Hp, HR, HO, Hk⟩
  iapply (wp_copy I (D := outD c a aB) (D' := outD c (a + 1) aB) (o64 c t s) hq (by omega) (fun i hi => by
    rw [key _ (pOf_lt c i)]
    unfold outD at hi ⊢
    by_cases h : srcA (pOf c i)
    · generalize ordA (pOf c i) = j at *
      simp only [h, _root_.true_and] at hi ⊢
      rcases hi with hi | hi
      · rcases Nat.lt_or_ge j (a + 2) with h5 | h5
        · exact .inl (.inl h5)
        · exact .inr (by omega)
      · exact .inl (.inr hi)
    · simp only [h, _root_.false_and, _root_.false_or, _root_.or_false] at hi ⊢
      exact hi))
  isplitl [Hp]; · iexact Hp
  isplitl [HO]; · iexact HO
  iintro Hp HO
  ihave HR := (PTs_put (b := cc0_scratch5) (P := obRP c a aB bB) (P₁ := fun i => pOf c i = q) (D := obRD c aB bB) (D₁ := fun i => pOf c i = q)
    (P' := obRP c (a + 1) aB bB) (D' := obRD c aB bB) (V := obAll I)
    (fun i => by
      show _ ↔ _ ∨ pOf c i = q
      have hx := pOf_lt c i
      rw [key _ hx]
      have h5 : 2 ≤ pOf c i → pOf c i < 4 → ordA (pOf c i) < 2 := by unfold ordA; omega
      unfold obRP srcA srcB
      generalize ordA (pOf c i) = j at *
      omega)
    (fun i hi => by
      have h := (key _ (pOf_lt c i)).mp hi
      have h2 : pOf c i = q := hi
      have h3 := h.2
      have h1 := h.1
      unfold srcA at h1
      unfold obRP srcB
      omega)
    (fun i hi _ => hi)
    (fun i hd _ => hd)) $$ [Hp HR]
  · isplitl [Hp]; · iexact Hp
    iexact HR
  iapply Hk $$ HR HO

/-- What came from the next device, widened into the result and its left half put with the others. -/
theorem wp_tailB {k : PG F} {Q : PUnit → sProp 𝕄} (t : Fin 7) (s : Fin 2) (aB a b q : ℕ)
    (ha : aB = 2 * t.val + s.val) (hq : q = (2 * (2 + t.val) + s.val) % 32) :
    iprop(PieS I fullShare.left c q ∗ OBL I c a b aB ∗ PT c cc0_stg5_0 (fun _ => True) (outD c a aB) (outV I c)
        ∗ (OBL I c a b (aB + 1) -∗ PT c cc0_stg5_0 (fun _ => True) (outD c a (aB + 1)) (outV I c) -∗ WP c k Q))
      ⊢ WP c (copyB c t s k) Q := by
  have ht := t.isLt
  have hs := s.isLt
  have key : ∀ x, x < 32 → (x = q ↔ srcB x ∧ ordB x = aB + 2) := fun x hx => by rw [hq, ha]; exact keyB hx t.val ht s
  unfold copyB
  iintro ⟨Hp, HR, HO, Hk⟩
  iapply (wp_copy I (D := outD c a aB) (D' := outD c a (aB + 1)) (o65 c t s) hq (by omega) (fun i hi => by
    rw [key _ (pOf_lt c i)]
    unfold outD at hi ⊢
    by_cases h : srcB (pOf c i)
    · generalize ordB (pOf c i) = j at *
      simp only [h, _root_.true_and] at hi ⊢
      rcases hi with hi | hi
      · exact .inl (.inl hi)
      · rcases Nat.lt_or_ge j (aB + 2) with h5 | h5
        · exact .inl (.inr h5)
        · exact .inr (by omega)
    · simp only [h, _root_.false_and, _root_.or_false] at hi ⊢
      exact hi))
  isplitl [Hp]; · iexact Hp
  isplitl [HO]; · iexact HO
  iintro Hp HO
  ihave HR := (PTs_put (b := cc0_scratch5) (P := obLP c a b aB) (P₁ := fun i => pOf c i = q) (D := obLD c a b) (D₁ := fun i => pOf c i = q)
    (P' := obLP c a b (aB + 1)) (D' := obLD c a b) (V := obAll I)
    (fun i => by
      show _ ↔ _ ∨ pOf c i = q
      have hx := pOf_lt c i
      rw [key _ hx]
      have h5 : 2 ≤ pOf c i → pOf c i < 4 → ordB (pOf c i) < 2 := by unfold ordB; omega
      unfold obLP srcB srcA
      generalize ordB (pOf c i) = j at *
      omega)
    (fun i hi => by
      have h := (key _ (pOf_lt c i)).mp hi
      have h2 : pOf c i = q := hi
      have h3 := h.2
      have h1 := h.1
      unfold srcB at h1
      unfold obLP srcA
      omega)
    (fun i hi _ => hi)
    (fun i hd _ => hd)) $$ [Hp HR]
  · isplitl [Hp]; · iexact Hp
    iexact HR
  iapply Hk $$ HR HO

theorem wp_fwdA {k : PG F} {Q : PUnit → sProp 𝕄} (t : Fin 7) (s : Fin 2) (w n a b aB bB : ℕ)
    (hw : w = (Cp.A t.castSucc s).seq) (hn : n = (Cp.A t.succ s).seq) (hwn : w < n) (ha : a = 2 * t.val + s.val) (hb : b = a + 2) :
    iprop(records (ct I) K ∗ levAts L lv ∗ GatS I c w n a b aB bB ∗ (GatS I c (w + 1) (n + 1) (a + 1) (b + 1) aB bB -∗ WP c k Q)) ⊢ WP c (fwdA c t s k) Q := by
  have hs := s.isLt
  have ht := t.isLt
  have hcs : t.castSucc.val = t.val := rfl
  have hsu : t.succ.val = t.val + 1 := rfl
  unfold GatS fwdA
  iintro ⟨#HRec, #HLv, ⟨Hrun, HL, HR, HO, Hl, Hr⟩, Hk⟩
  iapply (wp_waitA I t.castSucc s w n a b aB ((2 * (16 - t.val) + s.val) % 32) hw hwn ha (by omega) (by omega) rfl)
  isplitr; · iexact HRec
  isplitr; · iexact HLv
  isplitl [Hrun]; · iexact Hrun
  isplitl [HL]; · iexact HL
  iintro Hrun HL Hp
  iapply (wp_startA I t.succ s (w + 1) n (a + 1) b aB 28 hn hwn (by omega) (by omega) (by omega))
  isplitr; · iexact HRec
  isplitl [Hrun]; · iexact Hrun
  isplitl [Hr]; · iexact Hr
  isplitl [HL]; · iexact HL
  iintro Hrun Hr HL
  iapply (wp_tailA I t.castSucc s a aB bB ((2 * (16 - t.val) + s.val) % 32) ha rfl)
  isplitl [Hp]; · iexact Hp
  isplitl [HR]; · iexact HR
  isplitl [HO]; · iexact HO
  iintro HR HO
  iapply Hk
  isplitl [Hrun]; · iexact Hrun
  isplitl [HL]; · iexact HL
  isplitl [HR]; · iexact HR
  isplitl [HO]; · iexact HO
  isplitl [Hl]; · iexact Hl
  iexact Hr

theorem wp_fwdB {k : PG F} {Q : PUnit → sProp 𝕄} (t : Fin 6) (s : Fin 2) (w n a b aB bB : ℕ)
    (hw : w = (Cp.B t.castSucc s).seq) (hn : n = (Cp.B t.succ s).seq) (hwn : w < n) (ha : aB = 2 * t.val + s.val) (hb : bB = aB + 2) :
    iprop(records (ct I) K ∗ levAts L lv ∗ GatS I c w n a b aB bB ∗ (GatS I c (w + 1) (n + 1) a b (aB + 1) (bB + 1) -∗ WP c k Q)) ⊢ WP c (fwdB c t s k) Q := by
  have hs := s.isLt
  have ht := t.isLt
  have hcs : t.castSucc.val = t.val := rfl
  have hsu : t.succ.val = t.val + 1 := rfl
  unfold GatS fwdB
  iintro ⟨#HRec, #HLv, ⟨Hrun, HL, HR, HO, Hl, Hr⟩, Hk⟩
  iapply (wp_waitB I t.castSucc s w n aB bB a ((2 * (2 + t.val) + s.val) % 32) hw hwn ha (by omega) (by omega) rfl)
  isplitr; · iexact HRec
  isplitr; · iexact HLv
  isplitl [Hrun]; · iexact Hrun
  isplitl [HR]; · iexact HR
  iintro Hrun HR Hp
  iapply (wp_startB I t.succ s (w + 1) n (aB + 1) bB a 32 hn hwn (by omega) (by omega) (by omega))
  isplitr; · iexact HRec
  isplitl [Hrun]; · iexact Hrun
  isplitl [Hl]; · iexact Hl
  isplitl [HR]; · iexact HR
  iintro Hrun Hl HR
  iapply (wp_tailB I t.castSucc s aB a b ((2 * (2 + t.val) + s.val) % 32) ha rfl)
  isplitl [Hp]; · iexact Hp
  isplitl [HL]; · iexact HL
  isplitl [HO]; · iexact HO
  iintro HL HO
  iapply Hk
  isplitl [Hrun]; · iexact Hrun
  isplitl [HL]; · iexact HL
  isplitl [HR]; · iexact HR
  isplitl [HO]; · iexact HO
  isplitl [Hl]; · iexact Hl
  iexact Hr

theorem wp_lastA {k : PG F} {Q : PUnit → sProp 𝕄} (s : Fin 2) (w n a b aB bB : ℕ)
    (hw : w = (Cp.A 7 s).seq) (hwn : w < n) (ha : a = 14 + s.val) (hb : b = 16) :
    iprop(records (ct I) K ∗ levAts L lv ∗ GatS I c w n a b aB bB ∗ (GatS I c (w + 1) (n) (a + 1) (b) aB bB -∗ WP c k Q)) ⊢ WP c (lastA c s k) Q := by
  have hs := s.isLt
  unfold GatS lastA
  iintro ⟨#HRec, #HLv, ⟨Hrun, HL, HR, HO, Hl, Hr⟩, Hk⟩
  iapply (wp_waitA I 7 s w n a b aB ((2 * (16 - 7) + s.val) % 32) hw hwn ha (by omega) (by omega) rfl)
  isplitr; · iexact HRec
  isplitr; · iexact HLv
  isplitl [Hrun]; · iexact Hrun
  isplitl [HL]; · iexact HL
  iintro Hrun HL Hp
  iapply (wp_tailA I 7 s a aB bB ((2 * (16 - 7) + s.val) % 32) ha rfl)
  isplitl [Hp]; · iexact Hp
  isplitl [HR]; · iexact HR
  isplitl [HO]; · iexact HO
  iintro HR HO
  iapply Hk
  isplitl [Hrun]; · iexact Hrun
  isplitl [HL]; · iexact HL
  isplitl [HR]; · iexact HR
  isplitl [HO]; · iexact HO
  isplitl [Hl]; · iexact Hl
  iexact Hr

theorem wp_lastB {k : PG F} {Q : PUnit → sProp 𝕄} (s : Fin 2) (w n a b aB bB : ℕ)
    (hw : w = (Cp.B 6 s).seq) (hwn : w < n) (ha : aB = 12 + s.val) (hb : bB = 14) :
    iprop(records (ct I) K ∗ levAts L lv ∗ GatS I c w n a b aB bB ∗ (GatS I c (w + 1) (n) a b (aB + 1) (bB) -∗ WP c k Q)) ⊢ WP c (lastB c s k) Q := by
  have hs := s.isLt
  unfold GatS lastB
  iintro ⟨#HRec, #HLv, ⟨Hrun, HL, HR, HO, Hl, Hr⟩, Hk⟩
  iapply (wp_waitB I 6 s w n aB bB a ((2 * (2 + 6) + s.val) % 32) hw hwn ha (by omega) (by omega) rfl)
  isplitr; · iexact HRec
  isplitr; · iexact HLv
  isplitl [Hrun]; · iexact Hrun
  isplitl [HR]; · iexact HR
  iintro Hrun HR Hp
  iapply (wp_tailB I 6 s aB a b ((2 * (2 + 6) + s.val) % 32) ha rfl)
  isplitl [Hp]; · iexact Hp
  isplitl [HL]; · iexact HL
  isplitl [HO]; · iexact HO
  iintro HL HO
  iapply Hk
  isplitl [Hrun]; · iexact Hrun
  isplitl [HL]; · iexact HL
  isplitl [HR]; · iexact HR
  isplitl [HO]; · iexact HO
  isplitl [Hl]; · iexact Hl
  iexact Hr

theorem seqA (t : Fin 8) (s : Fin 2) (h : t.val < 7) : (Cp.A t s).seq = 60 + 4 * t.val + 2 * s.val := if_pos h

theorem wp_startsG {k : PG F} {Q : PUnit → sProp 𝕄} :
    iprop(records (ct I) K ∗ GatS I c 60 60 0 0 0 0 ∗ (GatS I c 60 64 0 2 0 2 -∗ WP c k Q)) ⊢ WP c (startsG c k) Q := by
  unfold startsG
  iintro ⟨#HR, H, Hk⟩
  iapply (wp_beginA I 0 60 60 0 0 0 0 rfl (by omega) (by omega) rfl)
  isplitr; · iexact HR
  isplitl [H]; · iexact H
  iintro H
  iapply (wp_beginB I 0 60 61 0 1 0 0 rfl (by omega) (by omega) rfl)
  isplitr; · iexact HR
  isplitl [H]; · iexact H
  iintro H
  iapply (wp_beginA I 1 60 62 0 1 0 1 rfl (by omega) (by omega) rfl)
  isplitr; · iexact HR
  isplitl [H]; · iexact H
  iintro H
  iapply (wp_beginB I 1 60 63 0 2 0 1 rfl (by omega) (by omega) rfl)
  isplitr; · iexact HR
  isplitl [H]; · iexact H
  iexact Hk

theorem wp_gboth {k : PG F} {Q : PUnit → sProp 𝕄} (t : Fin 6) (s : Fin 2) (w n a b : ℕ)
    (hw : w = 60 + 4 * t.val + 2 * s.val) (hn : n = w + 4) (ha : a = 2 * t.val + s.val) (hb : b = a + 2) :
    iprop(records (ct I) K ∗ levAts L lv ∗ GatS I c w n a b a b ∗ (GatS I c (w + 2) (n + 2) (a + 1) (b + 1) (a + 1) (b + 1) -∗ WP c k Q))
      ⊢ WP c (fwdA c t.castSucc s (fwdB c t s k)) Q := by
  have hs := s.isLt
  have ht := t.isLt
  have h1 := seqA t.castSucc.castSucc s (by show t.val < 7; omega)
  have h2 := seqA t.castSucc.succ s (by show t.val + 1 < 7; omega)
  have e1 : t.castSucc.castSucc.val = t.val := rfl
  have e2 : t.castSucc.succ.val = t.val + 1 := rfl
  have h3 : (Cp.B t.castSucc s).seq = 60 + 4 * t.val + 2 * s.val + 1 := rfl
  have h4 : (Cp.B t.succ s).seq = 60 + 4 * (t.val + 1) + 2 * s.val + 1 := rfl
  iintro ⟨#HR, #HLv, H, Hk⟩
  iapply (wp_fwdA I t.castSucc s w n a b a b (by omega) (by omega) (by omega) (by show a = 2 * t.val + s.val; omega) hb)
  isplitr; · iexact HR
  isplitr; · iexact HLv
  isplitl [H]; · iexact H
  iintro H
  iapply (wp_fwdB I t s (w + 1) (n + 1) (a + 1) (b + 1) a b (by omega) (by omega) (by omega) ha hb)
  isplitr; · iexact HR
  isplitr; · iexact HLv
  isplitl [H]; · iexact H
  iexact Hk

theorem wp_gstep {k : PG F} {Q : PUnit → sProp 𝕄} (t : Fin 6) (w a : ℕ) (hw : w = 60 + 4 * t.val) (ha : a = 2 * t.val) :
    iprop(records (ct I) K ∗ levAts L lv ∗ GatS I c w (w + 4) a (a + 2) a (a + 2)
        ∗ (GatS I c (w + 4) (w + 8) (a + 2) (a + 4) (a + 2) (a + 4) -∗ WP c k Q)) ⊢ WP c (gstepP c t k) Q := by
  unfold gstepP
  iintro ⟨#HR, #HLv, H, Hk⟩
  iapply (wp_gboth I t 0 w (w + 4) a (a + 2) (by rw [hw]; rfl) rfl (by rw [ha]; rfl) rfl)
  isplitr; · iexact HR
  isplitr; · iexact HLv
  isplitl [H]; · iexact H
  iintro H
  iapply (wp_gboth I t 1 (w + 2) (w + 6) (a + 1) (a + 3) (by rw [hw]; rfl) rfl (by rw [ha]; rfl) rfl)
  isplitr; · iexact HR
  isplitr; · iexact HLv
  isplitl [H]; · iexact H
  iexact Hk

theorem wp_gpair6 {k : PG F} {Q : PUnit → sProp 𝕄} (s : Fin 2) (w n a b : ℕ)
    (hw : w = 84 + 2 * s.val) (hn : n = 88 + s.val) (ha : a = 12 + s.val) (hb : b = a + 2) :
    iprop(records (ct I) K ∗ levAts L lv ∗ GatS I c w n a b a 14 ∗ (GatS I c (w + 2) (n + 1) (a + 1) (b + 1) (a + 1) 14 -∗ WP c k Q))
      ⊢ WP c (fwdA c 6 s (lastB c s k)) Q := by
  have hs := s.isLt
  have h1 := seqA (6 : Fin 7).castSucc s (by decide)
  have h2 : (Cp.A (6 : Fin 7).succ s).seq = 88 + s.val := rfl
  have e1 : (6 : Fin 7).castSucc.val = 6 := rfl
  have h3 : (Cp.B 6 s).seq = 60 + 4 * 6 + 2 * s.val + 1 := rfl
  iintro ⟨#HR, #HLv, H, Hk⟩
  iapply (wp_fwdA I 6 s w n a b a 14 (by omega) (by omega) (by omega) (by show a = 2 * 6 + s.val; omega) hb)
  isplitr; · iexact HR
  isplitr; · iexact HLv
  isplitl [H]; · iexact H
  iintro H
  iapply (wp_lastB I s (w + 1) (n + 1) (a + 1) (b + 1) a 14 (by omega) (by omega) (by omega) rfl)
  isplitr; · iexact HR
  isplitr; · iexact HLv
  isplitl [H]; · iexact H
  iexact Hk

theorem wp_gstep6 {k : PG F} {Q : PUnit → sProp 𝕄} :
    iprop(records (ct I) K ∗ levAts L lv ∗ GatS I c 84 88 12 14 12 14 ∗ (GatS I c 88 90 14 16 14 14 -∗ WP c k Q)) ⊢ WP c (gstep6P c k) Q := by
  unfold gstep6P
  iintro ⟨#HR, #HLv, H, Hk⟩
  iapply (wp_gpair6 I 0 84 88 12 14 rfl rfl rfl rfl)
  isplitr; · iexact HR
  isplitr; · iexact HLv
  isplitl [H]; · iexact H
  iintro H
  iapply (wp_gpair6 I 1 86 89 13 15 rfl rfl rfl rfl)
  isplitr; · iexact HR
  isplitr; · iexact HLv
  isplitl [H]; · iexact H
  iexact Hk

theorem wp_gstep7 {k : PG F} {Q : PUnit → sProp 𝕄} :
    iprop(records (ct I) K ∗ levAts L lv ∗ GatS I c 88 90 14 16 14 14 ∗ (GatS I c 90 90 16 16 14 14 -∗ WP c k Q)) ⊢ WP c (gstep7P c k) Q := by
  unfold gstep7P
  iintro ⟨#HR, #HLv, H, Hk⟩
  iapply (wp_lastA I 0 88 90 14 16 14 14 rfl (by omega) rfl rfl)
  isplitr; · iexact HR
  isplitr; · iexact HLv
  isplitl [H]; · iexact H
  iintro H
  iapply (wp_lastA I 1 89 90 15 16 14 14 rfl (by omega) rfl rfl)
  isplitr; · iexact HR
  isplitr; · iexact HLv
  isplitl [H]; · iexact H
  iexact Hk

/-- The whole gathering. -/
theorem wp_gather {k : PG F} {Q : PUnit → sProp 𝕄} :
    iprop(records (ct I) K ∗ levAts L lv ∗ GatS I c 60 60 0 0 0 0 ∗ (GatS I c 90 90 16 16 14 14 -∗ WP c k Q))
      ⊢ WP c (startsG c <| gstepP c 0 <| gstepP c 1 <| gstepP c 2 <| gstepP c 3 <| gstepP c 4 <| gstepP c 5 <| gstep6P c <| gstep7P c k) Q := by
  iintro ⟨#HR, #HLv, H, Hk⟩
  iapply (wp_startsG I)
  isplitr; · iexact HR
  isplitl [H]; · iexact H
  iintro H
  iapply (wp_gstep I 0 60 0 rfl rfl)
  isplitr; · iexact HR
  isplitr; · iexact HLv
  isplitl [H]; · iexact H
  iintro H
  iapply (wp_gstep I 1 64 2 rfl rfl)
  isplitr; · iexact HR
  isplitr; · iexact HLv
  isplitl [H]; · iexact H
  iintro H
  iapply (wp_gstep I 2 68 4 rfl rfl)
  isplitr; · iexact HR
  isplitr; · iexact HLv
  isplitl [H]; · iexact H
  iintro H
  iapply (wp_gstep I 3 72 6 rfl rfl)
  isplitr; · iexact HR
  isplitr; · iexact HLv
  isplitl [H]; · iexact H
  iintro H
  iapply (wp_gstep I 4 76 8 rfl rfl)
  isplitr; · iexact HR
  isplitr; · iexact HLv
  isplitl [H]; · iexact H
  iintro H
  iapply (wp_gstep I 5 80 10 rfl rfl)
  isplitr; · iexact HR
  isplitr; · iexact HLv
  isplitl [H]; · iexact H
  iintro H
  iapply (wp_gstep6 I)
  isplitr; · iexact HR
  isplitr; · iexact HLv
  isplitl [H]; · iexact H
  iintro H
  iapply (wp_gstep7 I)
  isplitr; · iexact HR
  isplitr; · iexact HLv
  isplitl [H]; · iexact H
  iexact Hk

end Cert.KernelIdeal.Ring
end
-- ==== Proof.Body.lean ====
module

public import proofs.«01_k».proof.Proof.GSteps

/-! The body after its barrier. -/

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Facts₀ Facts
open Cert.KernelIdeal.Gen (facts facts₀)

variable {F : FTy → Type} [FloatOps F]

local notation "𝕄" => MT nD τ sig Unit (Elt F) ℕ UU ℕ

variable (I : Dev nD → Inp F) {K : Dev nD × KI → ℕ} {c : Dev nD}

/-! ### Which batches a step needs -/

def C1 (c : Dev nD) (r : ℕ) : Prop := r = (rb c 2).val
def C2 (c : Dev nD) (r : ℕ) : Prop := C1 c r ∨ r = (rb c 3).val
def C3 (c : Dev nD) (r : ℕ) : Prop := C2 c r ∨ r = (rb c 1).val
def C4 (_ : ℕ) : Prop := True

/-- The batch of a row, from its block. -/
theorem batch_of (c : Dev nD) (i : S1024x1152.Idx) : (i 0).val / 256 = ((qOf c i / 4 + pos c) % 16) / 4 := by
  have := pos_lt c
  have : (i 0).val < 1024 := (i 0).isLt
  unfold qOf rel
  omega

theorem rb_val (c : Dev nD) (r : ℕ) : (rb c r).val = (pos c / 4 + r) % 4 := rfl

theorem need2 (i : S1024x1152.Idx) (h : ∃ m, m < 4 ∧ (qOf c i = (36 + m) % 64 ∨ qOf c i = 4 * (8 - m / 4) + m % 4)) : C2 c ((i 0).val / 256) := by
  obtain ⟨m, hm, h⟩ := h
  have hp := pos_lt c
  have h1 : qOf c i / 4 = 9 ∨ qOf c i / 4 = 8 := by omega
  unfold C2 C1
  rw [batch_of c i, rb_val, rb_val]
  generalize qOf c i / 4 = x at *
  omega

theorem need3 (i : S1024x1152.Idx) (h : ∃ m, m < 4 ∧ (qOf c i = (36 + (0 + 4 + m)) % 64 ∨ qOf c i = 4 * (8 - (0 + 4 + m) / 4) + (0 + 4 + m) % 4)) :
    C3 c ((i 0).val / 256) := by
  obtain ⟨m, hm, h⟩ := h
  have hp := pos_lt c
  have h1 : qOf c i / 4 = 10 ∨ qOf c i / 4 = 7 := by omega
  unfold C3 C2 C1
  rw [batch_of c i, rb_val, rb_val, rb_val]
  generalize qOf c i / 4 = x at *
  omega

theorem all4 (i : S1024x1152.Idx) (h : ¬ (i 0).val / 256 = (rb c 0).val) : C3 c ((i 0).val / 256) := by
  have hp := pos_lt c
  have h0 : (i 0).val < 1024 := (i 0).isLt
  unfold C3 C2 C1
  rw [rb_val] at h
  rw [rb_val, rb_val, rb_val]
  omega

theorem here0 (i : S1024x1152.Idx) : sbP c 0 0 0 0 i := by unfold sbP; omega
theorem here1 (i : S1024x1152.Idx) (h : (i 0).val / 256 = (rb c 1).val) : sbP c 0 4 0 4 i := by
  have hp := pos_lt c
  have hq := qOf_lt c i
  rw [batch_of c i, rb_val] at h
  have h1 : qOf c i / 4 ≠ 9 ∧ qOf c i / 4 ≠ 8 := by
    generalize qOf c i / 4 = x at *
    omega
  unfold sbP isL jL isR jR
  omega
theorem here2 (i : S1024x1152.Idx) (h : (i 0).val / 256 = (rb c 0).val) : sbP c 4 8 4 8 i := by
  have hp := pos_lt c
  have hq := qOf_lt c i
  rw [batch_of c i, rb_val] at h
  have h1 : qOf c i / 4 ≠ 10 ∧ qOf c i / 4 ≠ 7 := by
    generalize qOf c i / 4 = x at *
    omega
  unfold sbP isL jL isR jR
  omega

/-! ### The batches -/

/-- One more batch, both buffers. -/
theorem wp_batchC {k : PG F} {Q : PUnit → sProp 𝕄} (b : Fin 4) (C C' : ℕ → Prop) (w n x y x' y' : ℕ)
    (hP : ∀ i : S1024x1152.Idx, (i 0).val / 256 = b.val → sbP c x y x' y' i)
    (hC : ∀ i : S1024x1152.Idx, C' ((i 0).val / 256) → C ((i 0).val / 256) ∨ (i 0).val / 256 = b.val) :
    iprop(InP c (I c) ∗ PT c cc0_scratch0 (fun _ => True) (fun i => C ((i 0).val / 256) ∧ used i) (ownS (I c)) ∗ RedS I c C w n x y x' y'
        ∗ (InP c (I c) -∗ PT c cc0_scratch0 (fun _ => True) (fun i => C' ((i 0).val / 256) ∧ used i) (ownS (I c)) -∗ RedS I c C' w n x y x' y' -∗ WP c k Q))
      ⊢ WP c (batchP (bo b) k) Q := by
  unfold RedS
  iintro ⟨HI, HS, ⟨Hrun, Hsb, Hl, Hr, HL, HR⟩, Hk⟩
  iapply (wp_batch (D := fun i => C ((i 0).val / 256) ∧ used i) (P := sbP c x y x' y') (D₂ := sbD c C y y') hP (fun i hi => hi.1.2))
  isplitl [HI]; · iexact HI
  isplitl [HS]; · iexact HS
  isplitl [Hsb]; · iexact Hsb
  iintro HI HS Hsb
  ihave HS := (PT_mono (b := cc0_scratch0) (P' := fun _ => True) (D' := fun i : S1024x1152.Idx => C' ((i 0).val / 256) ∧ used i) (fun _ => Iff.rfl)
    (fun i hi => (hC i hi.1).elim (fun h => .inl ⟨h, hi.2⟩) (fun h => .inr ⟨h, hi.2⟩))) $$ HS
  ihave Hsb := (PT_mono (b := cc0_scratch1) (P' := sbP c x y x' y') (D' := sbD c C' y y') (fun _ => Iff.rfl)
    (fun i hi => (hC i hi.1.1).elim (fun h => .inl ⟨⟨h, hi.1.2⟩, hi.2⟩) (fun h => .inr ⟨h, hi.1.2⟩))) $$ Hsb
  iapply Hk $$ HI HS [Hrun Hsb Hl Hr HL HR]
  isplitl [Hrun]; · iexact Hrun
  isplitl [Hsb]; · iexact Hsb
  isplitl [Hl]; · iexact Hl
  isplitl [Hr]; · iexact Hr
  isplitl [HL]; · iexact HL
  iexact HR

/-- A whole buffer of which nothing is known. -/
abbrev wholeP (c : Dev nD) (b : Ref sig .tc) : sProp 𝕄 := pool (F := F) c b (fun _ => True)

omit [FloatOps F] in
theorem PT_pool {b : Ref sig .tc} {P P' D : b.ty.Idx → Prop} {V : b.ty.Contents (Elt F)} (hP : ∀ i, P i ↔ P' i) :
    (PT c b P D V : sProp 𝕄) ⊢ pool (F := F) c b P' := by
  have : P = P' := funext fun i => propext (hP i)
  subst this
  unfold PT PTs
  iintro ⟨%f, %hf, H⟩
  iexists f
  iexact H
omit [FloatOps F] in
theorem pool_PT {b : Ref sig .tc} {P : b.ty.Idx → Prop} (V : b.ty.Contents (Elt F)) :
    (pool (F := F) c b P : sProp 𝕄) ⊢ PT c b P (fun _ => False) V := by
  unfold PT PTs
  iintro ⟨%f, H⟩
  iexists f
  isplitr; · ipureintro; exact fun i hi => hi.elim
  iexact H
omit [FloatOps F] in
theorem pool_re {b : Ref sig .tc} {P P' : b.ty.Idx → Prop} (hP : ∀ i, P i ↔ P' i) :
    (pool (F := F) c b P : sProp 𝕄) ⊢ pool (F := F) c b P' := by
  have : P = P' := funext fun i => propext (hP i)
  subst this
  iintro H
  iexact H

/-- What the device has once its barrier is past. -/
def Begin (c : Dev nD) : sProp 𝕄 :=
  iprop(Run (F := F) c 0 0 ∗ landL (F := F) c 0 0 ∗ landR (F := F) c 0 0 ∗ InP c (I c) ∗ wholeP (F := F) c cc0_stg5_0 ∗ wholeP (F := F) c cc0_scratch0
    ∗ wholeP (F := F) c cc0_scratch1 ∗ wholeP (F := F) c cc0_scratch4 ∗ pool (F := F) c cc0_scratch5 (ownR c)
    ∗ pool (F := F) c cc0_scratch2 (fun i => slotL i < 0) ∗ pool (F := F) c cc0_scratch3 (fun i => slotRt i < 0))
/-- What it has at the end. -/
def End (c : Dev nD) : sProp 𝕄 :=
  iprop(Run (F := F) c 90 90 ∗ InP c (I c) ∗ PT c cc0_stg5_0 (fun _ => True) (fun _ => True) (outV I c) ∗ wholeP (F := F) c cc0_scratch0
    ∗ wholeP (F := F) c cc0_scratch1 ∗ wholeP (F := F) c cc0_scratch2 ∗ wholeP (F := F) c cc0_scratch3 ∗ wholeP (F := F) c cc0_scratch4 ∗ wholeP (F := F) c cc0_scratch5)

theorem finS_zero : finS I c 0 0 = ownS (I c) := funext fun i => by
  unfold finS
  split
  · rw [if_neg (Nat.not_lt_zero _), if_neg (Nat.not_lt_zero _)]
  · rfl

theorem Begin_red : Begin I c ⊢ iprop(InP c (I c) ∗ PT c cc0_scratch0 (fun _ => True) (fun i => False ∧ used i) (ownS (I c)) ∗ RedS I c (fun _ => False) 0 0 0 0 0 0
    ∗ wholeP (F := F) c cc0_stg5_0 ∗ wholeP (F := F) c cc0_scratch4 ∗ pool (F := F) c cc0_scratch5 (ownR c)) := by
  unfold Begin RedS
  iintro ⟨Hrun, HL, HR, HI, HO, HS, HB, HN, HP, Hl, Hr⟩
  ihave HS := (pool_PT (c := c) (b := cc0_scratch0) (ownS (I c))) $$ HS
  ihave HS := (PT_mono (b := cc0_scratch0) (P' := fun _ => True) (D' := fun i : S1024x1152.Idx => False ∧ used i) (fun _ => Iff.rfl) (fun i hi => hi.1)) $$ HS
  ihave HB := (pool_PT (c := c) (b := cc0_scratch1) (ownB (I c))) $$ HB
  ihave HB := (PT_mono (b := cc0_scratch1) (P' := sbP c 0 0 0 0) (D' := sbD c (fun _ => False) 0 0) (fun i => ⟨fun _ => here0 i, fun _ => trivial⟩) (fun i hi => hi.1.1)) $$ HB
  isplitl [HI]; · iexact HI
  isplitl [HS]; · iexact HS
  isplitl [Hrun HB Hl Hr HL HR]
  · isplitl [Hrun]; · iexact Hrun
    isplitl [HB]; · iexact HB
    isplitl [Hl]; · iexact Hl
    isplitl [Hr]; · iexact Hr
    isplitl [HL]; · iexact HL
    iexact HR
  isplitl [HO]; · iexact HO
  isplitl [HN]; · iexact HN
  iexact HP

/-- The reduction. -/
theorem wp_reduce {k : PG F} {Q : PUnit → sProp 𝕄} :
    iprop(records (ct I) K ∗ levAts L lv ∗ InP c (I c) ∗ PT c cc0_scratch0 (fun _ => True) (fun i => False ∧ used i) (ownS (I c))
        ∗ RedS I c (fun _ => False) 0 0 0 0 0 0
        ∗ (InP c (I c) -∗ PT c cc0_scratch0 (fun _ => True) used (finS I c 4 4) -∗ RedS I c C4 60 60 32 32 28 28 -∗ WP c k Q))
      ⊢ WP c (batchP (boff c 1) <| batchP (boff c 2) <| startsP c <| batchP (boff c 0) <| stepP c 0 <| batchP (boff0 c) <|
        stepP c 1 <| stepP c 2 <| stepP c 3 <| stepP c 4 <| stepP c 5 <| step6P c <| step7P c k) Q := by
  have e0 : boff0 c = bo (rb c 0) := boff0_eq c
  have e1 : boff c 0 = bo (rb c 1) := boff_eq c 0
  have e2 : boff c 1 = bo (rb c 2) := boff_eq c 1
  have e3 : boff c 2 = bo (rb c 3) := boff_eq c 2
  rw [e0, e1, e2, e3]
  iintro ⟨#HR, #HLv, HI, HS, H, Hk⟩
  iapply (wp_batchC I (rb c 2) (fun _ => False) (C1 c) 0 0 0 0 0 0 (fun i _ => here0 i) (fun i h => .inr h))
  isplitl [HI]; · iexact HI
  isplitl [HS]; · iexact HS
  isplitl [H]; · iexact H
  iintro HI HS H
  iapply (wp_batchC I (rb c 3) (C1 c) (C2 c) 0 0 0 0 0 0 (fun i _ => here0 i) (fun i h => h))
  isplitl [HI]; · iexact HI
  isplitl [HS]; · iexact HS
  isplitl [H]; · iexact H
  iintro HI HS H
  iapply (wp_starts I (C2 c) need2)
  isplitr; · iexact HR
  isplitl [H]; · iexact H
  iintro H
  iapply (wp_batchC I (rb c 1) (C2 c) (C3 c) 0 8 0 4 0 4 here1 (fun i h => h))
  isplitl [HI]; · iexact HI
  isplitl [HS]; · iexact HS
  isplitl [H]; · iexact H
  iintro HI HS H
  iapply (wp_step I 0 0 0 (C3 c) rfl rfl need3)
  isplitr; · iexact HR
  isplitr; · iexact HLv
  isplitl [H]; · iexact H
  iintro H
  iapply (wp_batchC I (rb c 0) (C3 c) C4 8 16 4 8 4 8 here2 (fun i _ => (Classical.em _).symm.imp (all4 i) id))
  isplitl [HI]; · iexact HI
  isplitl [HS]; · iexact HS
  isplitl [H]; · iexact H
  iintro HI HS H
  ihave HS := (PT_re (b := cc0_scratch0) (P' := fun _ => True) (D' := used) (V' := finS I c 0 0) (fun _ => Iff.rfl)
    (fun i hi => ⟨⟨trivial, hi⟩, congrFun (finS_zero I).symm i⟩)) $$ HS
  iapply (wp_step I 1 8 4 C4 rfl rfl (fun _ _ => trivial))
  isplitr; · iexact HR
  isplitr; · iexact HLv
  isplitl [H]; · iexact H
  iintro H
  iapply (wp_step I 2 16 8 C4 rfl rfl (fun _ _ => trivial))
  isplitr; · iexact HR
  isplitr; · iexact HLv
  isplitl [H]; · iexact H
  iintro H
  iapply (wp_step I 3 24 12 C4 rfl rfl (fun _ _ => trivial))
  isplitr; · iexact HR
  isplitr; · iexact HLv
  isplitl [H]; · iexact H
  iintro H
  iapply (wp_step I 4 32 16 C4 rfl rfl (fun _ _ => trivial))
  isplitr; · iexact HR
  isplitr; · iexact HLv
  isplitl [H]; · iexact H
  iintro H
  iapply (wp_step I 5 40 20 C4 rfl rfl (fun _ _ => trivial))
  isplitr; · iexact HR
  isplitr; · iexact HLv
  isplitl [H]; · iexact H
  iintro H
  iapply (wp_step6 I C4 (fun _ => trivial))
  isplitr; · iexact HR
  isplitr; · iexact HLv
  isplitl [H]; · iexact H
  isplitl [HS]; · iexact HS
  iintro H HS
  iapply (wp_step7 I C4)
  isplitr; · iexact HR
  isplitr; · iexact HLv
  isplitl [H]; · iexact H
  isplitl [HS]; · iexact HS
  iintro H HS
  iapply Hk $$ HI HS H

/-- The body after its barrier. -/
theorem wp_rest {k : PG F} {Q : PUnit → sProp 𝕄} :
    iprop(records (ct I) K ∗ levAts L lv ∗ Begin I c ∗ (End I c -∗ WP c k Q))
      ⊢ WP c (batchP (boff c 1) <| batchP (boff c 2) <| startsP c <| batchP (boff c 0) <| stepP c 0 <| batchP (boff0 c) <|
        stepP c 1 <| stepP c 2 <| stepP c 3 <| stepP c 4 <| stepP c 5 <| step6P c <| step7P c <|
        chunkP c <| startsG c <| gstepP c 0 <| gstepP c 1 <| gstepP c 2 <| gstepP c 3 <| gstepP c 4 <| gstepP c 5 <|
        gstep6P c <| gstep7P c k) Q := by
  iintro ⟨#HR, #HLv, H, Hk⟩
  ihave H := (Begin_red I) $$ H
  icases H with ⟨HI, HS, H, HO, HN, HP⟩
  iapply (wp_reduce I)
  isplitr; · iexact HR
  isplitr; · iexact HLv
  isplitl [HI]; · iexact HI
  isplitl [HS]; · iexact HS
  isplitl [H]; · iexact H
  iintro HI HS H
  ihave HO := (pool_PT (c := c) (b := cc0_stg5_0) (outV I c)) $$ HO
  ihave HN := (pool_PT (c := c) (b := cc0_scratch4) (nC I c)) $$ HN
  ihave HP := (pool_PT (c := c) (b := cc0_scratch5) (obAll I)) $$ HP
  iapply (wp_chunk I)
  isplitl [HS]; · iexact HS
  isplitl [HN]; · iexact HN
  isplitl [HI]; · iexact HI
  isplitl [HO]; · iexact HO
  isplitl [HP]; · iexact HP
  iintro HS HN HI HO HP
  unfold RedS
  icases H with ⟨Hrun, Hsb, Hl, Hr, HL, HR'⟩
  ihave HP := (PT_split (b := cc0_scratch5)) $$ HP
  icases HP with ⟨HPl, HPr⟩
  have own : ∀ i : S1024x1024.Idx, ownR c i ↔ pOf c i = 2 ∨ pOf c i = 3 := fun i => by unfold ownR pOf; omega
  have lo : ∀ i : S1024x1024.Idx, obLP c 0 0 0 i ↔ ownR c i := fun i => by
    have := pOf_lt c i
    rw [own]; unfold obLP srcA ordA ordB; omega
  have ro : ∀ i : S1024x1024.Idx, obRP c 0 0 0 i ↔ ownR c i := fun i => by
    have := pOf_lt c i
    rw [own]; unfold obRP srcB ordA ordB; omega
  ihave HPl := (PT_mono (b := cc0_scratch5) (P' := obLP c 0 0 0) (D' := obLD c 0 0) (fun i => (lo i).symm)
    (fun i hi => (lo i).mp (.inl ⟨hi.1, hi.2.1, fun h => absurd h.2 (Nat.not_lt_zero _)⟩))) $$ HPl
  ihave HPr := (PT_mono (b := cc0_scratch5) (P' := obRP c 0 0 0) (D' := obRD c 0 0) (fun i => (ro i).symm)
    (fun i hi => (ro i).mp (.inl ⟨hi.1, hi.2.1, fun h => absurd h.2 (Nat.not_lt_zero _)⟩))) $$ HPr
  ihave HO := (PT_mono (b := cc0_stg5_0) (P' := fun _ => True) (D' := outD c 0 0) (fun _ => Iff.rfl)
    (fun i hi => hi.elim
      (fun h => (lo i).mp (.inl ⟨h.1, h.2, fun h => absurd h.2 (Nat.not_lt_zero _)⟩))
      (fun h => (ro i).mp (.inl ⟨h.1, h.2, fun h => absurd h.2 (Nat.not_lt_zero _)⟩)))) $$ HO
  iapply (wp_gather I)
  isplitr; · iexact HR
  isplitr; · iexact HLv
  isplitl [Hrun HPl HPr HO HL HR']
  · unfold GatS
    isplitl [Hrun]; · iexact Hrun
    isplitl [HPl]; · iexact HPl
    isplitl [HPr]; · iexact HPr
    isplitl [HO]; · iexact HO
    isplitl [HL]; · iexact HL
    iexact HR'
  iintro H
  unfold GatS
  icases H with ⟨Hrun, HPl, HPr, HO, HL, HR'⟩
  iapply Hk
  unfold End
  isplitl [Hrun]; · iexact Hrun
  isplitl [HI]; · iexact HI
  isplitl [HO]
  · iapply (PT_mono (b := cc0_stg5_0) (P' := fun _ => True) (D' := fun _ => True) (fun _ => Iff.rfl)
      (fun i _ => by
        have := pOf_lt c i
        show outD c 16 14 i
        unfold outD srcA srcB ordA ordB; omega)) $$ HO
  isplitl [HS]; · iapply (PT_pool (fun _ => Iff.rfl)) $$ HS
  isplitl [Hsb]
  · iapply (PT_pool (b := cc0_scratch1) (fun i => by
      show sbP c 32 32 28 28 i ↔ True
      unfold sbP
      refine ⟨fun _ => trivial, fun _ => ?_⟩
      omega)) $$ Hsb
  isplitl [Hl]
  · iapply (pool_re (b := cc0_scratch2) (fun i => by
      have h0 : (i 0).val < 8 := (i 0).isLt
      have h1 : (i 1).val < 64 := (i 1).isLt
      show slotL i < 32 ↔ True
      refine ⟨fun _ => trivial, fun _ => ?_⟩
      unfold slotL; omega)) $$ Hl
  isplitl [Hr]
  · iapply (pool_re (b := cc0_scratch3) (fun i => by
      have h0 : (i 0).val < 7 := (i 0).isLt
      have h1 : (i 1).val < 64 := (i 1).isLt
      show slotRt i < 28 ↔ True
      refine ⟨fun _ => trivial, fun _ => ?_⟩
      unfold slotRt; omega)) $$ Hr
  isplitl [HN]; · iapply (PT_pool (fun _ => Iff.rfl)) $$ HN
  have la : ∀ i : S1024x1024.Idx, obLP c 16 16 14 i ↔ True := fun i => ⟨fun _ => trivial, fun _ => by
    have := pOf_lt c i
    unfold obLP srcA ordA ordB; omega⟩
  have ra : ∀ i : S1024x1024.Idx, obRP c 16 14 14 i ↔ True := fun i => ⟨fun _ => trivial, fun _ => by
    have := pOf_lt c i
    unfold obRP srcB ordA ordB; omega⟩
  ihave HPl := (PT_mono (b := cc0_scratch5) (P' := fun _ => True) (D' := fun _ => False) la (fun i hi => hi.elim)) $$ HPl
  ihave HPr := (PT_mono (b := cc0_scratch5) (P' := fun _ => True) (D' := fun _ => False) ra (fun i hi => hi.elim)) $$ HPr
  ihave HP := (PT_join (b := cc0_scratch5)) $$ [HPl HPr]
  · isplitl [HPl] <;> iassumption
  iapply (PT_pool (fun _ => Iff.rfl)) $$ HP

end Cert.KernelIdeal.Ring
end
-- ==== Proof.Handshake.lean ====
module

public import proofs.«01_k».proof.Proof.Body

/-! The handshake with both neighbours that opens the kernel: each hands the other the landing places its copies go to. -/

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Facts₀ Facts
open Cert.KernelIdeal.Gen (facts facts₀)

variable {F : FTy → Type} [FloatOps F]

local notation "𝕄" => MT nD τ sig Unit (Elt F) ℕ UU ℕ

variable (I : Dev nD → Inp F) {K : Dev nD × KI → ℕ} {c : Dev nD}

/-! ### Whole buffers -/

omit [FloatOps F] in
theorem pick_all {b : Ref sig .tc} {P : b.ty.Idx → Prop} (h : ∀ i, P i) : pick P = Finset.univ :=
  Finset.eq_univ_of_forall fun i => mem_pick.mpr (h i)

omit [FloatOps F] in
theorem PT_whole {b : Ref sig .tc} {V : b.ty.Contents (Elt F)} :
    (PT c b (fun _ => True) (fun _ => True) V : sProp 𝕄)
      ⊢ iprop(∃ f : Buf (Elt F) ((c : Thread nD τ).loc b), ⌜f = V⌝ ∗ ((c : Thread nD τ).loc b ↦{fullShare} f)) := by
  unfold PT PTs
  rw [pick_all fun _ => trivial]
  iintro ⟨%f, %hf, H⟩
  iexists f
  isplitr; · ipureintro; exact funext fun i => hf i trivial
  iexact H
omit [FloatOps F] in
theorem whole_PT {b : Ref sig .tc} {f : Buf (Elt F) ((c : Thread nD τ).loc b)} :
    ((c : Thread nD τ).loc b ↦{fullShare} f : sProp 𝕄) ⊢ PT c b (fun _ => True) (fun _ => True) f :=
  PT_of (fun i => ⟨fun _ => Finset.mem_univ _, fun _ => trivial⟩) fun _ _ => rfl
omit [FloatOps F] in
theorem wholeP_eq (c : Dev nD) (b : Ref sig .tc) :
    (wholeP (F := F) c b : sProp 𝕄) = iprop(∃ f : Buf (Elt F) ((c : Thread nD τ).loc b), (c : Thread nD τ).loc b ↦{fullShare} f) := by
  unfold wholeP pool
  rw [pick_all fun _ => trivial]
omit [FloatOps F] in
theorem whole_P {b : Ref sig .tc} {f : Buf (Elt F) ((c : Thread nD τ).loc b)} :
    ((c : Thread nD τ).loc b ↦{fullShare} f : sProp 𝕄) ⊢ wholeP (F := F) c b := by
  rw [wholeP_eq]
  iintro H
  iexists f
  iexact H

omit [FloatOps F] in
theorem landR_ld (c : Dev nD) : (landR (F := F) (ld c) 0 0 : sProp 𝕄)
    = iprop(pool (F := F) c cc0_scratch3 (rFrom 0) ∗ pool (F := F) c cc0_scratch5 (aFrom c 0)) := by
  unfold landR; rw [rd_ld]
omit [FloatOps F] in
theorem landL_rd (c : Dev nD) : (landL (F := F) (rd c) 0 0 : sProp 𝕄)
    = iprop(pool (F := F) c cc0_scratch2 (lFrom 0) ∗ pool (F := F) c cc0_scratch5 (bFrom c 0)) := by
  unfold landL; rw [ld_rd]

omit [FloatOps F] in
/-- The landing places of a device, split between its two neighbours. -/
theorem land_split (c : Dev nD) :
    iprop(wholeP (F := F) c cc0_scratch2 ∗ wholeP (F := F) c cc0_scratch3 ∗ wholeP (F := F) c cc0_scratch5)
      ⊢ iprop((landR (F := F) (ld c) 0 0 ∗ landL (F := F) (rd c) 0 0) ∗ pool (F := F) c cc0_scratch5 (ownR c)
        ∗ pool (F := F) c cc0_scratch2 (fun i => slotL i < 0) ∗ (pool (F := F) c cc0_scratch3 (fun i => slotRt i < 0) : sProp 𝕄)) := by
  rw [landR_ld, landL_rd]
  iintro ⟨HL, HR, HO⟩
  ihave HL := (pool_take (b := cc0_scratch2) (T := pick (lFrom 0)) (P' := fun i => slotL i < 0) (fun _ _ => trivial)
    (fun i => by rw [mem_pick]; unfold lFrom; exact ⟨fun h => absurd h (Nat.not_lt_zero _), fun h => absurd (Nat.zero_le _) h.2⟩)) $$ HL
  ihave HR := (pool_take (b := cc0_scratch3) (T := pick (rFrom 0)) (P' := fun i => slotRt i < 0) (fun _ _ => trivial)
    (fun i => by rw [mem_pick]; unfold rFrom; exact ⟨fun h => absurd h (Nat.not_lt_zero _), fun h => absurd (Nat.zero_le _) h.2⟩)) $$ HR
  ihave HO := (pool_take (b := cc0_scratch5) (T := pick (aFrom c 0)) (P' := fun i => ¬ isA (pOf c i)) (fun _ _ => trivial)
    (fun i => by
      rw [mem_pick]
      show ¬ isA (pOf c i) ↔ True ∧ ¬ (isA (pOf c i) ∧ 0 ≤ jA (pOf c i))
      exact ⟨fun h => ⟨trivial, fun h2 => h h2.1⟩, fun h h2 => h.2 ⟨h2, Nat.zero_le _⟩⟩)) $$ HO
  icases HO with ⟨HA, HO⟩
  ihave HO := (pool_take (b := cc0_scratch5) (T := pick (bFrom c 0)) (P' := ownR c)
    (fun i hi => by
      have hi : isB (pOf c i) ∧ 0 ≤ jB (pOf c i) := mem_pick.mp hi
      unfold isB at hi
      unfold isA
      omega)
    (fun i => by
      have hp := pOf_lt c i
      rw [mem_pick]
      show rel c (i 0).val / 64 = 1 ↔ ¬ isA (pOf c i) ∧ ¬ (isB (pOf c i) ∧ 0 ≤ jB (pOf c i))
      have : rel c (i 0).val / 64 = pOf c i / 2 := by unfold pOf; omega
      unfold isA isB
      omega)) $$ HO
  icases HL with ⟨HL1, HL⟩
  icases HR with ⟨HR1, HR⟩
  icases HO with ⟨HB, HO⟩
  isplitl [HL1 HR1 HA HB]
  · isplitl [HR1 HA]
    · isplitl [HR1] <;> iassumption
    · isplitl [HL1] <;> iassumption
  isplitl [HO]; · iexact HO
  isplitl [HL] <;> iassumption

/-! ### The barrier -/

/-- What a device's barrier starts from. -/
def Before (c : Dev nD) : sProp 𝕄 :=
  iprop(atPos ER (barCell c) 0 ∅ 0 ∗ dutyTok ER (barCell (ld c)) 0 true ∗ dutyTok ER (barCell (rd c)) 0 false
    ∗ cred (tallyAt (barCell c) () 2) ∗ (∃ W, owes (c : Thread nD τ) (O₀ c) W) ∗ (bigSep Finset.univ fun i : Cp => rdy (F := F) c i)
    ∗ InP c (I c) ∗ wholeP (F := F) c cc0_stg5_0 ∗ wholeP (F := F) c cc0_scratch0 ∗ wholeP (F := F) c cc0_scratch1
    ∗ wholeP (F := F) c cc0_scratch2 ∗ wholeP (F := F) c cc0_scratch3 ∗ wholeP (F := F) c cc0_scratch4 ∗ wholeP (F := F) c cc0_scratch5)

theorem wp_bar {k : PG F} {Q : PUnit → sProp 𝕄} :
    iprop(records (ct I) K ∗ levAts L lv ∗ Before I c ∗ (semVal (barCell c) 0 -∗ Begin I c -∗ WP c k Q)) ⊢ WP c (barP c k) Q := by
  unfold barP WP
  simp only [semSignalWord, semWaitWord, Prog.lift, Prog.bind_op, Prog.bind_ret, Prog.pure_eq_ret, dev1_eq c, dev2_eq c]
  unfold Before
  iintro ⟨#HR, #HLv, ⟨HatB, HtL, HtR, HcB, ⟨%W, HO⟩, Hrd, HI, H5, S0, S1, S2, S3, S4, S5⟩, Hk⟩
  ihave Hs := (land_split (F := F) c) $$ [S2 S3 S5]
  · isplitl [S2]; · iexact S2
    isplitl [S3] <;> iassumption
  icases Hs with ⟨⟨HpR, HpL⟩, S5, S2, S3⟩
  ihave #HiL := (inv_at (ct I) K (ld c, none)) $$ HR
  ihave #HiR := (inv_at (ct I) K (rd c, none)) $$ HR
  ihave #HiC := (inv_at (ct I) K (c, none)) $$ HR
  ihave #HrL := (reached_at (ct I) K (ld c, none)) $$ HR
  ihave #HrR := (reached_at (ct I) K (rd c, none)) $$ HR
  iapply (Rounds.wp_signal 𝒱₀ ER (sched (ct I)) (c : Thread nD τ) none (dst := (ld c : Thread nD τ)) (κ := K (ld c, none))
      (d := true) (by rw [duties_bar]; exact Finset.mem_univ _) ((amount_bar (ct I) (ld c) true).trans (by decide)) () (O₁ c) rfl)
    $$ [HO HtL HpR]
  · isplitr; · iexact HiL
    isplitl [HO]; · iexact HO
    isplitl [HtL]; · iexact HtL
    isplitl [HpR]
    · rw [payload_bar]; unfold barPay; rw [if_pos rfl]; iexact HpR
    iexact HrL
  iintro HO
  unfold O₁
  iapply (Rounds.wp_signal 𝒱₀ ER (sched (ct I)) (c : Thread nD τ) none (dst := (rd c : Thread nD τ)) (κ := K (rd c, none))
      (d := false) (by rw [duties_bar]; exact Finset.mem_univ _) ((amount_bar (ct I) (rd c) false).trans (by decide)) () (owed c 0) rfl)
    $$ [HO HtR HpL]
  · isplitr; · iexact HiR
    isplitl [HO]; · iexact HO
    isplitl [HtR]; · iexact HtR
    isplitl [HpL]
    · rw [payload_bar]; unfold barPay; rw [if_neg (by decide)]; iexact HpL
    iexact HrR
  iintro HO
  iapply (Rounds.wp_wait_rest_token 𝒱₀ ER (sched (ct I)) (c : Thread nD τ) none (κ := K (c, none))
      (wpE_semWait_eq 𝒱₀ (c : Thread nD τ) none Set.univ) (Set.mem_univ _) () (O := owed c 0) (W := W) (R := 0) (m := 0) (T := ∅)
      (by rw [expect_bar]; decide)) $$ [HcB HO HatB]
  · isplitr; · iexact HiC
    isplitl [HcB]; · iexact HcB
    isplitl [HO]; · iexact HO
    isplitr
    · iapply (mayWait_owed c (.reg barSem) 0 1 (le_of_eq (lv_bar c)) (by omega)); iexact HLv
    iexact HatB
  iintro ⟨HO, HatB, -, Hpay⟩
  ihave Hp := (Entails.of_eq (rest_bar (ct I) c)) $$ Hpay
  icases Hp with ⟨HpL, HpR⟩
  imod (Rounds.cell_close ER (sched (ct I)) (Set.mem_univ (K (c, none))) (fun h => h) (R := 0 + 1) (duties_later (ct I) (barCell c))) $$ [HatB] with HzB
  · isplitr; · iexact HiC
    iexact HatB
  iapply Hk $$ HzB
  unfold Begin Run
  isplitl [Hrd HO]
  · isplitl [Hrd]
    · iapply (Entails.of_eq (bigSep_congr (s := Finset.univ) (Φ := fun i : Cp => rdy (F := F) c i) (Ψ := fun i : Cp => stt (F := F) c 0 0 i)
        fun i _ => by unfold stt; rw [if_neg (Nat.not_lt_zero _), if_neg (Nat.not_lt_zero _)]))
      iexact Hrd
    · iexists _; iexact HO
  isplitl [HpL]; · iexact HpL
  isplitl [HpR]; · iexact HpR
  isplitl [HI]; · iexact HI
  isplitl [H5]; · iexact H5
  isplitl [S0]; · iexact S0
  isplitl [S1]; · iexact S1
  isplitl [S4]; · iexact S4
  isplitl [S5]; · iexact S5
  isplitl [S2] <;> iassumption

end Cert.KernelIdeal.Ring
end
-- ==== Proof.OneDevice.lean ====
module

public import proofs.«01_k».proof.Proof.Handshake
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

/-! The kernel of one device, from what the launch gives it to what it leaves. -/

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Facts₀ Facts
open Idealize.ShloMosaic.Pipeline (Dat Cfg Window BodyObligation cellOf)
open Cert.KernelIdeal.Gen (facts facts₀)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-- The devices' inputs. -/
def inp (c : Dev nD) : Inp F where
  x := (win0_0.blk (0 : Fin 1)).view.read (Elt F) (m ((c : Thread nD τ).loc main_arg0))
  wq := (win0_1.blk (0 : Fin 1)).view.read (Elt F) (m ((c : Thread nD τ).loc main_arg1))
  wo := (win0_2.blk (0 : Fin 1)).view.read (Elt F) (m ((c : Thread nD τ).loc main_arg2))
  k := (win0_3.blk (0 : Fin 1)).view.read (Elt F) (m ((c : Thread nD τ).loc main_arg3))
  v := (win0_4.blk (0 : Fin 1)).view.read (Elt F) (m ((c : Thread nD τ).loc main_arg4))

/-- A copy not started, its credit apart. -/
def prs (c : Dev nD) (i : Cp) : sProp 𝕄 :=
  iprop(dutyTok ER (sCell c i) 0 false ∗ dutyTok ER (rCell (i.tgt c) i) 0 false
    ∗ atPos ER (sCell c i) 0 ∅ 0 ∗ atPos ER (rCell c i) 0 ∅ 0)

omit [FloatOps F] in
theorem prs_rdy (c : Dev nD) (i : Cp) : iprop(prs (F := F) c i ∗ cred (tallyAt (rCell c i) () i.amt)) ⊢ (rdy (F := F) c i : sProp 𝕄) := by
  unfold prs rdy
  iintro ⟨⟨A, B, C, D⟩, E⟩
  isplitl [A]; · iexact A
  isplitl [B]; · iexact B
  isplitl [C]; · iexact C
  isplitl [D] <;> iassumption

/-- What a device has of the cells. -/
def ghost (K : Dev nD × KI → ℕ) (c : Dev nD) : sProp 𝕄 :=
  iprop(records (ct (inp m)) K ∗ atPos ER (barCell c) 0 ∅ 0 ∗ dutyTok ER (barCell (ld c)) 0 true ∗ dutyTok ER (barCell (rd c)) 0 false
    ∗ bigSep Finset.univ fun i : Cp => prs (F := F) c i)

def start (c : Dev nD) : sProp 𝕄 :=
  iprop((∃ K, ghost m K c) ∗ cred (tallyAt (barCell c) () 2) ∗ (bigSep Finset.univ fun i : Cp => cred (tallyAt (rCell c i) () i.amt)) ∗ levAts L lv)

def scratches (c : Dev nD) : sProp 𝕄 :=
  iprop(wholeP (F := F) c cc0_scratch0 ∗ wholeP (F := F) c cc0_scratch1 ∗ wholeP (F := F) c cc0_scratch2
    ∗ wholeP (F := F) c cc0_scratch3 ∗ wholeP (F := F) c cc0_scratch4 ∗ wholeP (F := F) c cc0_scratch5)

def Φ₀ (c : Dev nD) : sProp 𝕄 := iprop(start m c ∗ scratches (F := F) c)
def Φ₁ (c : Dev nD) : sProp 𝕄 :=
  iprop((bigSep Finset.univ fun i : Cp => ovr (F := F) c i) ∗ semVal (barCell c) 0 ∗ scratches (F := F) c)

/-- The staged contents after the kernel, and what is held around it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m c).x
    | ⟨1, _⟩ => (inp m c).wq
    | ⟨2, _⟩ => (inp m c).wo
    | ⟨3, _⟩ => (inp m c).k
    | ⟨4, _⟩ => (inp m c).v
    | ⟨5, _⟩ => outV (inp m) c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

omit [FloatOps F] in
theorem stg_PT {c : Dev nD} {b : Ref sig .tc} {X V : b.ty.Contents (Elt F)} (h : X = V) :
    (stg c b X : sProp 𝕄) ⊢ PT c b (fun _ => True) (fun _ => True) V := by
  subst h
  iintro ⟨%f, %hf, H⟩
  subst hf
  iapply whole_PT $$ H
omit [FloatOps F] in
theorem stg_P {c : Dev nD} {b : Ref sig .tc} {X : b.ty.Contents (Elt F)} : (stg c b X : sProp 𝕄) ⊢ wholeP (F := F) c b := by
  iintro ⟨%f, %hf, H⟩
  iapply whole_P $$ H

abbrev bef (c : Dev nD) (w : Fin cfg0.W) := (dats m ρ 0 c).before w Gen.t0_0

theorem bef0 (c : Dev nD) (d) : bef m ρ c 0 d = (inp m c).x := by
  unfold bef Dat.before; rw [if_pos (Gen.fetch0_0 _)]; rfl
theorem bef1 (c : Dev nD) (d) : bef m ρ c 1 d = (inp m c).wq := by
  unfold bef Dat.before; rw [if_pos (Gen.fetch0_1 _)]; rfl
theorem bef2 (c : Dev nD) (d) : bef m ρ c 2 d = (inp m c).wo := by
  unfold bef Dat.before; rw [if_pos (Gen.fetch0_2 _)]; rfl
theorem bef3 (c : Dev nD) (d) : bef m ρ c 3 d = (inp m c).k := by
  unfold bef Dat.before; rw [if_pos (Gen.fetch0_3 _)]; rfl
theorem bef4 (c : Dev nD) (d) : bef m ρ c 4 d = (inp m c).v := by
  unfold bef Dat.before; rw [if_pos (Gen.fetch0_4 _)]; rfl

def bodyPre (c : Dev nD) : sProp 𝕄 :=
  iprop(Φ₀ m c ∗ (dats m ρ 0 c).owesAt () Gen.t0_0.castSucc
    ∗ (∃ d, stg c cc0_stg0_0 (bef m ρ c 0 d)) ∗ (∃ d, stg c cc0_stg1_0 (bef m ρ c 1 d)) ∗ (∃ d, stg c cc0_stg2_0 (bef m ρ c 2 d))
    ∗ (∃ d, stg c cc0_stg3_0 (bef m ρ c 3 d)) ∗ (∃ d, stg c cc0_stg4_0 (bef m ρ c 4 d)) ∗ (∃ d, stg c cc0_stg5_0 (bef m ρ c 5 d)))
def bodyPost (c : Dev nD) : sProp 𝕄 :=
  iprop(Φ₁ c ∗ (dats m ρ 0 c).owesAt () Gen.t0_0.succ ∗ stg c cc0_stg0_0 (inp m c).x ∗ stg c cc0_stg1_0 (inp m c).wq
    ∗ stg c cc0_stg2_0 (inp m c).wo ∗ stg c cc0_stg3_0 (inp m c).k ∗ stg c cc0_stg4_0 (inp m c).v ∗ stg c cc0_stg5_0 (outV (inp m) c))

theorem sound_body (c : Dev nD) : bodyPre m ρ c ⊢ WP c (bodyP c) (fun _ => bodyPost m ρ c) := by
  unfold bodyPre Φ₀ start ghost scratches bodyP
  iintro ⟨⟨⟨⟨%K, #HR, HatB, HtL, HtR, Hp⟩, HcB, HcR, #HLv⟩, S0, S1, S2, S3, S4, S5⟩, Ho, ⟨%d0, H0⟩, ⟨%d1, H1⟩, ⟨%d2, H2⟩, ⟨%d3, H3⟩, ⟨%d4, H4⟩, ⟨%d5, H5⟩⟩
  unfold Dat.owesAt Pipeline.owesWithin
  icases Ho with ⟨%W, %hW, HO⟩
  rw [show (dats m ρ 0 c).owed Gen.t0_0.castSucc = O₀ c from rfl]
  ihave H0 := (stg_PT (bef0 m ρ c d0)) $$ H0
  ihave H1 := (stg_PT (bef1 m ρ c d1)) $$ H1
  ihave H2 := (stg_PT (bef2 m ρ c d2)) $$ H2
  ihave H3 := (stg_PT (bef3 m ρ c d3)) $$ H3
  ihave H4 := (stg_PT (bef4 m ρ c d4)) $$ H4
  ihave H5 := (stg_P (F := F) (c := c) (b := cc0_stg5_0)) $$ H5
  have hrdy : iprop((bigSep Finset.univ fun i : Cp => prs (F := F) c i) ∗ bigSep Finset.univ fun i : Cp => cred (tallyAt (rCell c i) () i.amt))
      ⊢ (bigSep Finset.univ fun i : Cp => rdy (F := F) c i : sProp 𝕄) := by
    rw [← bigSep_sep']
    exact bigSep_mono fun i _ => prs_rdy c i
  ihave Hrd := hrdy $$ [Hp HcR]
  · isplitl [Hp] <;> iassumption
  iapply (wp_bar (inp m))
  isplitr; · iexact HR
  isplitr; · iexact HLv
  isplitl [HatB HtL HtR HcB HO Hrd H0 H1 H2 H3 H4 H5 S0 S1 S2 S3 S4 S5]
  · unfold Before InP
    isplitl [HatB]; · iexact HatB
    isplitl [HtL]; · iexact HtL
    isplitl [HtR]; · iexact HtR
    isplitl [HcB]; · iexact HcB
    isplitl [HO]; · iexists W; iexact HO
    isplitl [Hrd]; · iexact Hrd
    isplitl [H0 H1 H2 H3 H4]
    · isplitl [H0]; · iexact H0
      isplitl [H1]; · iexact H1
      isplitl [H2]; · iexact H2
      isplitl [H3] <;> iassumption
    isplitl [H5]; · iexact H5
    isplitl [S0]; · iexact S0
    isplitl [S1]; · iexact S1
    isplitl [S2]; · iexact S2
    isplitl [S3]; · iexact S3
    isplitl [S4] <;> iassumption
  iintro HzB HB
  iapply (wp_rest (inp m))
  isplitr; · iexact HR
  isplitr; · iexact HLv
  isplitl [HB]; · iexact HB
  iintro HE
  rw [WP, wp_ret]; imodintro
  unfold End InP bodyPost Φ₁ scratches Dat.owesAt Pipeline.owesWithin
  icases HE with ⟨HRun, ⟨H0, H1, H2, H3, H4⟩, H5, S0, S1, S2, S3, S4, S5⟩
  ihave HRun := (Run_end c) $$ HRun
  icases HRun with ⟨Hov, ⟨%W', HO⟩⟩
  rw [show (dats m ρ 0 c).owed Gen.t0_0.succ = 0 from rfl]
  isplitl [Hov HzB S0 S1 S2 S3 S4 S5]
  · isplitl [Hov]; · iexact Hov
    isplitl [HzB]; · iexact HzB
    isplitl [S0]; · iexact S0
    isplitl [S1]; · iexact S1
    isplitl [S2]; · iexact S2
    isplitl [S3]; · iexact S3
    isplitl [S4] <;> iassumption
  isplitl [HO]
  · iexists W'
    isplitr; · ipureintro; exact fun _ _ => Or.inl trivial
    iexact HO
  isplitl [H0]; · iapply PT_whole $$ H0
  isplitl [H1]; · iapply PT_whole $$ H1
  isplitl [H2]; · iapply PT_whole $$ H2
  isplitl [H3]; · iapply PT_whole $$ H3
  isplitl [H4]; · iapply PT_whole $$ H4
  iapply PT_whole $$ H5

set_option maxRecDepth 100000 in
theorem body_obligation (c : Dev nD) : BodyObligation (dats (F := F) m ρ 0 c) (defs₀ (F := F)) 𝒱₀ () Set.univ := fun t => by
  rw [Gen.fin_N0 t]
  rw [show (bigSep (M := 𝕄) (Finset.univ : Finset (Fin cfg0.W))) = bigSep (Finset.univ : Finset (Fin 6)) from rfl]
  rw [Gen.bigSep_W0, Gen.bigSep_W0]
  simp only [owns_whole_eq]
  show bodyPre m ρ c ⊢ wp frame (wpE (defs₀ (F := F)) 𝒱₀ (c : Thread nD τ) none) Set.univ
    (cc0_body (F := F) xM (Memref.isWhole_whole _) wqM (Memref.isWhole_whole _) woM (Memref.isWhole_whole _)
    kM (Memref.isWhole_whole _) vM (Memref.isWhole_whole _) oM (Memref.isWhole_whole _) sM (Memref.isWhole_whole _)
    sbM (Memref.isWhole_whole _) lbM (Memref.isWhole_whole _) rbM (Memref.isWhole_whole _) nbM (Memref.isWhole_whole _)
    obM (Memref.isWhole_whole _) cc0_scratch6 cc0_scratch7 cc0_scratch8 cc0_scratch9 cc0_scratch10 cc0_scratch11
    cc0_scratch12 cc0_scratch13) (fun _ => bodyPost m ρ c)
  rw [body_eq, wp_deviceId]
  exact sound_body m ρ c

end Cert.KernelIdeal.Ring
end
-- ==== Proof.Sixteen.lean ====
module

public import proofs.«01_k».proof.Proof.OneDevice
public import Idealize.ShloMosaic.Lib.Pipeline.ValueKit.Geometry
public import Idealize.ShloMosaic.Lib.Pipeline.CollectiveSegs

/-! The run of the sixteen devices: the semaphores shared out, and what the arrays hold at the end. -/

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Facts₀ Facts
open Idealize.ShloMosaic.Pipeline (Dat Cfg Window BodyObligation cellOf)
open Cert.KernelIdeal.Gen (facts facts₀)

variable {F : FTy → Type} [FloatOps F]

local notation "𝕄" => MT nD τ sig Unit (Elt F) ℕ UU ℕ

variable (m : (ℓ : Loc nD τ sig) → Buf (Elt F) ℓ) (ρ : Dev nD → PrngReg)

/-! ### The cells -/

abbrev CI : Type := Cp × Bool
/-- The kernel's own semaphores. -/
abbrev osem : CI → SemLoc sig := fun k => csem (some k)

theorem csem_inj : Function.Injective (csem : KI → SemLoc sig) := by
  rintro (_ | ⟨i, _ | _⟩) (_ | ⟨j, _ | _⟩) h
  · rfl
  · exact absurd h (fun h => by cases h)
  · exact absurd h (fun h => by cases h)
  · exact absurd h (fun h => by cases h)
  · rw [Cp.sS_inj (SemLoc.dma.inj h)]
  · exact absurd (SemLoc.dma.inj h) (Cp.sS_ne_sR i j)
  · exact absurd h (fun h => by cases h)
  · exact absurd (SemLoc.dma.inj h).symm (Cp.sS_ne_sR j i)
  · rw [Cp.sR_inj (SemLoc.dma.inj h)]

theorem kcell_inj : Function.Injective (kcell : Dev nD × KI → GSem nD τ sig) := by
  rintro ⟨c, k⟩ ⟨c', k'⟩ h
  have h1 : c = c' := congrArg (fun g : GSem nD τ sig => g.1.1) h
  have h2 : k = k' := csem_inj (congrArg Prod.snd h)
  rw [h1, h2]

theorem stage_lt : ∀ (w : Fin 6) (s : Fin (spec0 w).nbuf), ((spec0 w).sem s).val < 6 := by decide
theorem own_scoped : ∀ q : DmaSem sig, (SemLoc.dma q : SemLoc sig).isScoped .tc = true := by decide
theorem ownSemFacts : Pipeline.OwnSemFacts cfg0.spec osem where
  isScoped k := by
    rcases k with ⟨i, _ | _⟩
    · exact own_scoped i.sS
    · exact own_scoped i.sR
  inj := fun k k' h => Option.some.inj (csem_inj h)
  disj k w s h := by
    have hs := stage_lt w s
    rcases k with ⟨i, _ | _⟩
    · have : i.sS = (spec0 w).sem s := SemLoc.dma.inj h
      have h2 := Cp.nS_ge i
      rw [← Cp.sS_val, this] at h2
      omega
    · have : i.sR = (spec0 w).sem s := SemLoc.dma.inj h
      have h2 := Cp.nR_ge i
      rw [← Cp.sR_val, this] at h2
      omega

theorem share_eq (c : Dev nD) (w : Fin cfg0.W) : (dats m ρ 0 c).share w = fullShare := by unfold Dat.share; split <;> rfl

def cells₀ : Finset (GSem nD τ sig) := Finset.univ.map ⟨kcell, kcell_inj⟩

/-- A device's own duty tokens: its barrier's two, and one of each of its other cells. -/
abbrev TI : Type := Bool ⊕ CI
abbrev tokOf (cj : Dev nD × TI) : GSem nD τ sig × ℕ × Bool := match cj.2 with
  | .inl d => (barCell cj.1, 0, d)
  | .inr k => (kcell (cj.1, some k), 0, false)
theorem tokOf_inj : Function.Injective (tokOf : Dev nD × TI → GSem nD τ sig × ℕ × Bool) := by
  rintro ⟨c, j⟩ ⟨c', j'⟩ h
  rcases j with d | k <;> rcases j' with d' | k'
  · have h1 : c = c' := congrArg (fun x : GSem nD τ sig × ℕ × Bool => x.1.1.1) h
    have h2 : d = d' := congrArg (fun x : GSem nD τ sig × ℕ × Bool => x.2.2) h
    rw [h1, h2]
  · exact absurd (kcell_inj (a₁ := (c, none)) (a₂ := (c', some k')) (congrArg Prod.fst h)) (fun h => by cases h)
  · exact absurd (kcell_inj (a₁ := (c, some k)) (a₂ := (c', none)) (congrArg Prod.fst h)) (fun h => by cases h)
  · have := kcell_inj (a₁ := (c, some k)) (a₂ := (c', some k')) (congrArg Prod.fst h)
    cases this; rfl
def toks₀ : Finset (GSem nD τ sig × ℕ × Bool) := Finset.univ.map ⟨tokOf, tokOf_inj⟩

def u₀ : UU :=
  (initOf (Pipeline.cells cfgs Gen.cellOf_inj) (Pipeline.launchToks cfgs Gen.cellOf_inj), initOf cells₀ toks₀)

/-! ### Families over the cells -/

omit [FloatOps F] in
theorem sep_option (Φ : KI → sProp 𝕄) :
    bigSep Finset.univ Φ = iprop(Φ none ∗ bigSep Finset.univ fun k : CI => Φ (some k)) := by
  rw [bigSep_univ_equiv (Equiv.optionEquivSumPUnit.{0} CI).symm Φ, bigSep_univ_sum]
  rw [bigSep_univ_of_subsingleton PUnit.unit.{1}]
  exact BI.Entails.antisymm (show iprop((bigSep Finset.univ fun k : CI => Φ (some k)) ∗ Φ none) ⊢ (iprop(Φ none ∗ bigSep Finset.univ fun k : CI => Φ (some k)) : sProp 𝕄) from by
      iintro ⟨A, B⟩; isplitl [B] <;> iassumption)
    (show iprop(Φ none ∗ bigSep Finset.univ fun k : CI => Φ (some k)) ⊢ (iprop((bigSep Finset.univ fun k : CI => Φ (some k)) ∗ Φ none) : sProp 𝕄) from by
      iintro ⟨A, B⟩; isplitl [B] <;> iassumption)
omit [FloatOps F] in
theorem sep_bool (Φ : Bool → sProp 𝕄) : bigSep Finset.univ Φ = iprop(Φ false ∗ Φ true) :=
  bigSep_univ_eq_bigSepL [false, true] (by decide) (by decide) Φ
omit [FloatOps F] in
theorem sep_CI (Φ : CI → sProp 𝕄) :
    bigSep Finset.univ Φ = bigSep Finset.univ fun i : Cp => iprop(Φ (i, false) ∗ Φ (i, true)) := by
  rw [bigSep_univ_prod]
  exact bigSep_congr fun i _ => sep_bool _

/-- The duty tokens of a device's own cells. -/
def toks (c : Dev nD) : sProp 𝕄 :=
  iprop((dutyTok ER (barCell c) 0 false ∗ dutyTok ER (barCell c) 0 true)
    ∗ bigSep Finset.univ fun i : Cp => iprop(dutyTok ER (sCell c i) 0 false ∗ dutyTok ER (rCell c i) 0 false))

/-- What the launch deals a device. -/
def G (c : Dev nD) : sProp 𝕄 :=
  iprop((bigSep Finset.univ fun k : KI => roundState ER (sched (ct (inp m))) (kcell (c, k)) 0)
    ∗ (bigSep Finset.univ fun k : KI => iprop(atPos ER (kcell (c, k)) 0 ∅ 0 ∗ reached ER (kcell (c, k)) 0)) ∗ toks c)
/-- What it becomes. -/
def G' (c : Dev nD) : sProp 𝕄 := iprop(∃ K, ghost m K c)

theorem fund₀ : BI.own (ER (initOf cells₀ toks₀)) ⊢ (|==> bigSep Finset.univ (G m) : sProp 𝕄) := by
  have hX (Φ : GSem nD τ sig → sProp 𝕄) : bigSep cells₀ Φ = bigSep Finset.univ fun c : Dev nD => bigSep Finset.univ fun k : KI => Φ (kcell (c, k)) := by
    unfold cells₀; rw [bigSep_map, bigSep_univ_prod]; rfl
  have hT : bigSep toks₀ (fun x => (dutyTok ER x.1 x.2.1 x.2.2 : sProp 𝕄)) = bigSep Finset.univ fun c : Dev nD => toks c := by
    unfold toks₀; rw [bigSep_map, bigSep_univ_prod]
    refine bigSep_congr fun c _ => ?_
    unfold toks
    rw [bigSep_univ_sum]
    refine congrArg₂ (fun a b => iprop(a ∗ b)) ?_ ?_
    · exact sep_bool _
    · exact sep_CI _
  iintro HX
  imod (Rounds.fund ER (sched (ct (inp m))) cells₀ toks₀) $$ HX with ⟨Hst, Hr, Hat, Htok⟩
  imodintro
  ihave Hst' := (Entails.of_eq (hX fun g => roundState ER (sched (ct (inp m))) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (barCell c) 0 := by
  unfold unscopedSems0; rw [bigSep_eq_bigSepL_of_eq [SemLoc.reg barSem] (by decide) (by decide)]; rfl

abbrev own₀ (c : Dev nD) : sProp 𝕄 := Pipeline.ownSems0 (Ix := Unit) (Name := ℕ) (U := UU) (Lvl := ℕ) (Val := Elt F) (τ := τ) osem c

omit [FloatOps F] in
theorem sems0_eq (c : Dev nD) : iprop(own₀ (F := F) c ∗ unscopedSems0 c) ⊢ (bigSep Finset.univ fun k : KI => semVal (kcell (c, k)) 0 : sProp 𝕄) := by
  rw [sep_option, unscopedSems0_eq]
  unfold own₀ Pipeline.ownSems0
  iintro ⟨H, HB⟩
  isplitl [HB] <;> iassumption

theorem core_alloc (c : Dev nD) :
    iprop(own₀ (F := F) c ∗ unscopedSems0 c ∗ G m c)
      ⊢ |={Set.univ}=> iprop((bigSep Finset.univ fun k : KI => iprop(∃ κ : ℕ, cellInv ER (sched (ct (inp m))) κ (kcell (c, k))))
          ∗ (bigSep Finset.univ fun k : KI => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : KI => semVal (kcell (c, k)) 0) ∗ bigSep Finset.univ fun k : KI => roundState ER (sched (ct (inp m))) (kcell (c, k)) 0)
      ⊢ (|={Set.univ}=> bigSep Finset.univ fun k : KI => iprop(∃ κ : ℕ, cellInv ER (sched (ct (inp m))) κ (kcell (c, k))) : sProp 𝕄) from by
        rw [← bigSep_sep']
        exact (bigSep_mono fun k _ => (Rounds.body_intro ER (sched (ct (inp m))) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with a device: the tokens of the duties it pays. -/
def payToks (c : Dev nD) : sProp 𝕄 :=
  iprop((dutyTok ER (barCell (rd c)) 0 false ∗ dutyTok ER (barCell (ld c)) 0 true)
    ∗ bigSep Finset.univ fun i : Cp => iprop(dutyTok ER (sCell c i) 0 false ∗ dutyTok ER (rCell (i.tgt c) i) 0 false))

def tgtE (i : Cp) : Dev nD ≃ Dev nD := ⟨fun d => i.tgt d, fun d => i.org d, fun d => Cp.org_tgt d i, fun d => Cp.tgt_org d i⟩

omit [FloatOps F] in
theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_comm (fun (c : Dev nD) (i : Cp) => (dutyTok ER (rCell c i) 0 false : sProp 𝕄)),
    bigSep_univ_comm (fun (c : Dev nD) (i : Cp) => (dutyTok ER (rCell (i.tgt c) i) 0 false : sProp 𝕄)),
    bigSep_congr (s := Finset.univ) fun (i : Cp) _ => bigSep_univ_equiv (tgtE i) (fun c : Dev nD => (dutyTok ER (rCell c i) 0 false : sProp 𝕄))]
  iintro H
  iexact H

def linear (c : Dev nD) : sProp 𝕄 :=
  iprop((bigSep Finset.univ fun k : KI => atPos ER (kcell (c, k)) 0 ∅ 0) ∗ payToks c)

theorem ghost_intro (K : Dev nD × KI → ℕ) (c : Dev nD) : iprop(records (ct (inp m)) K ∗ linear (F := F) c) ⊢ G' m c := by
  unfold linear payToks G' ghost prs
  rw [sep_option, sep_CI]
  simp only [bigSep_sep']
  iintro ⟨HR, ⟨HaB, HaS, HaR⟩, ⟨HtR, HtL⟩, HtS, HtV⟩
  iexists K
  isplitl [HR]; · iexact HR
  isplitl [HaB]; · iexact HaB
  isplitl [HtL]; · iexact HtL
  isplitl [HtR]; · iexact HtR
  isplitl [HtS]; · iexact HtS
  isplitl [HtV]; · iexact HtV
  isplitl [HaS] <;> iassumption

theorem regroup :
    (bigSep Finset.univ fun c : Dev nD => iprop((bigSep Finset.univ fun k : KI => iprop(∃ κ : ℕ, cellInv ER (sched (ct (inp m))) κ (kcell (c, k))))
          ∗ (bigSep Finset.univ fun k : KI => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × KI => iprop(∃ κ : ℕ, cellInv ER (sched (ct (inp m))) κ (kcell ck))),
    bigSep_congr (s := Finset.univ) (fun (c : Dev nD) _ => bigSep_sep' Finset.univ (fun k : KI => (atPos ER (kcell (c, k)) 0 ∅ 0 : sProp 𝕄)) (fun k => reached ER (kcell (c, k)) 0)),
    bigSep_sep', ← bigSep_univ_prod (fun ck : Dev nD × KI => (reached ER (kcell ck) 0 : sProp 𝕄))]
  iintro ⟨HI, ⟨Hat, #HR⟩, Htok⟩
  ihave HK := (BI.bigSep_exists_pi Finset.univ (fun (ck : Dev nD × KI) (κ : ℕ) => (cellInv ER (sched (ct (inp m))) κ (kcell ck) : sProp 𝕄))) $$ HI
  icases HK with ⟨%K, #HI⟩
  ihave Htk := (toks_around (F := F)) $$ Htok
  iapply (BI.bigSep_with_persistent (R := records (ct (inp m)) K) fun c _ => ghost_intro m K c)
  isplitr
  · unfold records; isplitl; · iexact HI
    iexact HR
  · unfold linear
    rw [bigSep_sep']
    isplitl [Hat] <;> iassumption

theorem glob : (bigSep Finset.univ fun c => iprop(own₀ (F := F) c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem r_ne_bar (a b : Dev nD) (i : Cp) : rCell a i ≠ barCell b := fun h => by cases congrArg Prod.snd h
theorem bar_eq_iff {a b : Dev nD} : barCell a = barCell b ↔ a = b :=
  ⟨fun h => congrArg (fun g : GSem nD τ sig => g.1.1) h, fun h => h ▸ rfl⟩
theorem r_eq_iff {a b : Dev nD} {i j : Cp} : rCell a i = rCell b j ↔ a = b ∧ i = j :=
  ⟨fun h => ⟨congrArg (fun g : GSem nD τ sig => g.1.1) h, Cp.sR_inj (SemLoc.dma.inj (congrArg Prod.snd h))⟩, fun h => by rw [h.1, h.2]⟩

theorem owed_bar (d c : Dev nD) : O₀ d (barCell c) () = (if d = ld c then 1 else 0) + (if d = rd c then 1 else 0) := by
  have h0 : owed d 0 (barCell c) () = 0 := by
    rw [owed_apply]
    exact Finset.sum_eq_zero fun i _ => if_neg fun h => r_ne_bar _ _ i h.2.symm
  unfold O₀ O₁
  rw [Pi.add_apply, Finsupp.add_apply, Pi.add_apply, Finsupp.add_apply, tallyAt_apply, tallyAt_apply, h0, Nat.zero_add]
  refine congrArg₂ (· + ·) ?_ ?_
  · by_cases h : d = ld c
    · subst h; rw [rd_ld, if_pos ⟨rfl, rfl⟩, if_pos rfl]
    · rw [if_neg (fun ⟨h1, _⟩ => h (by rw [← ld_rd d]; exact congrArg ld (bar_eq_iff.mp h1).symm)), if_neg h]
  · by_cases h : d = rd c
    · subst h; rw [ld_rd, if_pos ⟨rfl, rfl⟩, if_pos rfl]
    · rw [if_neg (fun ⟨h1, _⟩ => h (by rw [← rd_ld d]; exact congrArg rd (bar_eq_iff.mp h1).symm)), if_neg h]

theorem owed_recv (d c : Dev nD) (i : Cp) : O₀ d (rCell c i) () = if d = i.org c then i.amt else 0 := by
  have h0 : owed d 0 (rCell c i) () = if d = i.org c then i.amt else 0 := by
    rw [owed_apply, Finset.sum_eq_single i]
    · by_cases h : d = i.org c
      · subst h; rw [if_pos ⟨Nat.zero_le _, by rw [Cp.tgt_org]⟩, if_pos rfl]
      · rw [if_neg (fun h2 => h (by rw [(r_eq_iff.mp h2.2).1, Cp.org_tgt])), if_neg h]
    · exact fun j _ hj => if_neg fun h => hj (r_eq_iff.mp h.2).2.symm
    · exact fun h => absurd (Finset.mem_univ _) h
  unfold O₀ O₁
  rw [Pi.add_apply, Finsupp.add_apply, Pi.add_apply, Finsupp.add_apply, h0,
    tallyAt_ne_cell (r_ne_bar _ _ i), tallyAt_ne_cell (r_ne_bar _ _ i), Finsupp.zero_apply, Nat.add_zero, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (ld c) fun _ => 1, Finset.sum_ite_eq' Finset.univ (rd c) fun _ => 1, if_pos (Finset.mem_univ _), if_pos (Finset.mem_univ _)]
theorem launch_recv (c : Dev nD) (i : Cp) :
    tallyOn (rCell c i) (launchCredit (Pipeline.owing O₀) 0 (rCell c i)) = (tallyAt (rCell c i) () i.amt : CellTallies nD τ sig Unit) := by
  unfold tallyAt; refine congrArg _ (Finsupp.ext fun u => ?_); cases u
  rw [Pipeline.launchCredit_owing, Finsupp.single_eq_same, Finset.sum_congr rfl fun d _ => owed_recv d c i, Finset.sum_ite_eq' Finset.univ (i.org c) fun _ => i.amt,
    if_pos (Finset.mem_univ _)]

omit [FloatOps F] in
theorem creds (c : Dev nD) :
    (Pipeline.launchCred O₀ c : sProp 𝕄) ⊢ iprop(cred (tallyAt (barCell c) () 2) ∗ bigSep Finset.univ fun i : Cp => cred (tallyAt (rCell c i) () i.amt)) := by
  unfold Pipeline.launchCred
  rw [bigSep_univ_at _ (SemLoc.reg barSem), launch_bar]
  refine sep_mono_right ?_
  have hsub : (Finset.univ : Finset Cp).map ⟨fun i => SemLoc.dma (sig := sig) i.sR, fun i j h => Cp.sR_inj (SemLoc.dma.inj h)⟩ ⊆ Finset.univ.erase (SemLoc.reg barSem) := by
    intro x hx
    obtain ⟨i, -, rfl⟩ := Finset.mem_map.mp hx
    exact Finset.mem_erase.mpr ⟨fun h => (by cases h), Finset.mem_univ _⟩
  have he : (bigSep Finset.univ fun i : Cp => (cred (tallyAt (rCell c i) () i.amt) : sProp 𝕄))
      = bigSep ((Finset.univ : Finset Cp).map ⟨fun i => SemLoc.dma (sig := sig) i.sR, fun i j h => Cp.sR_inj (SemLoc.dma.inj h)⟩)
        fun sm => cred (tallyOn ((c : Thread nD τ), sm) (launchCredit (Pipeline.owing O₀) 0 ((c : Thread nD τ), sm))) := by
    rw [bigSep_map]
    exact bigSep_congr fun i _ => congrArg cred (launch_recv c i).symm
  rw [he]
  exact bigSep_subset hsub

/-! ### Entry, exit, waits -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

omit [FloatOps F] in
theorem scratches_eq (c : Dev nD) : (Pipeline.scopedRest (Ix := Unit) (Name := ℕ) (U := UU) (Lvl := ℕ) (Val := Elt F) spec0 c : sProp 𝕄) = scratches (F := F) c := by
  rw [Gen.scopedRest0_eq]
  unfold scratches
  rw [wholeP_eq, wholeP_eq, wholeP_eq, wholeP_eq, wholeP_eq, wholeP_eq]

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratches_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratches_eq, unscopedSems0_eq]
  unfold Φ₁ Pipeline.ownSems0
  rw [sep_CI]
  iintro ⟨Ho, Hb, Hs⟩
  isplitl [Hb]; · iexact Hb
  isplitl [Ho]; · iexact Ho
  iexact Hs

theorem O₀_pos {c : Dev nD} {g : GSem nD τ sig} {u : Unit} (h : 0 < O₀ c g u) :
    (∃ d i, g = rCell d i) ∨ ∃ d, g = barCell d := by
  by_contra hn
  have h1 : ∀ d i, g ≠ rCell d i := fun d i h => hn (.inl ⟨d, i, h⟩)
  have h2 : ∀ d, g ≠ barCell d := fun d h => hn (.inr ⟨d, h⟩)
  have h0 : owed c 0 g u = 0 := by
    rw [owed_apply]
    exact Finset.sum_eq_zero fun i _ => if_neg fun h => h1 _ i h.2
  unfold O₀ O₁ at h
  rw [Pi.add_apply, Finsupp.add_apply, Pi.add_apply, Finsupp.add_apply, tallyAt_apply, tallyAt_apply, h0,
    if_neg (fun h' => h2 _ h'.1), if_neg (fun h' => h2 _ h'.1)] at h
  exact Nat.lt_irrefl 0 h

omit [FloatOps F] in
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, i, rfl⟩ | ⟨d, rfl⟩ <;> (rw [L_tc]; exact Finset.mem_singleton_self _))
      (fun p hp => by
        rw [Finset.mem_singleton.mp hp, lv_low c q fun i h => ?_]
        have := Cp.nR_ge i
        rw [← Cp.sR_val, ← h] at this
        omega)
      (fun g u hg => by
        rcases O₀_pos hg with ⟨d, i, rfl⟩ | ⟨d, rfl⟩
        · rw [lv_r]; omega
        · rw [lv_bar]; omega)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_lt w s) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- Every run of the sixteen devices ends, each device's arrays as computed and every semaphore at zero. -/
theorem run_arrays : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () Gen.cellOf_inj (0 : Fin 1)
    Gen.winFacts0.to₀ ownSemFacts (Pipeline.PreFacts.none _) EP defs₀ 𝒱₀ m ρ main
    (hmain := fun _ => rfl)
    (hbody := body_obligation m ρ) (hne := Gen.block_pos0) (harr := Gen.arr_whole0) (hstage := Gen.stage_whole0) (hshare := share_eq m ρ)
    (hdistinct := Gen.winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund₀ m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_out (c : Dev nD) : finalA m ρ c 5 = outV (inp m) c :=
  (dats m ρ 0 c).arrAt_eq_of_after_last 5 Gen.t0_0 (by decide +kernel) _ fun j => rfl

/-- Every run of the sixteen devices ends, the arguments as they were, the result computed, every semaphore at zero. -/
theorem run_main : θ_run defs (onTc (τ := τ) (main (F := F))) ⟨m, fun _ => 0, ρ⟩ (fun r => (∀ c : Dev nD,
      r.2.mem ((c.tc : Thread nD τ).loc main_v1) = outV (inp m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => ⟨(h.1 c 5).trans (finalA_out m ρ c),
    (h.1 c 0).trans ((dats m ρ 0 c).arrAt_in 0 rfl _), (h.1 c 1).trans ((dats m ρ 0 c).arrAt_in 1 rfl _),
    (h.1 c 2).trans ((dats m ρ 0 c).arrAt_in 2 rfl _), (h.1 c 3).trans ((dats m ρ 0 c).arrAt_in 3 rfl _),
    (h.1 c 4).trans ((dats m ρ 0 c).arrAt_in 4 rfl _)⟩, h.2⟩) (run_arrays m ρ)

end Cert.KernelIdeal.Ring
end
-- ==== Proof.Attn.lean ====
module

public import Idealize.ShloMosaic.Lib.Pointwise

/-! The function both programs compute, over the extended reals: queries, scaled scores, the sums of the
exponentials and of the values they weigh, their quotient and its projection. -/

@[expose] public section

noncomputable section

namespace Cert.Attn

open Idealize.ShloMosaic

abbrev AX : Shape := ⟨3, ![4, 256, 1024]⟩
abbrev AW : Shape := ⟨2, ![1024, 1024]⟩
abbrev AK : Shape := ⟨4, ![4, 16384, 2, 128]⟩

/-- The head's group. -/
def grp (h : Fin 8) : Fin 2 := ⟨h.val / 4, by omega⟩
/-- The column of a head's element. -/
def hcol (h : Fin 8) (e : Fin 128) : Fin 1024 := ⟨h.val * 128 + e.val, by omega⟩
/-- The head of a column, and the place in it. -/
def hd (n : Fin 1024) : Fin 8 := ⟨n.val / 128, by omega⟩
def pl (n : Fin 1024) : Fin 128 := ⟨n.val % 128, Nat.mod_lt _ (by decide)⟩
/-- The batch of a row, and the place in it. -/
def bt (r : Fin 1024) : Fin 4 := ⟨r.val / 256, by omega⟩
def pr (r : Fin 1024) : Fin 256 := ⟨r.val % 256, Nat.mod_lt _ (by decide)⟩

/-- The scale of the scores. -/
def sc : EReal := Ideal.ofBits .f32 0x3DB504F3#32

variable (x : AX.Idx → EReal) (wq wo : AW.Idx → EReal) (K V : AK.Idx → EReal)

def q (b : Fin 4) (i : Fin 256) (n : Fin 1024) : EReal := ∑ e : Fin 1024, x (ix3 b i e) * wq (ix2 e n)
def s (b : Fin 4) (h : Fin 8) (i : Fin 256) (j : Fin 16384) : EReal :=
  (∑ e : Fin 128, q x wq b i (hcol h e) * K (ix4 b j (grp h) e)) * sc
def L (b : Fin 4) (h : Fin 8) (i : Fin 256) : EReal := ∑ j : Fin 16384, Ideal.exp (s x wq K b h i j)
def A (b : Fin 4) (h : Fin 8) (i : Fin 256) (e : Fin 128) : EReal :=
  ∑ j : Fin 16384, Ideal.exp (s x wq K b h i j) * V (ix4 b j (grp h) e)
/-- The quotient at a row and a column. -/
def n (r c : Fin 1024) : EReal :=
  Ideal.div (A x wq K V (bt r) (hd c) (pr r) (pl c)) (L x wq K (bt r) (hd c) (pr r))
def out (r c : Fin 1024) : EReal := ∑ k : Fin 1024, n x wq K V r k * wo (ix2 k c)

end Cert.Attn
end
-- ==== Proof.LocalValue.lean ====
module

public import proofs.«01_k».proof.Proof.Attn
public import proofs.«01_k».proof.Proof.Spec

/-! One device's sums over the extended reals, read at an index. -/

@[expose] public section

noncomputable section

namespace Cert.KernelIdeal.Ring

open Idealize.ShloMosaic
open Facts₀ Facts
open Cert.KernelIdeal.Gen (facts facts₀)
open Cert.Attn (grp hcol hd pl bt pr sc)

variable (I : Inp Ideal) (b : Fin 4) (h : Fin 8)

theorem sl_eq {s : Shape} (r : Rect s) (f : Vec Ideal s .f32) (j : r.toLoadRect.shape.Idx) :
    sl r f j = View.ld f r j := rfl

theorem slx_apply (i : Fin 256) (e : Fin 1024) (z : Fin 1) :
    sl (xR (bo b).x (bo b).hx) I.x (ix3 (n0 := 1) z i e) = I.x (ix3 b i e) := by
  rw [sl_eq]
  pointwise [bo]

theorem slw_apply (f : Vec Ideal S1024x1024 .f32) (i e : Fin 1024) : sl wR f (ix2 i e) = f (ix2 i e) := by
  rw [sl_eq]
  pointwise

theorem sln_apply (f : Vec Ideal S64x1024 .f32) (i : Fin 64) (e : Fin 1024) : sl nwR f (ix2 i e) = f (ix2 i e) := by
  rw [sl_eq]
  pointwise

theorem slk0_apply (f : Vec Ideal S4x1024x2x128 .f32) (j : Fin 1024) (e : Fin 128) :
    sl (kR (bo b).k0 (bo b).hk0) f (ix4 (n0 := 1) (n2 := 1) 0 j 0 e) = f (ix4 b j 0 e) := by
  rw [sl_eq]
  pointwise [bo]

theorem slk1_apply (f : Vec Ideal S4x1024x2x128 .f32) (j : Fin 1024) (e : Fin 128) :
    sl (kR (bo b).k1 (bo b).hk1) f (ix4 (n0 := 1) (n2 := 1) 0 j 0 e) = f (ix4 b j 1 e) := by
  rw [sl_eq]
  pointwise [bo]

theorem qV_apply (X : Vec Ideal S1x256x1024 .f32) (W : Vec Ideal S1024x1024 .f32) (i : Fin 256) (n : Fin 1024) :
    qV X W (ix2 i n) = ∑ e : Fin 1024, X (ix3 0 i e) * W (ix2 e n) := by
  pointwise [qV]

theorem kV_apply (k : Vec Ideal S1x1024x1x128 .f32) (j : Fin 1024) (e : Fin 128) : kV k (ix2 j e) = k (ix4 0 j 0 e) := by
  pointwise [kV]

theorem eV_apply (q : FVec Ideal S256x1024 .f32) (k : FVec Ideal S1024x128 .f32) (i : Fin 256) (j : Fin 1024) :
    eV q k h (ix2 i j) = Ideal.exp ((∑ e : Fin 128, q (ix2 i (hcol h e)) * k (ix2 j e)) * sc) := by
  pointwise [eV]
  simp only [show ∀ (x : Fin 128) (p : 128 * h.val + x.val < 1024), (⟨128 * h.val + x.val, p⟩ : Fin 1024) = hcol h x
    from fun x p => Fin.ext (by unfold hcol; simp only; omega)]
  rfl

theorem aV_apply (q : FVec Ideal S256x1024 .f32) (k v : FVec Ideal S1024x128 .f32) (i : Fin 256) (e : Fin 128) :
    aV q k v h (ix2 i e) = ∑ j : Fin 1024, eV q k h (ix2 i j) * v (ix2 j e) := by
  pointwise [aV]

theorem lV_apply (q : FVec Ideal S256x1024 .f32) (k : FVec Ideal S1024x128 .f32) (i : Fin 256) (z : Fin 1) :
    lV q k h (ix2 i z) = ∑ j : Fin 1024, eV q k h (ix2 i j) := by
  pointwise [lV]

theorem nV_apply (a : Vec Ideal S64x128 .f32) (l : Vec Ideal S64x1 .f32) (i : Fin 64) (e : Fin 128) :
    nV a l (ix2 i e) = Ideal.div (a (ix2 i e)) (l (ix2 i 0)) := by
  pointwise [nV]

theorem oV_apply (n : Vec Ideal S64x1024 .f32) (wo : Vec Ideal S1024x1024 .f32) (i : Fin 64) (c : Fin 1024) :
    oV n wo (ix2 i c) = ∑ k : Fin 1024, n (ix2 i k) * wo (ix2 k c) := by
  pointwise [oV]

theorem kB_apply (j : Fin 1024) (e : Fin 128) : kB I b h (ix2 j e) = I.k (ix4 b j (grp h) e) := by
  unfold kB
  split
  · rename_i hh
    rw [kV_apply, slk0_apply, show grp h = 0 from Fin.ext (by unfold grp; simp only [Fin.val_zero]; omega)]
  · rename_i hh
    rw [kV_apply, slk1_apply, show grp h = 1 from Fin.ext (by unfold grp; simp only [Fin.val_one]; omega)]

theorem vB_apply (j : Fin 1024) (e : Fin 128) : vB I b h (ix2 j e) = I.v (ix4 b j (grp h) e) := by
  unfold vB
  split
  · rename_i hh
    rw [kV_apply, slk0_apply, show grp h = 0 from Fin.ext (by unfold grp; simp only [Fin.val_zero]; omega)]
  · rename_i hh
    rw [kV_apply, slk1_apply, show grp h = 1 from Fin.ext (by unfold grp; simp only [Fin.val_one]; omega)]

theorem qB_apply (i : Fin 256) (n : Fin 1024) : qB I b (ix2 i n) = Cert.Attn.q I.x I.wq b i n := by
  unfold qB
  rw [qV_apply]
  exact Finset.sum_congr rfl fun e _ => by rw [slx_apply, slw_apply]

/-- The place in the whole sequence of one of a device's keys. -/
def kpos (d : Dev nD) (j : Fin 1024) : Fin 16384 := ⟨d.val * 1024 + j.val, by have : d.val < 16 := d.isLt; omega⟩

/-- A device's keys and values are its part of the whole. -/
def Part (d : Dev nD) (K : Cert.Attn.AK.Idx → EReal) (k : Vec Ideal S4x1024x2x128 .f32) : Prop :=
  ∀ (b : Fin 4) (j : Fin 1024) (g : Fin 2) (e : Fin 128), k (ix4 b j g e) = K (ix4 b (kpos d j) g e)

variable {I} (d : Dev nD) (K V : Cert.Attn.AK.Idx → EReal) (hK : Part d K I.k) (hV : Part d V I.v)
include hK

theorem eB_apply (i : Fin 256) (j : Fin 1024) :
    eV (qB I b) (kB I b h) h (ix2 i j) = Ideal.exp (Cert.Attn.s I.x I.wq K b h i (kpos d j)) := by
  rw [eV_apply]
  refine congrArg (fun z => Ideal.exp (z * sc)) (Finset.sum_congr rfl fun e _ => ?_)
  rw [qB_apply, kB_apply, hK]

theorem lB_apply (i : Fin 256) (z : Fin 1) :
    lB I b h (ix2 i z) = ∑ j : Fin 1024, Ideal.exp (Cert.Attn.s I.x I.wq K b h i (kpos d j)) := by
  unfold lB
  rw [lV_apply]
  exact Finset.sum_congr rfl fun j _ => eB_apply b h d K hK i j

include hV in
theorem aB_apply (i : Fin 256) (e : Fin 128) :
    aB I b h (ix2 i e) = ∑ j : Fin 1024, Ideal.exp (Cert.Attn.s I.x I.wq K b h i (kpos d j)) * V (ix4 b (kpos d j) (grp h) e) := by
  unfold aB
  rw [aV_apply]
  exact Finset.sum_congr rfl fun j _ => by rw [eB_apply b h d K hK i j, vB_apply, hV]

omit hK in
/-- A sum over the sequence, device by device. -/
theorem sum_kpos (f : Fin 16384 → EReal) : ∑ d : Dev nD, ∑ j : Fin 1024, f (kpos d j) = ∑ j, f j := by
  rw [← Finset.sum_product']
  refine Finset.sum_nbij' (fun p => kpos p.1 p.2) (fun j => ((⟨j.val / 1024, by have := j.isLt; show _ < 16; omega⟩ : Dev nD), (⟨j.val % 1024, Nat.mod_lt _ (by decide)⟩ : Fin 1024)))
    (fun _ _ => Finset.mem_univ _) (fun _ _ => by simp) ?_ ?_ (fun _ _ => rfl)
  · rintro ⟨d, j⟩ -
    refine Prod.ext (Fin.ext ?_) (Fin.ext ?_)
    · show (d.val * 1024 + j.val) / 1024 = d.val; omega
    · show (d.val * 1024 + j.val) % 1024 = j.val; omega
  · rintro j -
    refine Fin.ext ?_
    show j.val / 1024 * 1024 + j.val % 1024 = j.val
    omega

end Cert.KernelIdeal.Ring
end
-- ==== Proof.Shift.lean ====
module

public import proofs.«01_k».proof.Proof.Attn

/-! A quotient of weighted sums of exponentials does not change when the same real number is subtracted
from every exponent. The weights may be any extended reals. -/

@[expose] public section

noncomputable section

namespace Cert.Attn

open Idealize.ShloMosaic

/-- A real number among the extended reals. -/
def IsR (y : EReal) : Prop := ∃ r : ℝ, y = (r : EReal)

theorem isR_mul {a b : EReal} (ha : IsR a) (hb : IsR b) : IsR (a * b) := by
  obtain ⟨r, rfl⟩ := ha
  obtain ⟨t, rfl⟩ := hb
  exact ⟨r * t, (EReal.coe_mul r t).symm⟩

theorem isR_sum {ι : Type} (S : Finset ι) (f : ι → EReal) (h : ∀ i, IsR (f i)) : IsR (∑ i ∈ S, f i) := by
  classical
  induction S using Finset.induction_on with
  | empty => exact ⟨0, by simp⟩
  | insert a S ha ih =>
    rw [Finset.sum_insert ha]
    obtain ⟨r, hr⟩ := h a
    obtain ⟨t, ht⟩ := ih
    exact ⟨r + t, by rw [hr, ht, EReal.coe_add]⟩

theorem isR_of_ne {y : EReal} (h1 : y ≠ ⊥) (h2 : y ≠ ⊤) : IsR y := ⟨y.toReal, (EReal.coe_toReal h2 h1).symm⟩

theorem ofBits_neg_inf : Ideal.ofBits .f32 0xFF800000#32 = ⊥ := by
  simp [Ideal.ofBits, Ideal.ieee]

theorem ofBits_pos_inf : Ideal.ofBits .f32 0x7F800000#32 = ⊤ := by
  simp [Ideal.ofBits, Ideal.ieee]

theorem sc_real : IsR sc := by
  unfold sc
  refine ⟨?_, ?_⟩
  rotate_left
  · simp [Ideal.ofBits, Ideal.ieee, -EReal.coe_mul]
    rfl

/-- The greatest of finitely many reals, at least one, is a real. -/
theorem real_fold (f : Fin 16384 → EReal) (h : ∀ j, IsR (f j)) : IsR (Finset.univ.fold max ⊥ f) := by
  apply isR_of_ne
  · apply ne_of_gt
    rw [Finset.lt_fold_max]
    obtain ⟨r, hr⟩ := h 0
    exact Or.inr ⟨0, Finset.mem_univ _, by rw [hr]; exact EReal.bot_lt_coe r⟩
  · apply ne_of_lt
    rw [Finset.fold_max_lt]
    refine ⟨bot_lt_top, fun j _ => ?_⟩
    obtain ⟨r, hr⟩ := h j
    rw [hr]
    exact EReal.coe_lt_top r

theorem mul_sum_real {ι : Type} (r : ℝ) (hr : 0 ≤ r) (S : Finset ι) (f : ι → EReal) :
    ∑ i ∈ S, (r : EReal) * f i = (r : EReal) * ∑ i ∈ S, f i := by
  classical
  induction S using Finset.induction_on with
  | empty => simp
  | insert a S ha ih =>
    rw [Finset.sum_insert ha, Finset.sum_insert ha, ih,
      EReal.left_distrib_of_nonneg_of_ne_top (EReal.coe_nonneg.mpr hr) (EReal.coe_ne_top r)]

theorem div_scale (r : ℝ) (hr : 0 < r) (a : EReal) (l : ℝ) (hl : 0 < l) :
    Ideal.div ((r : EReal) * a) ((r : EReal) * (l : EReal)) = Ideal.div a (l : EReal) := by
  rw [← EReal.coe_mul, Ideal.div_coe (mul_pos hr hl).ne', Ideal.div_coe hl.ne', mul_comm (r : EReal) a, mul_assoc, ← EReal.coe_mul]
  congr 2
  field_simp

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem sum_exp_real (t : Fin 16384 → ℝ) : ∃ l : ℝ, 0 < l ∧ ∑ j, Ideal.exp (t j : EReal) = (l : EReal) := by
  refine ⟨∑ j, Real.exp (t j), Finset.sum_pos (fun j _ => Real.exp_pos _) ⟨0, Finset.mem_univ _⟩, ?_⟩
  exact (coe_sum _ _).symm

theorem shift (f v : Fin 16384 → EReal) (hf : ∀ j, IsR (f j)) (M : EReal) (hM : IsR M) :
    Ideal.div (∑ j, Ideal.exp (f j - M) * v j) (∑ j, Ideal.exp (f j - M))
      = Ideal.div (∑ j, Ideal.exp (f j) * v j) (∑ j, Ideal.exp (f j)) := by
  obtain ⟨m, rfl⟩ := hM
  choose t ht using hf
  have e : ∀ j, Ideal.exp (f j - (m : EReal)) = (Real.exp (-m) : EReal) * Ideal.exp (f j) := fun j => by
    rw [ht j, ← EReal.coe_sub, Ideal.exp_coe, Ideal.exp_coe, ← EReal.coe_mul, ← Real.exp_add]
    congr 2
    ring
  obtain ⟨l, hl, hL⟩ := sum_exp_real t
  have hL' : ∑ j, Ideal.exp (f j) = (l : EReal) := by rw [← hL]; exact Finset.sum_congr rfl fun j _ => by rw [ht j]
  rw [Finset.sum_congr rfl fun j _ => congrArg (· * v j) (e j), Finset.sum_congr rfl fun j _ => e j]
  simp only [mul_assoc]
  rw [mul_sum_real _ (Real.exp_pos _).le, mul_sum_real _ (Real.exp_pos _).le, hL']
  exact div_scale _ (Real.exp_pos _) _ l hl

variable (x : AX.Idx → EReal) (wq wo : AW.Idx → EReal) (K V : AK.Idx → EReal)

theorem s_real (hx : ∀ i, IsR (x i)) (hw : ∀ i, IsR (wq i)) (hK : ∀ i, IsR (K i)) (b : Fin 4) (h : Fin 8) (i : Fin 256) (j : Fin 16384) :
    IsR (s x wq K b h i j) :=
  isR_mul (isR_sum _ _ fun e => isR_mul (isR_sum _ _ fun k => isR_mul (hx _) (hw _)) (hK _)) sc_real

end Cert.Attn
end
-- ==== Proof.RingSum.lean ====
module

public import proofs.«01_k».proof.Proof.LocalValue
public import proofs.«01_k».proof.Proof.Shift

/-! Over the extended reals the two reduction streams add each device's sums once, so what every device
computes is the whole function's. -/

@[expose] public section

noncomputable section

namespace Cert.KernelIdeal.Ring

open Idealize.ShloMosaic
open Facts₀ Facts
open Cert.KernelIdeal.Gen (facts facts₀)
open Cert.Attn (grp hcol hd pl bt pr sc)

/-- The row of a chunk's piece. -/
def rowOf (k : ℕ) (hk : k < 16) (s : Fin 4) (j : S16x1152.Idx) : S1024x1152.Idx :=
  ValueIdx.ix2 (n0 := 1024) (n1 := 1152) ⟨64 * k + 16 * s.val + (j 0).val, by have : (j 0).val < 16 := (j 0).isLt; omega⟩ (j 1)

theorem rowOf_congr {k k' : ℕ} (h : k = k') (hk : k < 16) (hk' : k' < 16) (s : Fin 4) (j : S16x1152.Idx) :
    rowOf k hk s j = rowOf k' hk' s j := by subst h; rfl

theorem rowAt_eq (c : Dev nD) (e : ℕ) (s : Fin 4) (j : S16x1152.Idx) : rowAt c e s j = rowOf (ch c e) (ch_lt c e) s j := rfl

theorem atP_congr {p p' : ℕ} (h : p % 16 = p' % 16) : atP p = atP p' := by unfold atP; simp only [h]

variable (I : Dev nD → Inp Ideal)

theorem LW_eq (s : Fin 4) (j : S16x1152.Idx) : ∀ (t : ℕ) (c : Dev nD),
    LW I t c s j = ∑ i ∈ Finset.range (t + 1), ownS (I (atP (pos c + i))) (rowOf (ch c (9 + t)) (ch_lt _ _) s j)
  | 0, c => by
    rw [Finset.sum_range_one, Nat.add_zero, atP_pos]
    rfl
  | t + 1, c => by
    rw [Finset.sum_range_succ', Nat.add_zero (pos c), atP_pos]
    show (_ : EReal) + LW I t (rd c) s j = _
    rw [LW_eq s j t (rd c), add_comm]
    have e : ch c (9 + (t + 1)) = ch (rd c) (9 + t) := by rw [ch_rd]; rfl
    refine congrArg₂ (· + ·) (Finset.sum_congr rfl fun i _ => ?_) ?_
    · rw [rowOf_congr e _ (ch_lt _ _), atP_congr (p := pos (rd c) + i) (p' := pos c + (i + 1)) (by rw [pos_rd]; omega)]
    · show ownS (I c) (rowAt c (10 + t) s j) = _
      rw [rowAt_eq, rowOf_congr (show ch c (10 + t) = ch c (9 + (t + 1)) from congrArg (ch c) (by omega)) _ (ch_lt _ _)]

theorem RW_eq (s : Fin 4) (j : S16x1152.Idx) : ∀ (t : ℕ) (ht : t ≤ 6) (c : Dev nD),
    RW I t c s j = ∑ i ∈ Finset.range (t + 1), ownS (I (atP (pos c + 15 * i))) (rowOf (ch c (8 - t)) (ch_lt _ _) s j)
  | 0, _, c => by
    rw [Finset.sum_range_one, Nat.mul_zero, Nat.add_zero, atP_pos]
    rfl
  | t + 1, ht, c => by
    rw [Finset.sum_range_succ', Nat.mul_zero, Nat.add_zero (pos c), atP_pos]
    show (_ : EReal) + RW I t (ld c) s j = _
    rw [RW_eq s j t (by omega) (ld c), add_comm]
    have e : ch c (8 - (t + 1)) = ch (ld c) (8 - t) := by
      rw [show 8 - t = (8 - (t + 1)) + 1 by omega, ch_ld]
    refine congrArg₂ (· + ·) (Finset.sum_congr rfl fun i _ => ?_) ?_
    · rw [rowOf_congr e _ (ch_lt _ _), atP_congr (p := pos (ld c) + 15 * i) (p' := pos c + 15 * (i + 1)) (by rw [pos_ld]; omega)]
    · show ownS (I c) (rowAt c (7 - t) s j) = _
      rw [rowAt_eq, rowOf_congr (show ch c (7 - t) = ch c (8 - (t + 1)) from congrArg (ch c) (by omega)) _ (ch_lt _ _)]

/-- The devices, from one on, round the ring. -/
theorem sum_ring (f : Dev nD → EReal) (p : ℕ) : ∑ d : Dev nD, f d = ∑ i ∈ Finset.range 16, f (atP (p + i)) := by
  rw [← Fin.sum_univ_eq_sum_range (fun i => f (atP (p + i))) 16]
  symm
  refine Fintype.sum_bijective (fun i : Fin 16 => atP (p + i.val)) ?_ _ _ (fun _ => rfl)
  rw [Fintype.bijective_iff_injective_and_card]
  refine ⟨fun a b hab => ?_, rfl⟩
  have h := congrArg pos hab
  simp only [pos_atP] at h
  exact Fin.ext (by have := a.isLt; have := b.isLt; omega)

theorem finL_eq (c : Dev nD) (s : Fin 4) (j : S16x1152.Idx) :
    finL I c s j = ∑ d : Dev nD, ownS (I d) (rowOf (ch c 1) (ch_lt _ _) s j) := by
  show ((ownS (I c) (rowAt c 1 s j) : EReal) + RW I 6 (ld c) s j) + LW I 7 (rd c) s j = _
  rw [RW_eq I s j 6 (le_refl _), LW_eq, rowAt_eq]
  have e1 : ch (ld c) (8 - 6) = ch c 1 := ch_ld c 1
  have e2 : ch (rd c) (9 + 7) = ch c 1 := by rw [ch_rd]; exact ch_mod c 1
  rw [rowOf_congr e1 _ (ch_lt c 1), rowOf_congr e2 _ (ch_lt c 1)]
  generalize rowOf (ch c 1) (ch_lt c 1) s j = r
  rw [sum_ring (fun d => ownS (I d) r) (pos c)]
  have a1 : ∀ i ∈ Finset.range (6 + 1), (ownS (I (atP (pos (ld c) + 15 * i))) r : EReal) = ownS (I (atP (pos c + (15 - i)))) r :=
    fun i hi => by
      have := Finset.mem_range.1 hi
      rw [atP_congr (p := pos (ld c) + 15 * i) (p' := pos c + (15 - i)) (by rw [pos_ld]; omega)]
  have a2 : ∀ i ∈ Finset.range (7 + 1), (ownS (I (atP (pos (rd c) + i))) r : EReal) = ownS (I (atP (pos c + (i + 1)))) r :=
    fun i hi => by
      rw [atP_congr (p := pos (rd c) + i) (p' := pos c + (i + 1)) (by rw [pos_rd]; omega)]
  rw [Finset.sum_congr rfl a1, Finset.sum_congr rfl a2]
  have a3 : (ownS (I c) r : EReal) = ownS (I (atP (pos c + 0))) r := by rw [Nat.add_zero, atP_pos]
  rw [a3]
  generalize hg : (fun i => (ownS (I (atP (pos c + i))) r : EReal)) = g
  have hg' : ∀ i, (ownS (I (atP (pos c + i))) r : EReal) = g i := fun i => by rw [← hg]
  simp only [hg']
  simp only [Finset.sum_range_succ, Finset.sum_range_zero, zero_add]
  norm_num
  abel

theorem finS_eq (c : Dev nD) (r : Fin 64) (k : Fin 1152) :
    finS I c 4 4 (chunkAt c r k) = ∑ d : Dev nD, ownS (I d) (chunkAt c r k) := by
  have h0 : (chunkAt c r k 0).val = 64 * ch c 1 + r.val := rfl
  unfold finS
  rw [if_pos (by rw [h0]; omega), if_pos (subOf _).isLt, finL_eq]
  refine Finset.sum_congr rfl fun d _ => congrArg (ownS (I d)) ?_
  funext a
  match a with
  | ⟨0, _⟩ =>
    refine Fin.ext ?_
    show 64 * ch c 1 + 16 * ((chunkAt c r k 0).val / 16 % 4) + (chunkAt c r k 0).val % 16 = (chunkAt c r k 0).val
    rw [h0]; omega
  | ⟨1, _⟩ => rfl

variable (x : Cert.Attn.AX.Idx → EReal) (wq wo : Cert.Attn.AW.Idx → EReal) (K V : Cert.Attn.AK.Idx → EReal)

/-- The devices' inputs: the same queries and weights everywhere, each device its part of the keys and values. -/
structure Cut : Prop where
  x : ∀ d, (I d).x = x
  wq : ∀ d, (I d).wq = wq
  wo : ∀ d, (I d).wo = wo
  k : ∀ d, Part d K (I d).k
  v : ∀ d, Part d V (I d).v

variable {I x wq wo K V} (H : Cut I x wq wo K V)
include H

/-- The row of the chunk of device `c`. -/
def crow (c : Dev nD) (i : Fin 64) : Fin 1024 := ⟨64 * ch c 1 + i.val, by have := ch_lt c 1; omega⟩

theorem lC_apply (c : Dev nD) (h : Fin 8) (i : Fin 64) (z : Fin 1) :
    lC I c h (ix2 i z) = Cert.Attn.L x wq K (bt (crow c i)) h (pr (crow c i)) := by
  show finS I c 4 4 (chunkAt c i ⟨1024 + h.val, by omega⟩) = _
  rw [finS_eq]
  unfold Cert.Attn.L
  rw [← sum_kpos]
  refine Finset.sum_congr rfl fun d _ => ?_
  rw [← H.x d, ← H.wq d, ← lB_apply (I := I d) _ h d K (H.k d) _ 0, ix2_eq_valueIdx]
  unfold ownS
  rw [dif_neg (by show ¬ (1024 + h.val < 1024); omega)]
  rw [show (⟨(chunkAt c i ⟨1024 + h.val, by omega⟩ 1).val % 8, Nat.mod_lt _ (by decide)⟩ : Fin 8) = h from
    Fin.ext (by show (1024 + h.val) % 8 = h.val; omega)]
  rfl

theorem aC_apply (c : Dev nD) (h : Fin 8) (i : Fin 64) (e : Fin 128) :
    aC I c h (ix2 i e) = Cert.Attn.A x wq K V (bt (crow c i)) h (pr (crow c i)) e := by
  show finS I c 4 4 (chunkAt c i ⟨128 * h.val + e.val, by omega⟩) = _
  rw [finS_eq]
  unfold Cert.Attn.A
  rw [← sum_kpos]
  refine Finset.sum_congr rfl fun d _ => ?_
  rw [← H.x d, ← H.wq d, ← aB_apply (I := I d) _ h d K V (H.k d) (H.v d), ix2_eq_valueIdx]
  unfold ownS
  rw [dif_pos (by show 128 * h.val + e.val < 1024; omega)]
  have hq : 128 * h.val + e.val < 1152 := by omega
  have e1 : ∀ p : (chunkAt c i ⟨128 * h.val + e.val, hq⟩ 1).val / 128 < 8, (⟨(chunkAt c i ⟨128 * h.val + e.val, hq⟩ 1).val / 128, p⟩ : Fin 8) = h := fun p =>
    Fin.ext (by show (128 * h.val + e.val) / 128 = h.val; omega)
  have e2 : ∀ p : (chunkAt c i ⟨128 * h.val + e.val, hq⟩ 1).val % 128 < 128, (⟨(chunkAt c i ⟨128 * h.val + e.val, hq⟩ 1).val % 128, p⟩ : Fin 128) = e := fun p =>
    Fin.ext (by show (128 * h.val + e.val) % 128 = e.val; omega)
  rw [e1, e2]
  rfl

theorem nC_apply (c : Dev nD) (i : Fin 64) (k : Fin 1024) : nC I c (ix2 i k) = Cert.Attn.n x wq K V (crow c i) k := by
  show nV (aC I c (hd k)) (lC I c (hd k)) (ValueIdx.ix2 i (pl k)) = _
  rw [← ix2_eq_valueIdx, nV_apply, aC_apply H, lC_apply H]
  rfl

theorem oC_apply (c : Dev nD) (i : Fin 64) (k : Fin 1024) : oC I c (ix2 i k) = Cert.Attn.out x wq wo K V (crow c i) k := by
  unfold oC
  rw [oV_apply]
  refine Finset.sum_congr rfl fun n _ => ?_
  rw [sln_apply, slw_apply, nC_apply H, H.wo]

/-- Every device's result. -/
theorem outV_apply (c : Dev nD) (r k : Fin 1024) : outV I c (ix2 r k) = Cert.Attn.out x wq wo K V r k := by
  have key : ∀ c' : Dev nD, ch c' 1 = r.val / 64 → oC I c' (inChunk (ix2 r k)) = Cert.Attn.out x wq wo K V r k := fun c' hc => by
    have e : inChunk (ix2 r k) = ix2 (⟨r.val % 64, Nat.mod_lt _ (by decide)⟩ : Fin 64) k := (ix2_eq_valueIdx _ _).symm
    rw [e, oC_apply H]
    congr 1
    refine Fin.ext ?_
    show 64 * ch c' 1 + r.val % 64 = r.val
    rw [hc]; omega
  unfold outV
  split
  · rename_i h
    exact key c h.symm
  · show obV (oC I (owner (r.val / 64))) (inChunk (ix2 r k)) = _
    unfold obV
    rw [shapeCast_self]
    refine key _ ?_
    unfold ch owner
    rw [pos_atP]
    have := r.isLt
    omega

end Cert.KernelIdeal.Ring
end
-- ==== Proof.Inputs.lean ====
module

public import proofs.«01_k».proof.Proof.Sixteen
public import proofs.«01_k».proof.Proof.RingSum
public import Idealize.ShloMosaic.Lib.Layout

/-! A device reads its whole argument arrays; when these are its parts of the reference's arrays, every
device's result is the function of them. -/

@[expose] public section

noncomputable section

namespace Cert.KernelIdeal.Ring

open Idealize.ShloMosaic Idealize.SL.Sem
open Facts₀ Facts
open Cert.KernelIdeal.Gen (facts facts₀)

variable (m : (ℓ : Loc nD τ sig) → Buf (Elt Ideal) ℓ) (c : Dev nD)

theorem inp_x : (inp m c).x = m ((c.tc : Thread nD τ).loc main_arg0) := by
  funext i
  refine congrArg (m ((c.tc : Thread nD τ).loc main_arg0)) (funext fun a => Fin.ext ?_)
  match a with
  | ⟨0, _⟩ => show 0 * 4 + 1 * (i 0).val = (i 0).val; omega
  | ⟨1, _⟩ => show 0 * 256 + 1 * (i 1).val = (i 1).val; omega
  | ⟨2, _⟩ => show 0 * 1024 + 1 * (i 2).val = (i 2).val; omega

theorem inp_wq : (inp m c).wq = m ((c.tc : Thread nD τ).loc main_arg1) := by
  funext i
  refine congrArg (m ((c.tc : Thread nD τ).loc main_arg1)) (funext fun a => Fin.ext ?_)
  match a with
  | ⟨0, _⟩ => show 0 * 1024 + 1 * (i 0).val = (i 0).val; omega
  | ⟨1, _⟩ => show 0 * 1024 + 1 * (i 1).val = (i 1).val; omega

theorem inp_wo : (inp m c).wo = m ((c.tc : Thread nD τ).loc main_arg2) := by
  funext i
  refine congrArg (m ((c.tc : Thread nD τ).loc main_arg2)) (funext fun a => Fin.ext ?_)
  match a with
  | ⟨0, _⟩ => show 0 * 1024 + 1 * (i 0).val = (i 0).val; omega
  | ⟨1, _⟩ => show 0 * 1024 + 1 * (i 1).val = (i 1).val; omega

theorem inp_k : (inp m c).k = m ((c.tc : Thread nD τ).loc main_arg3) := by
  funext i
  refine congrArg (m ((c.tc : Thread nD τ).loc main_arg3)) (funext fun a => Fin.ext ?_)
  match a with
  | ⟨0, _⟩ => show 0 * 4 + 1 * (i 0).val = (i 0).val; omega
  | ⟨1, _⟩ => show 0 * 1024 + 1 * (i 1).val = (i 1).val; omega
  | ⟨2, _⟩ => show 0 * 2 + 1 * (i 2).val = (i 2).val; omega
  | ⟨3, _⟩ => show 0 * 128 + 1 * (i 3).val = (i 3).val; omega

theorem inp_v : (inp m c).v = m ((c.tc : Thread nD τ).loc main_arg4) := by
  funext i
  refine congrArg (m ((c.tc : Thread nD τ).loc main_arg4)) (funext fun a => Fin.ext ?_)
  match a with
  | ⟨0, _⟩ => show 0 * 4 + 1 * (i 0).val = (i 0).val; omega
  | ⟨1, _⟩ => show 0 * 1024 + 1 * (i 1).val = (i 1).val; omega
  | ⟨2, _⟩ => show 0 * 2 + 1 * (i 2).val = (i 2).val; omega
  | ⟨3, _⟩ => show 0 * 128 + 1 * (i 3).val = (i 3).val; omega

theorem part_of (d : Fin 16) (K : Cert.Attn.AK.Idx → EReal) (k : Vec Ideal S4x1024x2x128 .f32)
    (h : k = Layout.block ⟨4, ![4, 1024, 2, 128]⟩ ⟨4, ![4, 16384, 2, 128]⟩ 1 16 d K) : Part d K k := by
  intro b j g e
  rw [h]
  refine congrArg K (funext fun a => Fin.ext ?_)
  match a with
  | ⟨0, _⟩ => rfl
  | ⟨1, _⟩ => rfl
  | ⟨2, _⟩ => rfl
  | ⟨3, _⟩ => rfl

variable {m}

theorem cut_of {x : Cert.Attn.AX.Idx → EReal} {wq wo : Cert.Attn.AW.Idx → EReal} {K V : Cert.Attn.AK.Idx → EReal}
    (h : ∀ c : Dev nD, m ((c.tc : Thread nD τ).loc main_arg0) = x ∧ m ((c.tc : Thread nD τ).loc main_arg1) = wq
      ∧ m ((c.tc : Thread nD τ).loc main_arg2) = wo
      ∧ m ((c.tc : Thread nD τ).loc main_arg3) = Layout.block ⟨4, ![4, 1024, 2, 128]⟩ ⟨4, ![4, 16384, 2, 128]⟩ 1 16 c K
      ∧ m ((c.tc : Thread nD τ).loc main_arg4) = Layout.block ⟨4, ![4, 1024, 2, 128]⟩ ⟨4, ![4, 16384, 2, 128]⟩ 1 16 c V) :
    Cut (inp m) x wq wo K V where
  x := fun d => (inp_x m d).trans (h d).1
  wq := fun d => (inp_wq m d).trans (h d).2.1
  wo := fun d => (inp_wo m d).trans (h d).2.2.1
  k := fun d => part_of d K _ ((inp_k m d).trans (h d).2.2.2.1)
  v := fun d => part_of d V _ ((inp_v m d).trans (h d).2.2.2.2)

/-- An array of which every device holds a part of real numbers is one of real numbers. -/
theorem isR_of_parts {K : Cert.Attn.AK.Idx → EReal} (k : Dev nD → Vec Ideal S4x1024x2x128 .f32) (hk : ∀ d, Part d K (k d))
    (hr : ∀ d i, Cert.Attn.IsR (k d i)) (i : Cert.Attn.AK.Idx) : Cert.Attn.IsR (K i) := by
  have h1 : (i 1).val < 16384 := (i 1).isLt
  obtain ⟨b, hb⟩ : ∃ b : Fin 4, b = i 0 := ⟨_, rfl⟩
  obtain ⟨g, hg⟩ : ∃ g : Fin 2, g = i 2 := ⟨_, rfl⟩
  obtain ⟨z, hz⟩ : ∃ z : Fin 128, z = i 3 := ⟨_, rfl⟩
  have e : i = ix4 b (kpos (⟨(i 1).val / 1024, by omega⟩ : Fin 16) ⟨(i 1).val % 1024, Nat.mod_lt _ (by decide)⟩) g z := by
    subst hb hg hz
    funext a
    match a with
    | ⟨0, _⟩ => rfl
    | ⟨1, _⟩ =>
      refine Fin.ext ?_
      show (i 1).val = (i 1).val / 1024 * 1024 + (i 1).val % 1024
      omega
    | ⟨2, _⟩ => rfl
    | ⟨3, _⟩ => rfl
  rw [e]
  exact hk _ _ _ _ _ ▸ hr _ _

end Cert.KernelIdeal.Ring
end
-- ==== Proof.RefValue.lean ====
module

public import proofs.«01_k».proof.Proof.Shift
public import proofs.«01_k».proof.Proof.Gen.ReferenceIdeal

/-! The reference's arrays, read at an index. -/

@[expose] public section

noncomputable section

namespace Cert.ReferenceIdeal.Val

open Idealize.ShloMosaic Cert.ReferenceIdeal Cert.Attn
open Facts₀ Facts
open Cert.ReferenceIdeal.Gen (facts facts₀)

abbrev A (s : Shape) := FVec Ideal s .f32

/-- The scaled scores. -/
def rS (x : A S4x256x1024) (wq : A S1024x1024) (K : A S4x16384x2x128) : A S4x8x256x16384 :=
  mulf (Host.dotGeneral dot_S4x256x8x128_S4x16384x8x128_S4x8x256x16384_3_3_1_1_02_02 none (shapeCast _ (Host.dotGeneral dot_S4x256x1024_S1024x1024_S4x256x1024_2_0_01_1_n_n none x wq) shapeCasts_S4x256x1024_S4x256x8x128) (shapeCast _ (broadcastInDim S4x16384x2x4x128 ![0, 1, 2, 4] bcast_S4x16384x2x128_S4x16384x2x4x128_0_1_2_4 K) shapeCasts_S4x16384x2x4x128_S4x16384x8x128)) (broadcastInDim S4x8x256x16384 ![] bcast_S_S4x8x256x16384 (constant S_ .f32 0x3DB504F3#32))

/-- The greatest score of a row. -/
def rM (S : A S4x8x256x16384) : A S4x8x256 :=
  Host.reduce FloatOps.maximumf S (constant S_ .f32 0xFF800000#32) reducesTo_S4x8x256x16384_S4x8x256_d3 h_S_

/-- The shifted exponentials. -/
def rE (S : A S4x8x256x16384) : A S4x8x256x16384 :=
  Host.exp (subf S (broadcastInDim S4x8x256x16384 ![0, 1, 2, 3] bcast_S4x8x256x1_S4x8x256x16384_0_1_2_3 (broadcastInDim S4x8x256x1 ![0, 1, 2] bcast_S4x8x256_S4x8x256x1_0_1_2 (rM S))))

/-- The quotient, before the reshape. -/
def rN (E : A S4x8x256x16384) (V : A S4x16384x2x128) : A S4x256x8x128 :=
  Host.divf (transpose S4x256x8x128 [0, 3, 1, 2] (Host.dotGeneral dot_S4x16384x8x128_S4x8x256x16384_S4x8x128x256_1_3_3_2_02_01 none (shapeCast _ (broadcastInDim S4x16384x2x4x128 ![0, 1, 2, 4] bcast_S4x16384x2x128_S4x16384x2x4x128_0_1_2_4 V) shapeCasts_S4x16384x2x4x128_S4x16384x8x128) E) transposes_S4x8x128x256_S4x256x8x128_0_3_1_2) (broadcastInDim S4x256x8x128 ![0, 1, 2, 3] bcast_S4x256x8x1_S4x256x8x128_0_1_2_3 (transpose S4x256x8x1 [0, 2, 1, 3] (broadcastInDim S4x8x256x1 ![0, 1, 2] bcast_S4x8x256_S4x8x256x1_0_1_2 (Host.reduceAdd E (constant S_ .f32 0x00000000#32) reducesTo_S4x8x256x16384_S4x8x256_d3 h_S_)) transposes_S4x8x256x1_S4x256x8x1_0_2_1_3))

/-- The result. -/
def rO (N : A S4x256x8x128) (wo : A S1024x1024) : A S1024x1024 :=
  shapeCast _ (Host.dotGeneral dot_S4x256x1024_S1024x1024_S4x256x1024_2_0_01_1_n_n none (shapeCast _ N shapeCasts_S4x256x8x128_S4x256x1024) wo) shapeCasts_S4x256x1024_S1024x1024

theorem rS_apply (x : A S4x256x1024) (wq : A S1024x1024) (K : A S4x16384x2x128) (b : Fin 4) (h : Fin 8) (i : Fin 256) (j : Fin 16384) :
    rS x wq K (ix4 b h i j) = s x wq K b h i j := by
  pointwise [rS]
  rfl

theorem rM_apply (S : A S4x8x256x16384) (b : Fin 4) (h : Fin 8) (i : Fin 256) :
    rM S (ix3 b h i) = Finset.univ.fold max (Ideal.ofBits .f32 0xFF800000#32) (fun j : Fin 16384 => S (ix4 b h i j)) := by
  pointwise [rM]

theorem rE_apply (S : A S4x8x256x16384) (b : Fin 4) (h : Fin 8) (i : Fin 256) (j : Fin 16384) :
    rE S (ix4 b h i j) = Ideal.exp (S (ix4 b h i j) - rM S (ix3 b h i)) := by
  pointwise [rE]

theorem rN_apply (E : A S4x8x256x16384) (V : A S4x16384x2x128) (b : Fin 4) (h : Fin 8) (i : Fin 256) (e : Fin 128) :
    rN E V (ix4 b i h e) = Ideal.div (∑ j : Fin 16384, E (ix4 b h i j) * V (ix4 b j (grp h) e)) (∑ j : Fin 16384, E (ix4 b h i j)) := by
  pointwise [rN]
  refine congrArg₂ Ideal.div (Finset.sum_congr rfl fun j _ => ?_) rfl
  exact mul_comm _ _

theorem rO_apply (N : A S4x256x8x128) (wo : A S1024x1024) (r c : Fin 1024) :
    rO N wo (ix2 r c) = ∑ k : Fin 1024, N (ix4 (bt r) (pr r) (hd k) (pl k)) * wo (ix2 k c) := by
  pointwise [rO]
  rfl

/-- The reference's result, of finite inputs, queries' weights and keys. -/
theorem ref_apply (x : A S4x256x1024) (wq wo : A S1024x1024) (K V : A S4x16384x2x128)
    (hx : ∀ i, IsR (x i)) (hw : ∀ i, IsR (wq i)) (hK : ∀ i, IsR (K i)) (r c : Fin 1024) :
    rO (rN (rE (rS x wq K)) V) wo (ix2 r c) = out x wq wo K V r c := by
  rw [rO_apply]
  refine Finset.sum_congr rfl fun k _ => congrArg (· * wo (ix2 k c)) ?_
  rw [rN_apply]
  have hS : ∀ j, IsR (s x wq K (bt r) (hd k) (pr r) j) := fun j => s_real x wq K hx hw hK _ _ _ _
  have hM : IsR (rM (rS x wq K) (ix3 (bt r) (hd k) (pr r))) := by
    rw [rM_apply, ofBits_neg_inf]
    exact real_fold _ fun j => by rw [rS_apply]; exact hS j
  have hE : ∀ j, rE (rS x wq K) (ix4 (bt r) (hd k) (pr r) j)
      = Ideal.exp (s x wq K (bt r) (hd k) (pr r) j - rM (rS x wq K) (ix3 (bt r) (hd k) (pr r))) := fun j => by
    rw [rE_apply, rS_apply]
  rw [Finset.sum_congr rfl fun j _ => congrArg (· * V (ix4 (bt r) j (grp (hd k)) (pl k))) (hE j),
    Finset.sum_congr rfl fun j _ => hE j]
  exact shift _ _ hS _ hM

end Cert.ReferenceIdeal.Val
end
-- ==== Proof.Finite.lean ====
module

public import proofs.«01_k».proof.Pre_finite_KernelIdeal
public import proofs.«01_k».proof.Proof.Shift
public import Idealize.ShloMosaic.Lib.ReduceAll

/-! What the precondition says of one device's arrays: every element of the queries' input, of their
weights and of the keys is a real number. -/

@[expose] public section

noncomputable section

namespace Cert.Attn

open Idealize.ShloMosaic Cert.Pre_finite_KernelIdeal

theorem isR_of_lt {y : EReal} (h : Ideal.cmp .olt (max y (-y)) (Ideal.ofBits .f32 0x7F800000#32) = 1#1) : IsR y := by
  rw [ofBits_pos_inf] at h
  have h' : max y (-y) < ⊤ := by
    by_contra hn
    simp [Ideal.cmp, hn] at h
  rw [max_lt_iff] at h'
  refine isR_of_ne (fun e => ?_) h'.1.ne
  rw [e, EReal.neg_bot] at h'
  exact lt_irrefl _ h'.2

instance : Subsingleton S_.Idx := ⟨fun a b => funext fun i => i.elim0⟩

theorem finite_of [Facts] (x : FVec Ideal S4x256x1024 .f32) (wq wo : FVec Ideal S1024x1024 .f32) (k v : FVec Ideal S4x1024x2x128 .f32)
    (h : fn (F := Ideal) x wq wo k v = fun _ => 1#1) : (∀ i, IsR (x i)) ∧ (∀ i, IsR (wq i)) ∧ ∀ i, IsR (k i) := by
  have h0 := congrFun h ix0
  obtain ⟨h1, h2⟩ := IntOp.andi_eq_one.1 h0
  obtain ⟨h3, h4⟩ := IntOp.andi_eq_one.1 h1
  exact ⟨fun i => isR_of_lt (Host.reduce_andi_all _ _ _ _ _ h3 i), fun i => isR_of_lt (Host.reduce_andi_all _ _ _ _ _ h4 i),
    fun i => isR_of_lt (Host.reduce_andi_all _ _ _ _ _ h2 i)⟩

end Cert.Attn
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Inputs
public import proofs.«01_k».proof.Proof.RefValue
public import proofs.«01_k».proof.Proof.Finite

@[expose] public section

noncomputable section

namespace Cert.Proof

open Idealize.ShloMosaic Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_finite_KernelIdeal.Facts := Cert.Pre_finite_KernelIdeal.Gen.facts
local instance : Cert.Pre_finite_ReferenceIdeal.Facts := Cert.Pre_finite_ReferenceIdeal.Gen.facts

theorem frame_ideal : Cert.quiescent_KernelIdeal := fun m g _ =>
  (θ_run (Cert.KernelIdeal.defs (F := Ideal)) _ _).mono (fun _ h => ⟨fun c => (h.1 c).2, h.2⟩) (Cert.KernelIdeal.Ring.run_main (F := Ideal) m g)

section
variable {F : FTy → Type} [FloatOps F]

set_option maxRecDepth 100000 in
theorem same_body : Cert.Kernel.cc0_body (F := F) = Cert.KernelIdeal.cc0_body := rfl
theorem same_defs₀ : Cert.Kernel.defs₀ (F := F) = Cert.KernelIdeal.defs₀ := by
  have h := same_body (F := F)
  unfold Cert.Kernel.defs₀ Cert.KernelIdeal.defs₀
  refine congrArg Defs.onTc (funext fun ℓ => funext fun a => ?_)
  match ℓ, a with
  | ⟨0, _⟩, (t, s) =>
    simp only
    rw [h]
theorem same_defs : Cert.Kernel.defs (F := F) = Cert.KernelIdeal.defs :=
  congrArg (Pipeline.defs Cert.KernelIdeal.pcfgs) same_defs₀
end

theorem frame_bits {d} (h : d = Cert.KernelIdeal.defs (F := Bits)) (m : (ℓ : Loc Cert.KernelIdeal.nD Cert.KernelIdeal.τ Cert.KernelIdeal.sig) → Buf (Elt Bits) ℓ)
    (g : Dev Cert.KernelIdeal.nD → PrngReg) :
    θ_run d (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  h ▸ (θ_run (Cert.KernelIdeal.defs (F := Bits)) _ _).mono (fun _ h => ⟨fun c => (h.1 c).2, h.2⟩) (Cert.KernelIdeal.Ring.run_main (F := Bits) m g)

/-- The printed program and the idealized one are the same text, so the same run serves both. -/
theorem frame_kernel : Cert.quiescent_Kernel := fun m g _ => frame_bits same_defs m g

theorem no_sem (x : GSem Cert.ReferenceIdeal.nD Cert.ReferenceIdeal.τ Cert.ReferenceIdeal.sig) : False := by
  rcases x with ⟨_, s | s⟩ <;> exact s.elim0

theorem frame_reference : Cert.quiescent_ReferenceIdeal := fun m g _ =>
  (θ_run (Cert.ReferenceIdeal.defs (F := Ideal)) _ _).mono (fun _ h => ⟨fun c => (h c).2, funext fun x => (no_sem x).elim⟩)
    (Cert.ReferenceIdeal.Value.run (F := Ideal) m g)

section
open Cert.KernelIdeal.Ring Cert.Attn

/-- The function of the reference's arrays. -/
def attn (x : AX.Idx → EReal) (wq wo : AW.Idx → EReal) (K V : AK.Idx → EReal) : AW.Idx → EReal := fun i => out x wq wo K V (i 0) (i 1)

theorem kernel_attn {I : Dev Cert.KernelIdeal.nD → Inp Ideal} {x : AX.Idx → EReal} {wq wo : AW.Idx → EReal} {K V : AK.Idx → EReal}
    (H : Cut I x wq wo K V) (c : Dev Cert.KernelIdeal.nD) : outV I c = attn x wq wo K V := by
  funext i
  have e : ∀ j : AW.Idx, outV I c j = attn x wq wo K V j := fun j => by
    rw [eq_ix2 j]
    exact outV_apply H c (j 0) (j 1)
  exact e i

open Cert.ReferenceIdeal.Val in
theorem ref_attn (x : AX.Idx → EReal) (wq wo : AW.Idx → EReal) (K V : AK.Idx → EReal)
    (hx : ∀ i, IsR (x i)) (hw : ∀ i, IsR (wq i)) (hK : ∀ i, IsR (K i)) : rO (rN (rE (rS x wq K)) V) wo = attn x wq wo K V := by
  funext i
  rw [eq_ix2 i]
  exact ref_apply x wq wo K V hx hw hK (i 0) (i 1)

set_option maxRecDepth 100000 in
theorem algebraic : Cert.algebraic_KernelIdeal_ReferenceIdeal_pre_finite_KernelIdeal := by
  intro m g m' g' hpre harg
  have H := cut_of harg
  have hf := fun c => finite_of _ _ _ _ _ (hpre c)
  have hx : ∀ i, IsR (m' (((0 : Dev Cert.ReferenceIdeal.nD).tc : Thread Cert.ReferenceIdeal.nD Cert.ReferenceIdeal.τ).loc Cert.ReferenceIdeal.main_arg0) i) :=
    fun i => (harg 0).1 ▸ (hf 0).1 i
  have hw : ∀ i, IsR (m' (((0 : Dev Cert.ReferenceIdeal.nD).tc : Thread Cert.ReferenceIdeal.nD Cert.ReferenceIdeal.τ).loc Cert.ReferenceIdeal.main_arg1) i) :=
    fun i => (harg 0).2.1 ▸ (hf 0).2.1 i
  have hK := isR_of_parts (fun d => (inp m d).k) H.k fun d i => by rw [inp_k]; exact (hf d).2.2 i
  refine ⟨attn (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4)), ?_, ?_⟩
  · refine (θ_run (Cert.KernelIdeal.defs (F := Ideal)) _ _).mono (fun r h c => ⟨?_, (h.1 c).2⟩) (run_main (F := Ideal) m g)
    exact (h.1 c).1.trans (kernel_attn H c)
  · refine (θ_run (Cert.ReferenceIdeal.defs (F := Ideal)) _ _).mono (fun r h => ⟨?_, (h 0).2⟩) (Cert.ReferenceIdeal.Value.run (F := Ideal) m' g')
    exact (h 0).1.trans (ref_attn _ _ _ _ _ hx hw hK)

end

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, frame_ideal, fun m g _ => frame_ideal m g trivial, frame_reference, fun m g _ => frame_reference m g trivial,
  trivial, algebraic⟩

end Cert.Proof

end
